-- ==== Defs.lean ====
def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_fwd [hPre_finite_fwd : Cert.Pre_finite_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_finite_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_fwd [hPre_finite_fwd : Cert.Pre_finite_fwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_finite_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2 = (fun _ => 1#1)

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_post [hPre_finite_post : Cert.Pre_finite_post.Facts] (m : (ℓ : Loc Cert.PostIdeal.nD Cert.PostIdeal.τ Cert.PostIdeal.sig) → Buf (Elt Ideal) ℓ) : Prop :=
  ∀ c : Dev Cert.PostIdeal.nD,
    (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10))).1 = (fun _ => 1#1)
    ∧ (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10))).2.1 = (fun _ => 1#1)
    ∧ (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10))).2.2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite_post [hPre_finite_post : Cert.Pre_finite_post.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10))).1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10))).2.1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10))).2.2 = (fun _ => 1#1)

def Pre_Latents (m : (ℓ : Loc Cert.Latents.nD Cert.Latents.τ Cert.Latents.sig) → Buf (Elt Bits) ℓ) : Prop :=
  True

def Pre_LatentsIdeal (m : (ℓ : Loc Cert.LatentsIdeal.nD Cert.LatentsIdeal.τ Cert.LatentsIdeal.sig) → Buf (Elt Ideal) ℓ) : Prop :=
  True

def Pre_LatentsRefIdeal (m : (ℓ : Loc Cert.LatentsRefIdeal.nD Cert.LatentsRefIdeal.τ Cert.LatentsRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_fwd [hAttnFwdIdeal : Cert.AttnFwdIdeal.Facts] [hPre_finite_fwd : Cert.Pre_finite_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_fwd [hAttnFwdRefIdeal : Cert.AttnFwdRefIdeal.Facts] [hPre_finite_fwd : Cert.Pre_finite_fwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_fwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_PostIdeal_pre_finite_post [hPostIdeal : Cert.PostIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_post m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10))
      ∧ r.2.sem = fun _ => 0)

def quiescent_PostRefIdeal_pre_finite_post [hPostRefIdeal : Cert.PostRefIdeal.Facts] [hPre_finite_post : Cert.Pre_finite_post.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite_post m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10))
      ∧ r.2.sem = fun _ => 0)

def quiescent_Latents [hLatents : Cert.Latents.Facts] : Prop :=
  ∀ (m : (ℓ : Loc Cert.Latents.nD Cert.Latents.τ Cert.Latents.sig) → Buf (Elt Bits) ℓ) (g : Dev Cert.Latents.nD → PrngReg), Pre_Latents m →
    θ_run (Cert.Latents.defs (F := Bits)) (onTc (τ := Cert.Latents.τ) (Cert.Latents.main (F := Bits))) ⟨m, fun _ => 0, g⟩ (fun r => (∀ c : Dev Cert.Latents.nD,
      r.2.mem ((c.tc : Thread Cert.Latents.nD Cert.Latents.τ).loc Cert.Latents.main_arg0) = m ((c.tc : Thread Cert.Latents.nD Cert.Latents.τ).loc Cert.Latents.main_arg0)
      ∧ r.2.mem ((c.tc : Thread Cert.Latents.nD Cert.Latents.τ).loc Cert.Latents.main_arg1) = m ((c.tc : Thread Cert.Latents.nD Cert.Latents.τ).loc Cert.Latents.main_arg1)
      ∧ r.2.mem ((c.tc : Thread Cert.Latents.nD Cert.Latents.τ).loc Cert.Latents.main_arg2) = m ((c.tc : Thread Cert.Latents.nD Cert.Latents.τ).loc Cert.Latents.main_arg2))
      ∧ r.2.sem = fun _ => 0)

def quiescent_LatentsIdeal [hLatentsIdeal : Cert.LatentsIdeal.Facts] : Prop :=
  ∀ (m : (ℓ : Loc Cert.LatentsIdeal.nD Cert.LatentsIdeal.τ Cert.LatentsIdeal.sig) → Buf (Elt Ideal) ℓ) (g : Dev Cert.LatentsIdeal.nD → PrngReg), Pre_LatentsIdeal m →
    θ_run (Cert.LatentsIdeal.defs (F := Ideal)) (onTc (τ := Cert.LatentsIdeal.τ) (Cert.LatentsIdeal.main (F := Ideal))) ⟨m, fun _ => 0, g⟩ (fun r => (∀ c : Dev Cert.LatentsIdeal.nD,
      r.2.mem ((c.tc : Thread Cert.LatentsIdeal.nD Cert.LatentsIdeal.τ).loc Cert.LatentsIdeal.main_arg0) = m ((c.tc : Thread Cert.LatentsIdeal.nD Cert.LatentsIdeal.τ).loc Cert.LatentsIdeal.main_arg0)
      ∧ r.2.mem ((c.tc : Thread Cert.LatentsIdeal.nD Cert.LatentsIdeal.τ).loc Cert.LatentsIdeal.main_arg1) = m ((c.tc : Thread Cert.LatentsIdeal.nD Cert.LatentsIdeal.τ).loc Cert.LatentsIdeal.main_arg1)
      ∧ r.2.mem ((c.tc : Thread Cert.LatentsIdeal.nD Cert.LatentsIdeal.τ).loc Cert.LatentsIdeal.main_arg2) = m ((c.tc : Thread Cert.LatentsIdeal.nD Cert.LatentsIdeal.τ).loc Cert.LatentsIdeal.main_arg2))
      ∧ r.2.sem = fun _ => 0)

def quiescent_LatentsRefIdeal [hLatentsRefIdeal : Cert.LatentsRefIdeal.Facts] : Prop :=
  ∀ (m : (ℓ : Loc Cert.LatentsRefIdeal.nD Cert.LatentsRefIdeal.τ Cert.LatentsRefIdeal.sig) → Buf (Elt Ideal) ℓ) (g : Dev Cert.LatentsRefIdeal.nD → PrngReg), Pre_LatentsRefIdeal m →
    θ_run (Cert.LatentsRefIdeal.defs (F := Ideal)) (onTc (τ := Cert.LatentsRefIdeal.τ) (Cert.LatentsRefIdeal.main (F := Ideal))) ⟨m, fun _ => 0, g⟩ (fun r => (∀ c : Dev Cert.LatentsRefIdeal.nD,
      r.2.mem ((c.tc : Thread Cert.LatentsRefIdeal.nD Cert.LatentsRefIdeal.τ).loc Cert.LatentsRefIdeal.main_arg0) = m ((c.tc : Thread Cert.LatentsRefIdeal.nD Cert.LatentsRefIdeal.τ).loc Cert.LatentsRefIdeal.main_arg0)
      ∧ r.2.mem ((c.tc : Thread Cert.LatentsRefIdeal.nD Cert.LatentsRefIdeal.τ).loc Cert.LatentsRefIdeal.main_arg1) = m ((c.tc : Thread Cert.LatentsRefIdeal.nD Cert.LatentsRefIdeal.τ).loc Cert.LatentsRefIdeal.main_arg1)
      ∧ r.2.mem ((c.tc : Thread Cert.LatentsRefIdeal.nD Cert.LatentsRefIdeal.τ).loc Cert.LatentsRefIdeal.main_arg2) = m ((c.tc : Thread Cert.LatentsRefIdeal.nD Cert.LatentsRefIdeal.τ).loc Cert.LatentsRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11)
      ∧ r.2.mem ((c.tc : Thread Cert.Prep.nD Cert.Prep.τ).loc Cert.Prep.main_arg12) = m ((c.tc : Thread Cert.Prep.nD Cert.Prep.τ).loc Cert.Prep.main_arg12)
      ∧ r.2.mem ((c.tc : Thread Cert.Prep.nD Cert.Prep.τ).loc Cert.Prep.main_arg13) = m ((c.tc : Thread Cert.Prep.nD Cert.Prep.τ).loc Cert.Prep.main_arg13))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13))
      ∧ r.2.sem = fun _ => 0)

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v53_0)) (v1 : (c : Dev Cert.InprojIdeal.nD) → Buf (Elt Ideal) ((c.tc : Thread Cert.InprojIdeal.nD Cert.InprojIdeal.τ).loc Cert.InprojIdeal.main_v53_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v53_0) = v0 c
          ∧ r.2.mem ((c.tc : Thread Cert.InprojIdeal.nD Cert.InprojIdeal.τ).loc Cert.InprojIdeal.main_v53_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v38) = v0 c
          ∧ r.2.mem ((c.tc : Thread Cert.InprojRefIdeal.nD Cert.InprojRefIdeal.τ).loc Cert.InprojRefIdeal.main_v39) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v34_0)) (v1 : (c : Dev Cert.AttnIdeal.nD) → Buf (Elt Ideal) ((c.tc : Thread Cert.AttnIdeal.nD Cert.AttnIdeal.τ).loc Cert.AttnIdeal.main_v34_1)) (v2 : (c : Dev Cert.AttnIdeal.nD) → Buf (Elt Ideal) ((c.tc : Thread Cert.AttnIdeal.nD Cert.AttnIdeal.τ).loc Cert.AttnIdeal.main_v34_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v34_0) = v0 c
          ∧ r.2.mem ((c.tc : Thread Cert.AttnIdeal.nD Cert.AttnIdeal.τ).loc Cert.AttnIdeal.main_v34_1) = v1 c
          ∧ r.2.mem ((c.tc : Thread Cert.AttnIdeal.nD Cert.AttnIdeal.τ).loc Cert.AttnIdeal.main_v34_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v65) = v0 c
          ∧ r.2.mem ((c.tc : Thread Cert.AttnRefIdeal.nD Cert.AttnRefIdeal.τ).loc Cert.AttnRefIdeal.main_v67) = v1 c
          ∧ r.2.mem ((c.tc : Thread Cert.AttnRefIdeal.nD Cert.AttnRefIdeal.τ).loc Cert.AttnRefIdeal.main_v68) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_AttnFwd_AttnFwdIdeal : Prop :=
  True

def algebraic_AttnFwdIdeal_AttnFwdRefIdeal_pre_finite_fwd [hAttnFwdIdeal : Cert.AttnFwdIdeal.Facts] [hAttnFwdRefIdeal : Cert.AttnFwdRefIdeal.Facts] [hPre_finite_fwd : Cert.Pre_finite_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_fwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v8_0)) (v1 : (c : Dev Cert.AttnFwdIdeal.nD) → Buf (Elt Ideal) ((c.tc : Thread Cert.AttnFwdIdeal.nD Cert.AttnFwdIdeal.τ).loc Cert.AttnFwdIdeal.main_v8_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v8_0) = v0 c
          ∧ r.2.mem ((c.tc : Thread Cert.AttnFwdIdeal.nD Cert.AttnFwdIdeal.τ).loc Cert.AttnFwdIdeal.main_v8_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v23) = v0 c
          ∧ r.2.mem ((c.tc : Thread Cert.AttnFwdRefIdeal.nD Cert.AttnFwdRefIdeal.τ).loc Cert.AttnFwdRefIdeal.main_v37) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_Gla_GlaIdeal : Prop :=
  True

def preserves_Post_PostIdeal : Prop :=
  True

def algebraic_PostIdeal_PostRefIdeal_pre_finite_post [hPostIdeal : Cert.PostIdeal.Facts] [hPostRefIdeal : Cert.PostRefIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_finite_post m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)) →
    ∃ (v0 : (c : Dev Cert.PostIdeal.nD) → Buf (Elt Ideal) ((c.tc : Thread Cert.PostIdeal.nD Cert.PostIdeal.τ).loc Cert.PostIdeal.main_v13_0)) (v1 : (c : Dev Cert.PostIdeal.nD) → Buf (Elt Ideal) ((c.tc : Thread Cert.PostIdeal.nD Cert.PostIdeal.τ).loc Cert.PostIdeal.main_v13_1)) (v2 : (c : Dev Cert.PostIdeal.nD) → Buf (Elt Ideal) ((c.tc : Thread Cert.PostIdeal.nD Cert.PostIdeal.τ).loc Cert.PostIdeal.main_v13_2)) (v3 : (c : Dev Cert.PostIdeal.nD) → Buf (Elt Ideal) ((c.tc : Thread Cert.PostIdeal.nD Cert.PostIdeal.τ).loc Cert.PostIdeal.main_v13_3)) (v4 : (c : Dev Cert.PostIdeal.nD) → Buf (Elt Ideal) ((c.tc : Thread Cert.PostIdeal.nD Cert.PostIdeal.τ).loc Cert.PostIdeal.main_v13_4)) (v5 : (c : Dev Cert.PostIdeal.nD) → Buf (Elt Ideal) ((c.tc : Thread Cert.PostIdeal.nD Cert.PostIdeal.τ).loc Cert.PostIdeal.main_v13_5)) (v6 : (c : Dev Cert.PostIdeal.nD) → Buf (Elt Ideal) ((c.tc : Thread Cert.PostIdeal.nD Cert.PostIdeal.τ).loc Cert.PostIdeal.main_v13_6)) (v7 : (c : Dev Cert.PostIdeal.nD) → Buf (Elt Ideal) ((c.tc : Thread Cert.PostIdeal.nD Cert.PostIdeal.τ).loc Cert.PostIdeal.main_v13_7)) (v8 : (c : Dev Cert.PostIdeal.nD) → Buf (Elt Ideal) ((c.tc : Thread Cert.PostIdeal.nD Cert.PostIdeal.τ).loc Cert.PostIdeal.main_v13_8)) (v9 : (c : Dev Cert.PostIdeal.nD) → Buf (Elt Ideal) ((c.tc : Thread Cert.PostIdeal.nD Cert.PostIdeal.τ).loc Cert.PostIdeal.main_v13_9)) (v10 : (c : Dev Cert.PostIdeal.nD) → Buf (Elt Ideal) ((c.tc : Thread Cert.PostIdeal.nD Cert.PostIdeal.τ).loc Cert.PostIdeal.main_v13_10)) (v11 : (c : Dev Cert.PostIdeal.nD) → Buf (Elt Ideal) ((c.tc : Thread Cert.PostIdeal.nD Cert.PostIdeal.τ).loc Cert.PostIdeal.main_v13_11)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v13_0) = v0 c
          ∧ r.2.mem ((c.tc : Thread Cert.PostIdeal.nD Cert.PostIdeal.τ).loc Cert.PostIdeal.main_v13_1) = v1 c
          ∧ r.2.mem ((c.tc : Thread Cert.PostIdeal.nD Cert.PostIdeal.τ).loc Cert.PostIdeal.main_v13_2) = v2 c
          ∧ r.2.mem ((c.tc : Thread Cert.PostIdeal.nD Cert.PostIdeal.τ).loc Cert.PostIdeal.main_v13_3) = v3 c
          ∧ r.2.mem ((c.tc : Thread Cert.PostIdeal.nD Cert.PostIdeal.τ).loc Cert.PostIdeal.main_v13_4) = v4 c
          ∧ r.2.mem ((c.tc : Thread Cert.PostIdeal.nD Cert.PostIdeal.τ).loc Cert.PostIdeal.main_v13_5) = v5 c
          ∧ r.2.mem ((c.tc : Thread Cert.PostIdeal.nD Cert.PostIdeal.τ).loc Cert.PostIdeal.main_v13_6) = v6 c
          ∧ r.2.mem ((c.tc : Thread Cert.PostIdeal.nD Cert.PostIdeal.τ).loc Cert.PostIdeal.main_v13_7) = v7 c
          ∧ r.2.mem ((c.tc : Thread Cert.PostIdeal.nD Cert.PostIdeal.τ).loc Cert.PostIdeal.main_v13_8) = v8 c
          ∧ r.2.mem ((c.tc : Thread Cert.PostIdeal.nD Cert.PostIdeal.τ).loc Cert.PostIdeal.main_v13_9) = v9 c
          ∧ r.2.mem ((c.tc : Thread Cert.PostIdeal.nD Cert.PostIdeal.τ).loc Cert.PostIdeal.main_v13_10) = v10 c
          ∧ r.2.mem ((c.tc : Thread Cert.PostIdeal.nD Cert.PostIdeal.τ).loc Cert.PostIdeal.main_v13_11) = v11 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v109) = v0 c
          ∧ r.2.mem ((c.tc : Thread Cert.PostRefIdeal.nD Cert.PostRefIdeal.τ).loc Cert.PostRefIdeal.main_v119) = v1 c
          ∧ r.2.mem ((c.tc : Thread Cert.PostRefIdeal.nD Cert.PostRefIdeal.τ).loc Cert.PostRefIdeal.main_v148) = v2 c
          ∧ r.2.mem ((c.tc : Thread Cert.PostRefIdeal.nD Cert.PostRefIdeal.τ).loc Cert.PostRefIdeal.main_v149) = v3 c
          ∧ r.2.mem ((c.tc : Thread Cert.PostRefIdeal.nD Cert.PostRefIdeal.τ).loc Cert.PostRefIdeal.main_v150) = v4 c
          ∧ r.2.mem ((c.tc : Thread Cert.PostRefIdeal.nD Cert.PostRefIdeal.τ).loc Cert.PostRefIdeal.main_v151) = v5 c
          ∧ r.2.mem ((c.tc : Thread Cert.PostRefIdeal.nD Cert.PostRefIdeal.τ).loc Cert.PostRefIdeal.main_v152) = v6 c
          ∧ r.2.mem ((c.tc : Thread Cert.PostRefIdeal.nD Cert.PostRefIdeal.τ).loc Cert.PostRefIdeal.main_v153) = v7 c
          ∧ r.2.mem ((c.tc : Thread Cert.PostRefIdeal.nD Cert.PostRefIdeal.τ).loc Cert.PostRefIdeal.main_v154) = v8 c
          ∧ r.2.mem ((c.tc : Thread Cert.PostRefIdeal.nD Cert.PostRefIdeal.τ).loc Cert.PostRefIdeal.main_v155) = v9 c
          ∧ r.2.mem ((c.tc : Thread Cert.PostRefIdeal.nD Cert.PostRefIdeal.τ).loc Cert.PostRefIdeal.main_v156) = v10 c
          ∧ r.2.mem ((c.tc : Thread Cert.PostRefIdeal.nD Cert.PostRefIdeal.τ).loc Cert.PostRefIdeal.main_v157) = v11 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10))

def preserves_Latents_LatentsIdeal : Prop :=
  True

def algebraic_LatentsIdeal_LatentsRefIdeal [hLatentsIdeal : Cert.LatentsIdeal.Facts] [hLatentsRefIdeal : Cert.LatentsRefIdeal.Facts] : Prop :=
  ∀ (m : (ℓ : Loc Cert.LatentsIdeal.nD Cert.LatentsIdeal.τ Cert.LatentsIdeal.sig) → Buf (Elt Ideal) ℓ) (g : Dev Cert.LatentsIdeal.nD → PrngReg)
    (m' : (ℓ : Loc Cert.LatentsRefIdeal.nD Cert.LatentsRefIdeal.τ Cert.LatentsRefIdeal.sig) → Buf (Elt Ideal) ℓ) (g' : Dev Cert.LatentsRefIdeal.nD → PrngReg), Pre_LatentsIdeal m →
    (∀ c : Dev Cert.LatentsIdeal.nD,
      m' ((c.tc : Thread Cert.LatentsRefIdeal.nD Cert.LatentsRefIdeal.τ).loc Cert.LatentsRefIdeal.main_arg0) = m ((c.tc : Thread Cert.LatentsIdeal.nD Cert.LatentsIdeal.τ).loc Cert.LatentsIdeal.main_arg0)
      ∧ m' ((c.tc : Thread Cert.LatentsRefIdeal.nD Cert.LatentsRefIdeal.τ).loc Cert.LatentsRefIdeal.main_arg1) = m ((c.tc : Thread Cert.LatentsIdeal.nD Cert.LatentsIdeal.τ).loc Cert.LatentsIdeal.main_arg1)
      ∧ m' ((c.tc : Thread Cert.LatentsRefIdeal.nD Cert.LatentsRefIdeal.τ).loc Cert.LatentsRefIdeal.main_arg2) = m ((c.tc : Thread Cert.LatentsIdeal.nD Cert.LatentsIdeal.τ).loc Cert.LatentsIdeal.main_arg2)) →
    ∃ (v0 : (c : Dev Cert.LatentsIdeal.nD) → Buf (Elt Ideal) ((c.tc : Thread Cert.LatentsIdeal.nD Cert.LatentsIdeal.τ).loc Cert.LatentsIdeal.main_v11_0)) (v1 : (c : Dev Cert.LatentsIdeal.nD) → Buf (Elt Ideal) ((c.tc : Thread Cert.LatentsIdeal.nD Cert.LatentsIdeal.τ).loc Cert.LatentsIdeal.main_v11_1)) (v2 : (c : Dev Cert.LatentsIdeal.nD) → Buf (Elt Ideal) ((c.tc : Thread Cert.LatentsIdeal.nD Cert.LatentsIdeal.τ).loc Cert.LatentsIdeal.main_v11_2)),
      θ_run (Cert.LatentsIdeal.defs (F := Ideal)) (onTc (τ := Cert.LatentsIdeal.τ) (Cert.LatentsIdeal.main (F := Ideal))) ⟨m, fun _ => 0, g⟩ (fun r => ∀ c : Dev Cert.LatentsIdeal.nD,
          r.2.mem ((c.tc : Thread Cert.LatentsIdeal.nD Cert.LatentsIdeal.τ).loc Cert.LatentsIdeal.main_v11_0) = v0 c
          ∧ r.2.mem ((c.tc : Thread Cert.LatentsIdeal.nD Cert.LatentsIdeal.τ).loc Cert.LatentsIdeal.main_v11_1) = v1 c
          ∧ r.2.mem ((c.tc : Thread Cert.LatentsIdeal.nD Cert.LatentsIdeal.τ).loc Cert.LatentsIdeal.main_v11_2) = v2 c
          ∧ r.2.mem ((c.tc : Thread Cert.LatentsIdeal.nD Cert.LatentsIdeal.τ).loc Cert.LatentsIdeal.main_arg0) = m ((c.tc : Thread Cert.LatentsIdeal.nD Cert.LatentsIdeal.τ).loc Cert.LatentsIdeal.main_arg0)
          ∧ r.2.mem ((c.tc : Thread Cert.LatentsIdeal.nD Cert.LatentsIdeal.τ).loc Cert.LatentsIdeal.main_arg1) = m ((c.tc : Thread Cert.LatentsIdeal.nD Cert.LatentsIdeal.τ).loc Cert.LatentsIdeal.main_arg1)
          ∧ r.2.mem ((c.tc : Thread Cert.LatentsIdeal.nD Cert.LatentsIdeal.τ).loc Cert.LatentsIdeal.main_arg2) = m ((c.tc : Thread Cert.LatentsIdeal.nD Cert.LatentsIdeal.τ).loc Cert.LatentsIdeal.main_arg2))
      ∧ θ_run (Cert.LatentsRefIdeal.defs (F := Ideal)) (onTc (τ := Cert.LatentsRefIdeal.τ) (Cert.LatentsRefIdeal.main (F := Ideal))) ⟨m', fun _ => 0, g'⟩ (fun r => ∀ c : Dev Cert.LatentsRefIdeal.nD,
          r.2.mem ((c.tc : Thread Cert.LatentsRefIdeal.nD Cert.LatentsRefIdeal.τ).loc Cert.LatentsRefIdeal.main_v21) = v0 c
          ∧ r.2.mem ((c.tc : Thread Cert.LatentsRefIdeal.nD Cert.LatentsRefIdeal.τ).loc Cert.LatentsRefIdeal.main_v22) = v1 c
          ∧ r.2.mem ((c.tc : Thread Cert.LatentsRefIdeal.nD Cert.LatentsRefIdeal.τ).loc Cert.LatentsRefIdeal.main_v30) = v2 c
          ∧ r.2.mem ((c.tc : Thread Cert.LatentsRefIdeal.nD Cert.LatentsRefIdeal.τ).loc Cert.LatentsRefIdeal.main_arg0) = m' ((c.tc : Thread Cert.LatentsRefIdeal.nD Cert.LatentsRefIdeal.τ).loc Cert.LatentsRefIdeal.main_arg0)
          ∧ r.2.mem ((c.tc : Thread Cert.LatentsRefIdeal.nD Cert.LatentsRefIdeal.τ).loc Cert.LatentsRefIdeal.main_arg1) = m' ((c.tc : Thread Cert.LatentsRefIdeal.nD Cert.LatentsRefIdeal.τ).loc Cert.LatentsRefIdeal.main_arg1)
          ∧ r.2.mem ((c.tc : Thread Cert.LatentsRefIdeal.nD Cert.LatentsRefIdeal.τ).loc Cert.LatentsRefIdeal.main_arg2) = m' ((c.tc : Thread Cert.LatentsRefIdeal.nD Cert.LatentsRefIdeal.τ).loc Cert.LatentsRefIdeal.main_arg2))

def preserves_Prep_PrepIdeal : Prop :=
  True

def Claim : Prop :=
  ∃ (hInproj : Cert.Inproj.Facts) (hInprojIdeal : Cert.InprojIdeal.Facts) (hInprojRefIdeal : Cert.InprojRefIdeal.Facts) (hAttn : Cert.Attn.Facts) (hAttnIdeal : Cert.AttnIdeal.Facts) (hAttnRefIdeal : Cert.AttnRefIdeal.Facts) (hAttnFwd : Cert.AttnFwd.Facts) (hAttnFwdIdeal : Cert.AttnFwdIdeal.Facts) (hAttnFwdRefIdeal : Cert.AttnFwdRefIdeal.Facts) (hGla : Cert.Gla.Facts) (hGlaIdeal : Cert.GlaIdeal.Facts) (hPost : Cert.Post.Facts) (hPostIdeal : Cert.PostIdeal.Facts) (hPostRefIdeal : Cert.PostRefIdeal.Facts) (hLatents : Cert.Latents.Facts) (hLatentsIdeal : Cert.LatentsIdeal.Facts) (hLatentsRefIdeal : Cert.LatentsRefIdeal.Facts) (hPrep : Cert.Prep.Facts) (hPrepIdeal : Cert.PrepIdeal.Facts) (hPre_finite_attn : Cert.Pre_finite_attn.Facts) (hPre_finite_fwd : Cert.Pre_finite_fwd.Facts) (hPre_finite_post : Cert.Pre_finite_post.Facts),
    quiescent_Inproj (hInproj := hInproj)
    ∧ quiescent_InprojIdeal (hInprojIdeal := hInprojIdeal)
    ∧ quiescent_InprojRefIdeal (hInprojRefIdeal := hInprojRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_AttnFwd (hAttnFwd := hAttnFwd)
    ∧ quiescent_AttnFwdIdeal (hAttnFwdIdeal := hAttnFwdIdeal)
    ∧ quiescent_AttnFwdIdeal_pre_finite_fwd (hAttnFwdIdeal := hAttnFwdIdeal) (hPre_finite_fwd := hPre_finite_fwd)
    ∧ quiescent_AttnFwdRefIdeal (hAttnFwdRefIdeal := hAttnFwdRefIdeal)
    ∧ quiescent_AttnFwdRefIdeal_pre_finite_fwd (hAttnFwdRefIdeal := hAttnFwdRefIdeal) (hPre_finite_fwd := hPre_finite_fwd)
    ∧ quiescent_Gla (hGla := hGla)
    ∧ quiescent_GlaIdeal (hGlaIdeal := hGlaIdeal)
    ∧ quiescent_Post (hPost := hPost)
    ∧ quiescent_PostIdeal (hPostIdeal := hPostIdeal)
    ∧ quiescent_PostIdeal_pre_finite_post (hPostIdeal := hPostIdeal) (hPre_finite_post := hPre_finite_post)
    ∧ quiescent_PostRefIdeal (hPostRefIdeal := hPostRefIdeal)
    ∧ quiescent_PostRefIdeal_pre_finite_post (hPostRefIdeal := hPostRefIdeal) (hPre_finite_post := hPre_finite_post)
    ∧ quiescent_Latents (hLatents := hLatents)
    ∧ quiescent_LatentsIdeal (hLatentsIdeal := hLatentsIdeal)
    ∧ quiescent_LatentsRefIdeal (hLatentsRefIdeal := hLatentsRefIdeal)
    ∧ quiescent_Prep (hPrep := hPrep)
    ∧ quiescent_PrepIdeal (hPrepIdeal := hPrepIdeal)
    ∧ preserves_Inproj_InprojIdeal
    ∧ algebraic_InprojIdeal_InprojRefIdeal (hInprojIdeal := hInprojIdeal) (hInprojRefIdeal := hInprojRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_AttnFwd_AttnFwdIdeal
    ∧ algebraic_AttnFwdIdeal_AttnFwdRefIdeal_pre_finite_fwd (hAttnFwdIdeal := hAttnFwdIdeal) (hAttnFwdRefIdeal := hAttnFwdRefIdeal) (hPre_finite_fwd := hPre_finite_fwd)
    ∧ preserves_Gla_GlaIdeal
    ∧ preserves_Post_PostIdeal
    ∧ algebraic_PostIdeal_PostRefIdeal_pre_finite_post (hPostIdeal := hPostIdeal) (hPostRefIdeal := hPostRefIdeal) (hPre_finite_post := hPre_finite_post)
    ∧ preserves_Latents_LatentsIdeal
    ∧ algebraic_LatentsIdeal_LatentsRefIdeal (hLatentsIdeal := hLatentsIdeal) (hLatentsRefIdeal := hLatentsRefIdeal)
    ∧ preserves_Prep_PrepIdeal
-- ==== Pre_finite_attn.lean ====
abbrev S2048x8x96 : Shape := ⟨3, ![2048, 8, 96]⟩
abbrev S2048x8x64 : Shape := ⟨3, ![2048, 8, 64]⟩
abbrev S_ : Shape := ⟨0, ![]⟩

class Facts : Prop where
  bcast_S_S2048x8x96 : S_.BroadcastsInDim S2048x8x96 (![] : Fin 0 → Fin S2048x8x96.rank)
  bcast_S_S2048x8x64 : S_.BroadcastsInDim S2048x8x64 (![] : Fin 0 → Fin S2048x8x64.rank)

variable [Facts]

def fn {F : FTy → Type} [FloatOps F] (main_arg0 : FVec F S2048x8x96 .f32) (main_arg1 : FVec F S2048x8x96 .f32) (main_arg2 : FVec F S2048x8x64 .f32) (main_arg3 : FVec F S2048x8x64 .f32) : IVec S2048x8x96 1 × IVec S2048x8x96 1 × IVec S2048x8x64 1 × IVec S2048x8x64 1 :=
  let main_v0 : FVec F S2048x8x96 .f32 := Host.absf main_arg0
  let main_cst : FVec F S_ .f32 := constant S_ .f32 0x7F800000#32
  let main_v1 : FVec F S2048x8x96 .f32 := broadcastInDim S2048x8x96 ![] bcast_S_S2048x8x96 main_cst
  let main_v2 : IVec S2048x8x96 1 := cmpf .olt main_v0 main_v1
  let main_v3 : FVec F S2048x8x96 .f32 := Host.absf main_arg1
  let main_cst_0 : FVec F S_ .f32 := constant S_ .f32 0x7F800000#32
  let main_v4 : FVec F S2048x8x96 .f32 := broadcastInDim S2048x8x96 ![] bcast_S_S2048x8x96 main_cst_0
  let main_v5 : IVec S2048x8x96 1 := cmpf .olt main_v3 main_v4
  let main_v6 : FVec F S2048x8x64 .f32 := Host.absf main_arg2
  let main_cst_1 : FVec F S_ .f32 := constant S_ .f32 0x7F800000#32
  let main_v7 : FVec F S2048x8x64 .f32 := broadcastInDim S2048x8x64 ![] bcast_S_S2048x8x64 main_cst_1
  let main_v8 : IVec S2048x8x64 1 := cmpf .olt main_v6 main_v7
  let main_v9 : FVec F S2048x8x64 .f32 := Host.absf main_arg3
  let main_cst_2 : FVec F S_ .f32 := constant S_ .f32 0x7F800000#32
  let main_v10 : FVec F S2048x8x64 .f32 := broadcastInDim S2048x8x64 ![] bcast_S_S2048x8x64 main_cst_2
  let main_v11 : IVec S2048x8x64 1 := cmpf .olt main_v9 main_v10
  (main_v2, main_v5, main_v8, main_v11)
-- ==== Pre_finite_fwd.lean ====
abbrev S2048x8x96 : Shape := ⟨3, ![2048, 8, 96]⟩
abbrev S2048x8x64 : Shape := ⟨3, ![2048, 8, 64]⟩
abbrev S_ : Shape := ⟨0, ![]⟩

class Facts : Prop where
  bcast_S_S2048x8x96 : S_.BroadcastsInDim S2048x8x96 (![] : Fin 0 → Fin S2048x8x96.rank)

variable [Facts]

def fn {F : FTy → Type} [FloatOps F] (main_arg0 : FVec F S2048x8x96 .f32) (main_arg1 : FVec F S2048x8x96 .f32) (main_arg2 : FVec F S2048x8x64 .f32) : IVec S2048x8x96 1 × IVec S2048x8x96 1 :=
  let main_v0 : FVec F S2048x8x96 .f32 := Host.absf main_arg0
  let main_cst : FVec F S_ .f32 := constant S_ .f32 0x7F800000#32
  let main_v1 : FVec F S2048x8x96 .f32 := broadcastInDim S2048x8x96 ![] bcast_S_S2048x8x96 main_cst
  let main_v2 : IVec S2048x8x96 1 := cmpf .olt main_v0 main_v1
  let main_v3 : FVec F S2048x8x96 .f32 := Host.absf main_arg1
  let main_cst_0 : FVec F S_ .f32 := constant S_ .f32 0x7F800000#32
  let main_v4 : FVec F S2048x8x96 .f32 := broadcastInDim S2048x8x96 ![] bcast_S_S2048x8x96 main_cst_0
  let main_v5 : IVec S2048x8x96 1 := cmpf .olt main_v3 main_v4
  (main_v2, main_v5)
-- ==== Pre_finite_post.lean ====
abbrev S2048x512 : Shape := ⟨2, ![2048, 512]⟩
abbrev S2048x1024 : Shape := ⟨2, ![2048, 1024]⟩
abbrev S1024x6320 : Shape := ⟨2, ![1024, 6320]⟩
abbrev S256 : Shape := ⟨1, ![256]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S2048x512 .f32) (main_arg1 : FVec F S2048x1024 .f32) (main_arg2 : FVec F S2048x1024 .f32) (main_arg3 : FVec F S2048x1024 .f32) (main_arg4 : FVec F S2048x1024 .f32) (main_arg5 : FVec F S1024x6320 .f32) (main_arg6 : FVec F S256 .f32) (main_arg7 : FVec F S1024 .f32) (main_arg8 : FVec F S512x1024 .f32) (main_arg9 : FVec F S1024x1024 .f32) (main_arg10 : FVec F S1024x1024 .f32) : IVec S2048x1024 1 × IVec S1024 1 × IVec S1024x1024 1 :=
  let main_v0 : FVec F S2048x1024 .f32 := Host.absf main_arg4
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024 .f32 := Host.absf main_arg7
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1024 .f32 := Host.absf main_arg10
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  (main_v2, main_v5, main_v8)
-- ==== Inproj.lean ====
abbrev S2048x1024 : Shape := ⟨2, ![2048, 1024]⟩
abbrev S1024 : Shape := ⟨1, ![1024]⟩
abbrev S1024x6320 : Shape := ⟨2, ![1024, 6320]⟩
abbrev S2048x6320 : Shape := ⟨2, ![2048, 6320]⟩
abbrev S_ : Shape := ⟨0, ![]⟩
abbrev S2048 : Shape := ⟨1, ![2048]⟩
abbrev S2048x1 : Shape := ⟨2, ![2048, 1]⟩
abbrev S2048x512 : Shape := ⟨2, ![2048, 512]⟩
abbrev S2048x2048 : Shape := ⟨2, ![2048, 2048]⟩
abbrev S2048x3584 : Shape := ⟨2, ![2048, 3584]⟩
abbrev S2048x384 : Shape := ⟨2, ![2048, 384]⟩
abbrev S2048x128 : Shape := ⟨2, ![2048, 128]⟩
abbrev S2048x256 : Shape := ⟨2, ![2048, 256]⟩
abbrev S2048x64 : Shape := ⟨2, ![2048, 64]⟩
abbrev S2048x32 : Shape := ⟨2, ![2048, 32]⟩
abbrev S2048x16 : Shape := ⟨2, ![2048, 16]⟩
abbrev S2048x896 : Shape := ⟨2, ![2048, 896]⟩
abbrev S1024x1024 : Shape := ⟨2, ![1024, 1024]⟩
abbrev S1024x512 : Shape := ⟨2, ![1024, 512]⟩
abbrev S1024x2048 : Shape := ⟨2, ![1024, 2048]⟩
abbrev S1024x3584 : Shape := ⟨2, ![1024, 3584]⟩
abbrev S3584x1024 : Shape := ⟨2, ![3584, 1024]⟩
abbrev S1024x384 : Shape := ⟨2, ![1024, 384]⟩
abbrev S1024x128 : Shape := ⟨2, ![1024, 128]⟩
abbrev S1024x256 : Shape := ⟨2, ![1024, 256]⟩
abbrev S1024x64 : Shape := ⟨2, ![1024, 64]⟩
abbrev S1024x32 : Shape := ⟨2, ![1024, 32]⟩
abbrev S1024x16 : Shape := ⟨2, ![1024, 16]⟩
abbrev S1024x896 : Shape := ⟨2, ![1024, 896]⟩
abbrev S896x1024 : Shape := ⟨2, ![896, 1024]⟩
abbrev S1x1024 : Shape := ⟨2, ![1, 1024]⟩
abbrev S8x128 : Shape := ⟨2, ![8, 128]⟩
abbrev S256x2048 : Shape := ⟨2, ![256, 2048]⟩
abbrev S256x3584 : Shape := ⟨2, ![256, 3584]⟩
abbrev S256x896 : Shape := ⟨2, ![256, 896]⟩
abbrev S256x1024 : Shape := ⟨2, ![256, 1024]⟩
abbrev S256x1 : Shape := ⟨2, ![256, 1]⟩
abbrev S256 : Shape := ⟨1, ![256]⟩

abbrev nBuf : Space → Nat
  | .hbm => 70
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x6320, .f32⟩
  | .hbm, ⟨3, _⟩ => ⟨S2048x6320, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x512, .f32⟩
  | .hbm, ⟨18, _⟩ => ⟨S2048x512, .f32⟩
  | .hbm, ⟨19, _⟩ => ⟨S2048x2048, .f32⟩
  | .hbm, ⟨20, _⟩ => ⟨S2048x2048, .bf16⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x512, .f32⟩
  | .hbm, ⟨25, _⟩ => ⟨S2048x3584, .f32⟩
  | .hbm, ⟨26, _⟩ => ⟨S2048x3584, .bf16⟩
  | .hbm, ⟨27, _⟩ => ⟨S2048x384, .f32⟩
  | .hbm, ⟨28, _⟩ => ⟨S_, .f32⟩
  | .hbm, ⟨29, _⟩ => ⟨S2048x128, .f32⟩
  | .hbm, ⟨30, _⟩ => ⟨S2048x256, .f32⟩
  | .hbm, ⟨31, _⟩ => ⟨S_, .f32⟩
  | .hbm, ⟨32, _⟩ => ⟨S2048x64, .f32⟩
  | .hbm, ⟨33, _⟩ => ⟨S2048x32, .f32⟩
  | .hbm, ⟨34, _⟩ => ⟨S2048x16, .f32⟩
  | .hbm, ⟨35, _⟩ => ⟨S_, .f32⟩
  | .hbm, ⟨36, _⟩ => ⟨S2048x16, .f32⟩
  | .hbm, ⟨37, _⟩ => ⟨S2048x896, .f32⟩
  | .hbm, ⟨38, _⟩ => ⟨S2048x896, .bf16⟩
  | .hbm, ⟨39, _⟩ => ⟨S1024x1024, .f32⟩
  | .hbm, ⟨40, _⟩ => ⟨S1024x512, .f32⟩
  | .hbm, ⟨41, _⟩ => ⟨S1024x512, .f32⟩
  | .hbm, ⟨42, _⟩ => ⟨S1024x2048, .f32⟩
  | .hbm, ⟨43, _⟩ => ⟨S1024x2048, .bf16⟩
  | .hbm, ⟨44, _⟩ => ⟨S2048x1024, .bf16⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S1024x512, .f32⟩
  | .hbm, ⟨49, _⟩ => ⟨S1024x3584, .f32⟩
  | .hbm, ⟨50, _⟩ => ⟨S1024x3584, .bf16⟩
  | .hbm, ⟨51, _⟩ => ⟨S3584x1024, .bf16⟩
  | .hbm, ⟨52, _⟩ => ⟨S1024x384, .f32⟩
  | .hbm, ⟨53, _⟩ => ⟨S_, .f32⟩
  | .hbm, ⟨54, _⟩ => ⟨S1024x128, .f32⟩
  | .hbm, ⟨55, _⟩ => ⟨S1024x256, .f32⟩
  | .hbm, ⟨56, _⟩ => ⟨S_, .f32⟩
  | .hbm, ⟨57, _⟩ => ⟨S1024x64, .f32⟩
  | .hbm, ⟨58, _⟩ => ⟨S1024x32, .f32⟩
  | .hbm, ⟨59, _⟩ => ⟨S1024x16, .f32⟩
  | .hbm, ⟨60, _⟩ => ⟨S_, .f32⟩
  | .hbm, ⟨61, _⟩ => ⟨S1024x16, .f32⟩
  | .hbm, ⟨62, _⟩ => ⟨S1024x896, .f32⟩
  | .hbm, ⟨63, _⟩ => ⟨S1024x896, .bf16⟩
  | .hbm, ⟨64, _⟩ => ⟨S896x1024, .bf16⟩
  | .hbm, ⟨65, _⟩ => ⟨S1x1024, .f32⟩
  | .hbm, ⟨66, _⟩ => ⟨S_, .f32⟩
  | .hbm, ⟨67, _⟩ => ⟨S8x128, .f32⟩
  | .hbm, ⟨68, _⟩ => ⟨S2048x1024, .f32⟩
  | .hbm, ⟨69, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S256x3584, .bf16⟩
  | .local _ .vmem, ⟨3, _⟩ => ⟨S256x3584, .bf16⟩
  | .local _ .vmem, ⟨4, _⟩ => ⟨S256x896, .bf16⟩
  | .local _ .vmem, ⟨5, _⟩ => ⟨S256x896, .bf16⟩
  | .local _ .vmem, ⟨6, _⟩ => ⟨S2048x1024, .bf16⟩
  | .local _ .vmem, ⟨7, _⟩ => ⟨S3584x1024, .bf16⟩
  | .local _ .vmem, ⟨8, _⟩ => ⟨S896x1024, .bf16⟩
  | .local _ .vmem, ⟨9, _⟩ => ⟨S256x1024, .f32⟩
  | .local _ .vmem, ⟨10, _⟩ => ⟨S256x1024, .f32⟩
  | .local _ .vmem, ⟨11, _⟩ => ⟨S256x1, .f32⟩
  | .local _ .vmem, ⟨12, _⟩ => ⟨S256x1, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53_0 : Ref sig .tc := ⟨.hbm, 68, rfl⟩
abbrev main_v53_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3584x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S896x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InprojRefIdeal.lean ====
abbrev S2048x1024 : Shape := ⟨2, ![2048, 1024]⟩
abbrev S1024 : Shape := ⟨1, ![1024]⟩
abbrev S1024x6320 : Shape := ⟨2, ![1024, 6320]⟩
abbrev S2048x6320 : Shape := ⟨2, ![2048, 6320]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x6320, .f32⟩
  | .hbm, ⟨3, _⟩ => ⟨S2048x6320, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x6320, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Attn.lean ====
abbrev S2048x8x96 : Shape := ⟨3, ![2048, 8, 96]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x64x2048 : Shape := ⟨3, ![8, 64, 2048]⟩
abbrev S2048x512 : Shape := ⟨2, ![2048, 512]⟩
abbrev S2048x8x128 : Shape := ⟨3, ![2048, 8, 128]⟩
abbrev S2048x1024 : Shape := ⟨2, ![2048, 1024]⟩
abbrev S8x128 : Shape := ⟨2, ![8, 128]⟩
abbrev S256x256 : Shape := ⟨2, ![256, 256]⟩
abbrev S2048x256 : Shape := ⟨2, ![2048, 256]⟩
abbrev S2048x128 : Shape := ⟨2, ![2048, 128]⟩
abbrev S256x128 : Shape := ⟨2, ![256, 128]⟩
abbrev S2x256x1 : Shape := ⟨3, ![2, 256, 1]⟩
abbrev S256 : Shape := ⟨1, ![256]⟩
abbrev S256x1 : Shape := ⟨2, ![256, 1]⟩
abbrev S1x256x1 : Shape := ⟨3, ![1, 256, 1]⟩
abbrev S256x512 : Shape := ⟨2, ![256, 512]⟩
abbrev S512x128 : Shape := ⟨2, ![512, 128]⟩
abbrev S256x768 : Shape := ⟨2, ![256, 768]⟩
abbrev S768x128 : Shape := ⟨2, ![768, 128]⟩
abbrev S256x1024 : Shape := ⟨2, ![256, 1024]⟩
abbrev S1024x128 : Shape := ⟨2, ![1024, 128]⟩
abbrev S256x1280 : Shape := ⟨2, ![256, 1280]⟩
abbrev S1280x128 : Shape := ⟨2, ![1280, 128]⟩
abbrev S256x1536 : Shape := ⟨2, ![256, 1536]⟩
abbrev S1536x128 : Shape := ⟨2, ![1536, 128]⟩
abbrev S256x1792 : Shape := ⟨2, ![256, 1792]⟩
abbrev S1792x128 : Shape := ⟨2, ![1792, 128]⟩
abbrev S256x2048 : Shape := ⟨2, ![256, 2048]⟩

abbrev nBuf : Space → Nat
  | .hbm => 53
  | .vmem => 18
  | .smem => 0
  | _ => 0

abbrev bufTy : (tb : Table) → Fin (tcTables nBuf tb) → BufTy
  | .hbm, ⟨0, _⟩ => ⟨S2048x8x96, .f32⟩
  | .hbm, ⟨1, _⟩ => ⟨S2048x8x96, .f32⟩
  | .hbm, ⟨2, _⟩ => ⟨S2048x8x64, .f32⟩
  | .hbm, ⟨3, _⟩ => ⟨S2048x8x64, .f32⟩
  | .hbm, ⟨4, _⟩ => ⟨S8x2048x2048, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S8x2048x2048, .i1⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S8x64x2048, .f32⟩
  | .hbm, ⟨31, _⟩ => ⟨S2048x8x64, .f32⟩
  | .hbm, ⟨32, _⟩ => ⟨S2048x512, .f32⟩
  | .hbm, ⟨33, _⟩ => ⟨S_, .i32⟩
  | .hbm, ⟨34, _⟩ => ⟨S_, .f32⟩
  | .hbm, ⟨35, _⟩ => ⟨S2048x8x128, .f32⟩
  | .hbm, ⟨36, _⟩ => ⟨S2048x1024, .f32⟩
  | .hbm, ⟨37, _⟩ => ⟨S2048x1024, .bf16⟩
  | .hbm, ⟨38, _⟩ => ⟨S_, .i32⟩
  | .hbm, ⟨39, _⟩ => ⟨S_, .f32⟩
  | .hbm, ⟨40, _⟩ => ⟨S2048x8x128, .f32⟩
  | .hbm, ⟨41, _⟩ => ⟨S2048x1024, .f32⟩
  | .hbm, ⟨42, _⟩ => ⟨S2048x1024, .bf16⟩
  | .hbm, ⟨43, _⟩ => ⟨S2048x512, .f32⟩
  | .hbm, ⟨44, _⟩ => ⟨S2048x512, .bf16⟩
  | .hbm, ⟨45, _⟩ => ⟨S2048x512, .f32⟩
  | .hbm, ⟨46, _⟩ => ⟨S8x2048x1, .f32⟩
  | .hbm, ⟨47, _⟩ => ⟨S8x2048x1, .f32⟩
  | .hbm, ⟨48, _⟩ => ⟨S_, .f32⟩
  | .hbm, ⟨49, _⟩ => ⟨S8x128, .f32⟩
  | .hbm, ⟨50, _⟩ => ⟨S2048x1024, .bf16⟩
  | .hbm, ⟨51, _⟩ => ⟨S2048x1024, .f32⟩
  | .hbm, ⟨52, _⟩ => ⟨S2048x512, .f32⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S2x256x1, .f32⟩
  | .local _ .vmem, ⟨11, _⟩ => ⟨S2x256x1, .f32⟩
  | .local _ .vmem, ⟨12, _⟩ => ⟨S256x256, .bf16⟩
  | .local _ .vmem, ⟨13, _⟩ => ⟨S256x256, .bf16⟩
  | .local _ .vmem, ⟨14, _⟩ => ⟨S2048x256, .f32⟩
  | .local _ .vmem, ⟨15, _⟩ => ⟨S2048x256, .f32⟩
  | .local _ .vmem, ⟨16, _⟩ => ⟨S2048x128, .f32⟩
  | .local _ .vmem, ⟨17, _⟩ => ⟨S2048x128, .f32⟩
  | _, _ => ⟨S2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_call2_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34_0 : Ref sig .tc := ⟨.hbm, 50, rfl⟩
abbrev main_v34_1 : Ref sig .tc := ⟨.hbm, 51, rfl⟩
abbrev main_v34_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg1 : BitVec 32 := BitVec.ofNat 32 (i 1).val
  let c4_i32 : BitVec 32 := 4#32
  let v15 : BitVec 1 := Scalar.cmpi .eq arg1 c4_i32
  let v16 : BitVec 32 := Scalar.extui v15
  let c0_i32_6 : BitVec 32 := 0#32
  let v17 : BitVec 1 := Scalar.cmpi .ne v16 c0_i32_6
  v17

def k0_cond7 (i : grid0.Coords) : BitVec 1 :=
  let arg1 : BitVec 32 := BitVec.ofNat 32 (i 1).val
  let c5_i32 : BitVec 32 := 5#32
  let v18 : BitVec 1 := Scalar.cmpi .eq arg1 c5_i32
  let v19 : BitVec 32 := Scalar.extui v18
  let c0_i32_7 : BitVec 32 := 0#32
  let v20 : BitVec 1 := Scalar.cmpi .ne v19 c0_i32_7
  v20

def k0_cond8 (i : grid0.Coords) : BitVec 1 :=
  let arg1 : BitVec 32 := BitVec.ofNat 32 (i 1).val
  let c6_i32 : BitVec 32 := 6#32
  let v21 : BitVec 1 := Scalar.cmpi .eq arg1 c6_i32
  let v22 : BitVec 32 := Scalar.extui v21
  let c0_i32_8 : BitVec 32 := 0#32
  let v23 : BitVec 1 := Scalar.cmpi .ne v22 c0_i32_8
  v23

def k0_cond9 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_9 : BitVec 32 := 0#32
  let v26 : BitVec 1 := Scalar.cmpi .ne v25 c0_i32_9
  v26

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnRefIdeal.lean ====
abbrev S2048x8x96 : Shape := ⟨3, ![2048, 8, 96]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x64x2048 : Shape := ⟨3, ![8, 64, 2048]⟩
abbrev S8x2048x96 : Shape := ⟨3, ![8, 2048, 96]⟩
abbrev S2048x8x128 : Shape := ⟨3, ![2048, 8, 128]⟩
abbrev S2048x1024 : Shape := ⟨2, ![2048, 1024]⟩
abbrev S2048x512 : Shape := ⟨2, ![2048, 512]⟩

abbrev nBuf : Space → Nat
  | .hbm => 99
  | .vmem => 0
  | .smem => 0
  | _ => 0

abbrev bufTy : (tb : Table) → Fin (tcTables nBuf tb) → BufTy
  | .hbm, ⟨0, _⟩ => ⟨S2048x8x96, .f32⟩
  | .hbm, ⟨1, _⟩ => ⟨S2048x8x96, .f32⟩
  | .hbm, ⟨2, _⟩ => ⟨S2048x8x64, .f32⟩
  | .hbm, ⟨3, _⟩ => ⟨S2048x8x64, .f32⟩
  | .hbm, ⟨4, _⟩ => ⟨S8x2048x2048, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S8x2048x2048, .i1⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .i1⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .i1⟩
  | .hbm, ⟨35, _⟩ => ⟨S_, .f32⟩
  | .hbm, ⟨36, _⟩ => ⟨S8x2048, .f32⟩
  | .hbm, ⟨37, _⟩ => ⟨S8x2048, .i1⟩
  | .hbm, ⟨38, _⟩ => ⟨S_, .f32⟩
  | .hbm, ⟨39, _⟩ => ⟨S8x2048, .f32⟩
  | .hbm, ⟨40, _⟩ => ⟨S_, .f32⟩
  | .hbm, ⟨41, _⟩ => ⟨S8x2048, .f32⟩
  | .hbm, ⟨42, _⟩ => ⟨S_, .f32⟩
  | .hbm, ⟨43, _⟩ => ⟨S8x2048, .f32⟩
  | .hbm, ⟨44, _⟩ => ⟨S8x2048, .f32⟩
  | .hbm, ⟨45, _⟩ => ⟨S8x2048, .f32⟩
  | .hbm, ⟨46, _⟩ => ⟨S8x2048x1, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S_, .f32⟩
  | .hbm, ⟨51, _⟩ => ⟨S8x2048, .f32⟩
  | .hbm, ⟨52, _⟩ => ⟨S8x2048x1, .f32⟩
  | .hbm, ⟨53, _⟩ => ⟨S8x2048x2048, .f32⟩
  | .hbm, ⟨54, _⟩ => ⟨S8x2048x2048, .f32⟩
  | .hbm, ⟨55, _⟩ => ⟨S8x2048x1, .f32⟩
  | .hbm, ⟨56, _⟩ => ⟨S_, .f32⟩
  | .hbm, ⟨57, _⟩ => ⟨S8x2048x1, .f32⟩
  | .hbm, ⟨58, _⟩ => ⟨S8x2048x1, .f32⟩
  | .hbm, ⟨59, _⟩ => ⟨S8x64x2048, .f32⟩
  | .hbm, ⟨60, _⟩ => ⟨S2048x8x64, .f32⟩
  | .hbm, ⟨61, _⟩ => ⟨S8x64x2048, .f32⟩
  | .hbm, ⟨62, _⟩ => ⟨S8x2048x2048, .f32⟩
  | .hbm, ⟨63, _⟩ => ⟨S8x64x2048, .f32⟩
  | .hbm, ⟨64, _⟩ => ⟨S2048x8x64, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S_, .f32⟩
  | .hbm, ⟨69, _⟩ => ⟨S8x2048, .f32⟩
  | .hbm, ⟨70, _⟩ => ⟨S8x2048x1, .f32⟩
  | .hbm, ⟨71, _⟩ => ⟨S8x2048x1, .f32⟩
  | .hbm, ⟨72, _⟩ => ⟨S8x2048x2048, .f32⟩
  | .hbm, ⟨73, _⟩ => ⟨S8x2048x2048, .f32⟩
  | .hbm, ⟨74, _⟩ => ⟨S_, .f32⟩
  | .hbm, ⟨75, _⟩ => ⟨S8x2048, .f32⟩
  | .hbm, ⟨76, _⟩ => ⟨S8x2048x2048, .f32⟩
  | .hbm, ⟨77, _⟩ => ⟨S8x2048x2048, .f32⟩
  | .hbm, ⟨78, _⟩ => ⟨S8x2048x2048, .f32⟩
  | .hbm, ⟨79, _⟩ => ⟨S_, .f32⟩
  | .hbm, ⟨80, _⟩ => ⟨S8x2048x2048, .f32⟩
  | .hbm, ⟨81, _⟩ => ⟨S8x2048x2048, .f32⟩
  | .hbm, ⟨82, _⟩ => ⟨S_, .f32⟩
  | .hbm, ⟨83, _⟩ => ⟨S8x2048x2048, .f32⟩
  | .hbm, ⟨84, _⟩ => ⟨S8x2048x2048, .f32⟩
  | .hbm, ⟨85, _⟩ => ⟨S8x2048x96, .f32⟩
  | .hbm, ⟨86, _⟩ => ⟨S2048x8x96, .f32⟩
  | .hbm, ⟨87, _⟩ => ⟨S8x2048x96, .f32⟩
  | .hbm, ⟨88, _⟩ => ⟨S2048x8x96, .f32⟩
  | .hbm, ⟨89, _⟩ => ⟨S_, .i32⟩
  | .hbm, ⟨90, _⟩ => ⟨S_, .f32⟩
  | .hbm, ⟨91, _⟩ => ⟨S2048x8x128, .f32⟩
  | .hbm, ⟨92, _⟩ => ⟨S2048x1024, .f32⟩
  | .hbm, ⟨93, _⟩ => ⟨S2048x1024, .bf16⟩
  | .hbm, ⟨94, _⟩ => ⟨S_, .i32⟩
  | .hbm, ⟨95, _⟩ => ⟨S_, .f32⟩
  | .hbm, ⟨96, _⟩ => ⟨S2048x8x128, .f32⟩
  | .hbm, ⟨97, _⟩ => ⟨S2048x1024, .f32⟩
  | .hbm, ⟨98, _⟩ => ⟨S2048x512, .f32⟩
  | _, _ => ⟨S2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c : Ref sig .tc := ⟨.hbm, 89, rfl⟩
abbrev main_call2_v0 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_call3_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]
-- ==== AttnFwd.lean ====
abbrev S2048x8x96 : Shape := ⟨3, ![2048, 8, 96]⟩
abbrev S2048x8x64 : Shape := ⟨3, ![2048, 8, 64]⟩
abbrev S_ : Shape := ⟨0, ![]⟩
abbrev S2048x8x128 : Shape := ⟨3, ![2048, 8, 128]⟩
abbrev S2048x1024 : Shape := ⟨2, ![2048, 1024]⟩
abbrev S2048x512 : Shape := ⟨2, ![2048, 512]⟩
abbrev S8x2048x1 : Shape := ⟨3, ![8, 2048, 1]⟩
abbrev S256x256 : Shape := ⟨2, ![256, 256]⟩
abbrev S2048x256 : Shape := ⟨2, ![2048, 256]⟩
abbrev S2048x128 : Shape := ⟨2, ![2048, 128]⟩
abbrev S256x128 : Shape := ⟨2, ![256, 128]⟩
abbrev S2x256x1 : Shape := ⟨3, ![2, 256, 1]⟩
abbrev S256 : Shape := ⟨1, ![256]⟩
abbrev S256x1 : Shape := ⟨2, ![256, 1]⟩
abbrev S1x256x1 : Shape := ⟨3, ![1, 256, 1]⟩
abbrev S256x512 : Shape := ⟨2, ![256, 512]⟩
abbrev S512x128 : Shape := ⟨2, ![512, 128]⟩
abbrev S256x768 : Shape := ⟨2, ![256, 768]⟩
abbrev S768x128 : Shape := ⟨2, ![768, 128]⟩
abbrev S256x1024 : Shape := ⟨2, ![256, 1024]⟩
abbrev S1024x128 : Shape := ⟨2, ![1024, 128]⟩
abbrev S256x1280 : Shape := ⟨2, ![256, 1280]⟩
abbrev S1280x128 : Shape := ⟨2, ![1280, 128]⟩
abbrev S256x1536 : Shape := ⟨2, ![256, 1536]⟩
abbrev S1536x128 : Shape := ⟨2, ![1536, 128]⟩
abbrev S256x1792 : Shape := ⟨2, ![256, 1792]⟩
abbrev S1792x128 : Shape := ⟨2, ![1792, 128]⟩
abbrev S256x2048 : Shape := ⟨2, ![256, 2048]⟩

abbrev nBuf : Space → Nat
  | .hbm => 17
  | .vmem => 10
  | .smem => 0
  | _ => 0

abbrev bufTy : (tb : Table) → Fin (tcTables nBuf tb) → BufTy
  | .hbm, ⟨0, _⟩ => ⟨S2048x8x96, .f32⟩
  | .hbm, ⟨1, _⟩ => ⟨S2048x8x96, .f32⟩
  | .hbm, ⟨2, _⟩ => ⟨S2048x8x64, .f32⟩
  | .hbm, ⟨3, _⟩ => ⟨S_, .i32⟩
  | .hbm, ⟨4, _⟩ => ⟨S_, .f32⟩
  | .hbm, ⟨5, _⟩ => ⟨S2048x8x128, .f32⟩
  | .hbm, ⟨6, _⟩ => ⟨S2048x1024, .f32⟩
  | .hbm, ⟨7, _⟩ => ⟨S2048x1024, .bf16⟩
  | .hbm, ⟨8, _⟩ => ⟨S_, .i32⟩
  | .hbm, ⟨9, _⟩ => ⟨S_, .f32⟩
  | .hbm, ⟨10, _⟩ => ⟨S2048x8x128, .f32⟩
  | .hbm, ⟨11, _⟩ => ⟨S2048x1024, .f32⟩
  | .hbm, ⟨12, _⟩ => ⟨S2048x1024, .bf16⟩
  | .hbm, ⟨13, _⟩ => ⟨S2048x512, .f32⟩
  | .hbm, ⟨14, _⟩ => ⟨S2048x512, .bf16⟩
  | .hbm, ⟨15, _⟩ => ⟨S2048x512, .f32⟩
  | .hbm, ⟨16, _⟩ => ⟨S8x2048x1, .f32⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S256x128, .f32⟩
  | .local _ .vmem, ⟨7, _⟩ => ⟨S256x128, .f32⟩
  | .local _ .vmem, ⟨8, _⟩ => ⟨S2x256x1, .f32⟩
  | .local _ .vmem, ⟨9, _⟩ => ⟨S2x256x1, .f32⟩
  | _, _ => ⟨S2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_6 : BitVec 32 := 0#32
  let v20 : BitVec 1 := Scalar.cmpi .ne v19 c0_i32_6
  v20

def k0_cond8 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_7 : BitVec 32 := 0#32
  let v23 : BitVec 1 := Scalar.cmpi .ne v22 c0_i32_7
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdRefIdeal.lean ====
abbrev S2048x8x96 : Shape := ⟨3, ![2048, 8, 96]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x64x2048 : Shape := ⟨3, ![8, 64, 2048]⟩
abbrev S2048x512 : Shape := ⟨2, ![2048, 512]⟩

abbrev nBuf : Space → Nat
  | .hbm => 55
  | .vmem => 0
  | .smem => 0
  | _ => 0

abbrev bufTy : (tb : Table) → Fin (tcTables nBuf tb) → BufTy
  | .hbm, ⟨0, _⟩ => ⟨S2048x8x96, .f32⟩
  | .hbm, ⟨1, _⟩ => ⟨S2048x8x96, .f32⟩
  | .hbm, ⟨2, _⟩ => ⟨S2048x8x64, .f32⟩
  | .hbm, ⟨3, _⟩ => ⟨S8x2048x2048, .f32⟩
  | .hbm, ⟨4, _⟩ => ⟨S_, .f32⟩
  | .hbm, ⟨5, _⟩ => ⟨S8x2048x2048, .f32⟩
  | .hbm, ⟨6, _⟩ => ⟨S8x2048x2048, .f32⟩
  | .hbm, ⟨7, _⟩ => ⟨S2048, .i32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S_, .f32⟩
  | .hbm, ⟨14, _⟩ => ⟨S_, .f32⟩
  | .hbm, ⟨15, _⟩ => ⟨S8x2048x2048, .i1⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x64x2048, .f32⟩
  | .hbm, ⟨33, _⟩ => ⟨S2048x8x64, .f32⟩
  | .hbm, ⟨34, _⟩ => ⟨S2048x512, .f32⟩
  | .hbm, ⟨35, _⟩ => ⟨S8x2048x2048, .f32⟩
  | .hbm, ⟨36, _⟩ => ⟨S_, .f32⟩
  | .hbm, ⟨37, _⟩ => ⟨S8x2048x2048, .f32⟩
  | .hbm, ⟨38, _⟩ => ⟨S8x2048x2048, .f32⟩
  | .hbm, ⟨39, _⟩ => ⟨S2048, .i32⟩
  | .hbm, ⟨40, _⟩ => ⟨S1x2048, .i32⟩
  | .hbm, ⟨41, _⟩ => ⟨S2048x1, .i32⟩
  | .hbm, ⟨42, _⟩ => ⟨S2048x2048, .i32⟩
  | .hbm, ⟨43, _⟩ => ⟨S2048x2048, .i32⟩
  | .hbm, ⟨44, _⟩ => ⟨S2048x2048, .i1⟩
  | .hbm, ⟨45, _⟩ => ⟨S_, .f32⟩
  | .hbm, ⟨46, _⟩ => ⟨S_, .f32⟩
  | .hbm, ⟨47, _⟩ => ⟨S8x2048x2048, .i1⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S8x2048x1, .f32⟩
  | _, _ => ⟨S2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Gla.lean ====
abbrev S2048x512 : Shape := ⟨2, ![2048, 512]⟩
abbrev S2048x1024 : Shape := ⟨2, ![2048, 1024]⟩
abbrev S32x64x512 : Shape := ⟨3, ![32, 64, 512]⟩
abbrev S_ : Shape := ⟨0, ![]⟩
abbrev S1x32x64x4x128 : Shape := ⟨5, ![1, 32, 64, 4, 128]⟩
abbrev S32x1x4x64x128 : Shape := ⟨5, ![32, 1, 4, 64, 128]⟩
abbrev S1x32x64x4x256 : Shape := ⟨5, ![1, 32, 64, 4, 256]⟩
abbrev S32x1x4x64x256 : Shape := ⟨5, ![32, 1, 4, 64, 256]⟩
abbrev S32x1x4x1x128 : Shape := ⟨5, ![32, 1, 4, 1, 128]⟩
abbrev S32x1x4x256x128 : Shape := ⟨5, ![32, 1, 4, 256, 128]⟩
abbrev S1x4x256x128 : Shape := ⟨4, ![1, 4, 256, 128]⟩
abbrev S1x1x4x1x128 : Shape := ⟨5, ![1, 1, 4, 1, 128]⟩
abbrev S1x4x1x128 : Shape := ⟨4, ![1, 4, 1, 128]⟩
abbrev S1x1x4x256x128 : Shape := ⟨5, ![1, 1, 4, 256, 128]⟩
abbrev S16x4x256x128 : Shape := ⟨4, ![16, 4, 256, 128]⟩
abbrev S32x4x256x128 : Shape := ⟨4, ![32, 4, 256, 128]⟩
abbrev S2048x2048 : Shape := ⟨2, ![2048, 2048]⟩
abbrev S8x128 : Shape := ⟨2, ![8, 128]⟩
abbrev S512x512 : Shape := ⟨2, ![512, 512]⟩
abbrev S512x1024 : Shape := ⟨2, ![512, 1024]⟩
abbrev S8x4x256x128 : Shape := ⟨4, ![8, 4, 256, 128]⟩
abbrev S512x2048 : Shape := ⟨2, ![512, 2048]⟩
abbrev S4x256x128 : Shape := ⟨3, ![4, 256, 128]⟩
abbrev S64x64 : Shape := ⟨2, ![64, 64]⟩
abbrev S64x128 : Shape := ⟨2, ![64, 128]⟩
abbrev S1x128 : Shape := ⟨2, ![1, 128]⟩
abbrev S64x256 : Shape := ⟨2, ![64, 256]⟩
abbrev S1x1x256x128 : Shape := ⟨4, ![1, 1, 256, 128]⟩
abbrev S256x128 : Shape := ⟨2, ![256, 128]⟩
abbrev S1x256x128 : Shape := ⟨3, ![1, 256, 128]⟩
abbrev S128 : Shape := ⟨1, ![128]⟩

abbrev nBuf : Space → Nat
  | .hbm => 258
  | .vmem => 17
  | .smem => 0
  | _ => 0

abbrev hbmTy0_0 (i : Nat) : BufTy := match i % 128 with
  | 0 => ⟨S2048x512, .f32⟩
  | 1 => ⟨S2048x512, .f32⟩
  | 2 => ⟨S2048x1024, .f32⟩
  | 3 => ⟨S2048x512, .f32⟩
  | 4 => ⟨S2048x1024, .f32⟩
  | 5 => ⟨S32x64x512, .f32⟩
  | 6 => ⟨S_, .f32⟩
  | 7 => ⟨S_, .f32⟩
  | 8 => ⟨S32x64x512, .f32⟩
  | 9 => ⟨S2048x512, .f32⟩
  | 10 => ⟨S1x32x64x4x128, .f32⟩
  | 11 => ⟨S32x1x4x64x128, .f32⟩
  | 12 => ⟨S1x32x64x4x256, .f32⟩
  | 13 => ⟨S32x1x4x64x256, .f32⟩
  | 14 => ⟨S1x32x64x4x128, .f32⟩
  | 15 => ⟨S32x1x4x64x128, .f32⟩
  | 16 => ⟨S32x1x4x1x128, .f32⟩
  | 17 => ⟨S32x1x4x64x128, .f32⟩
  | 18 => ⟨S32x1x4x64x128, .f32⟩
  | 19 => ⟨S32x1x4x64x128, .f32⟩
  | 20 => ⟨S32x1x4x64x128, .f32⟩
  | 21 => ⟨S32x1x4x256x128, .f32⟩
  | 22 => ⟨S32x1x4x1x128, .f32⟩
  | 23 => ⟨S_, .f32⟩
  | 24 => ⟨S1x4x256x128, .f32⟩
  | 25 => ⟨S1x1x4x1x128, .f32⟩
  | 26 => ⟨S1x4x1x128, .f32⟩
  | 27 => ⟨S1x4x256x128, .f32⟩
  | 28 => ⟨S1x4x256x128, .f32⟩
  | 29 => ⟨S1x1x4x256x128, .f32⟩
  | 30 => ⟨S1x4x256x128, .f32⟩
  | 31 => ⟨S1x4x256x128, .f32⟩
  | 32 => ⟨S1x1x4x1x128, .f32⟩
  | 33 => ⟨S1x4x1x128, .f32⟩
  | 34 => ⟨S1x4x256x128, .f32⟩
  | 35 => ⟨S1x4x256x128, .f32⟩
  | 36 => ⟨S1x1x4x256x128, .f32⟩
  | 37 => ⟨S1x4x256x128, .f32⟩
  | 38 => ⟨S1x4x256x128, .f32⟩
  | 39 => ⟨S1x1x4x1x128, .f32⟩
  | 40 => ⟨S1x4x1x128, .f32⟩
  | 41 => ⟨S1x4x256x128, .f32⟩
  | 42 => ⟨S1x4x256x128, .f32⟩
  | 43 => ⟨S1x1x4x256x128, .f32⟩
  | 44 => ⟨S1x4x256x128, .f32⟩
  | 45 => ⟨S1x4x256x128, .f32⟩
  | 46 => ⟨S1x1x4x1x128, .f32⟩
  | 47 => ⟨S1x4x1x128, .f32⟩
  | 48 => ⟨S1x4x256x128, .f32⟩
  | 49 => ⟨S1x4x256x128, .f32⟩
  | 50 => ⟨S1x1x4x256x128, .f32⟩
  | 51 => ⟨S1x4x256x128, .f32⟩
  | 52 => ⟨S1x4x256x128, .f32⟩
  | 53 => ⟨S1x1x4x1x128, .f32⟩
  | 54 => ⟨S1x4x1x128, .f32⟩
  | 55 => ⟨S1x4x256x128, .f32⟩
  | 56 => ⟨S1x4x256x128, .f32⟩
  | 57 => ⟨S1x1x4x256x128, .f32⟩
  | 58 => ⟨S1x4x256x128, .f32⟩
  | 59 => ⟨S1x4x256x128, .f32⟩
  | 60 => ⟨S1x1x4x1x128, .f32⟩
  | 61 => ⟨S1x4x1x128, .f32⟩
  | 62 => ⟨S1x4x256x128, .f32⟩
  | 63 => ⟨S1x4x256x128, .f32⟩
  | 64 => ⟨S1x1x4x256x128, .f32⟩
  | 65 => ⟨S1x4x256x128, .f32⟩
  | 66 => ⟨S1x4x256x128, .f32⟩
  | 67 => ⟨S1x1x4x1x128, .f32⟩
  | 68 => ⟨S1x4x1x128, .f32⟩
  | 69 => ⟨S1x4x256x128, .f32⟩
  | 70 => ⟨S1x4x256x128, .f32⟩
  | 71 => ⟨S1x1x4x256x128, .f32⟩
  | 72 => ⟨S1x4x256x128, .f32⟩
  | 73 => ⟨S1x4x256x128, .f32⟩
  | 74 => ⟨S1x1x4x1x128, .f32⟩
  | 75 => ⟨S1x4x1x128, .f32⟩
  | 76 => ⟨S1x4x256x128, .f32⟩
  | 77 => ⟨S1x4x256x128, .f32⟩
  | 78 => ⟨S1x1x4x256x128, .f32⟩
  | 79 => ⟨S1x4x256x128, .f32⟩
  | 80 => ⟨S1x4x256x128, .f32⟩
  | 81 => ⟨S1x1x4x1x128, .f32⟩
  | 82 => ⟨S1x4x1x128, .f32⟩
  | 83 => ⟨S1x4x256x128, .f32⟩
  | 84 => ⟨S1x4x256x128, .f32⟩
  | 85 => ⟨S1x1x4x256x128, .f32⟩
  | 86 => ⟨S1x4x256x128, .f32⟩
  | 87 => ⟨S1x4x256x128, .f32⟩
  | 88 => ⟨S1x1x4x1x128, .f32⟩
  | 89 => ⟨S1x4x1x128, .f32⟩
  | 90 => ⟨S1x4x256x128, .f32⟩
  | 91 => ⟨S1x4x256x128, .f32⟩
  | 92 => ⟨S1x1x4x256x128, .f32⟩
  | 93 => ⟨S1x4x256x128, .f32⟩
  | 94 => ⟨S1x4x256x128, .f32⟩
  | 95 => ⟨S1x1x4x1x128, .f32⟩
  | 96 => ⟨S1x4x1x128, .f32⟩
  | 97 => ⟨S1x4x256x128, .f32⟩
  | 98 => ⟨S1x4x256x128, .f32⟩
  | 99 => ⟨S1x1x4x256x128, .f32⟩
  | 100 => ⟨S1x4x256x128, .f32⟩
  | 101 => ⟨S1x4x256x128, .f32⟩
  | 102 => ⟨S1x1x4x1x128, .f32⟩
  | 103 => ⟨S1x4x1x128, .f32⟩
  | 104 => ⟨S1x4x256x128, .f32⟩
  | 105 => ⟨S1x4x256x128, .f32⟩
  | 106 => ⟨S1x1x4x256x128, .f32⟩
  | 107 => ⟨S1x4x256x128, .f32⟩
  | 108 => ⟨S1x4x256x128, .f32⟩
  | 109 => ⟨S1x1x4x1x128, .f32⟩
  | 110 => ⟨S1x4x1x128, .f32⟩
  | 111 => ⟨S1x4x256x128, .f32⟩
  | 112 => ⟨S1x4x256x128, .f32⟩
  | 113 => ⟨S1x1x4x256x128, .f32⟩
  | 114 => ⟨S1x4x256x128, .f32⟩
  | 115 => ⟨S1x4x256x128, .f32⟩
  | 116 => ⟨S1x1x4x1x128, .f32⟩
  | 117 => ⟨S1x4x1x128, .f32⟩
  | 118 => ⟨S1x4x256x128, .f32⟩
  | 119 => ⟨S1x4x256x128, .f32⟩
  | 120 => ⟨S1x1x4x256x128, .f32⟩
  | 121 => ⟨S1x4x256x128, .f32⟩
  | 122 => ⟨S1x4x256x128, .f32⟩
  | 123 => ⟨S1x1x4x1x128, .f32⟩
  | 124 => ⟨S1x4x1x128, .f32⟩
  | 125 => ⟨S1x4x256x128, .f32⟩
  | 126 => ⟨S1x4x256x128, .f32⟩
  | 127 => ⟨S1x1x4x256x128, .f32⟩
  | _ => ⟨S2048x512, .f32⟩

abbrev hbmTy0_1 (i : Nat) : BufTy := match i % 128 with
  | 0 => ⟨S1x4x256x128, .f32⟩
  | 1 => ⟨S1x4x256x128, .f32⟩
  | 2 => ⟨S1x1x4x1x128, .f32⟩
  | 3 => ⟨S1x4x1x128, .f32⟩
  | 4 => ⟨S1x4x256x128, .f32⟩
  | 5 => ⟨S1x4x256x128, .f32⟩
  | 6 => ⟨S1x1x4x256x128, .f32⟩
  | 7 => ⟨S1x4x256x128, .f32⟩
  | 8 => ⟨S1x4x256x128, .f32⟩
  | 9 => ⟨S1x1x4x1x128, .f32⟩
  | 10 => ⟨S1x4x1x128, .f32⟩
  | 11 => ⟨S1x4x256x128, .f32⟩
  | 12 => ⟨S1x4x256x128, .f32⟩
  | 13 => ⟨S1x1x4x256x128, .f32⟩
  | 14 => ⟨S1x4x256x128, .f32⟩
  | 15 => ⟨S1x4x256x128, .f32⟩
  | 16 => ⟨S1x1x4x1x128, .f32⟩
  | 17 => ⟨S1x4x1x128, .f32⟩
  | 18 => ⟨S1x4x256x128, .f32⟩
  | 19 => ⟨S1x4x256x128, .f32⟩
  | 20 => ⟨S1x1x4x256x128, .f32⟩
  | 21 => ⟨S1x4x256x128, .f32⟩
  | 22 => ⟨S1x4x256x128, .f32⟩
  | 23 => ⟨S1x1x4x1x128, .f32⟩
  | 24 => ⟨S1x4x1x128, .f32⟩
  | 25 => ⟨S1x4x256x128, .f32⟩
  | 26 => ⟨S1x4x256x128, .f32⟩
  | 27 => ⟨S1x1x4x256x128, .f32⟩
  | 28 => ⟨S1x4x256x128, .f32⟩
  | 29 => ⟨S1x4x256x128, .f32⟩
  | 30 => ⟨S1x1x4x1x128, .f32⟩
  | 31 => ⟨S1x4x1x128, .f32⟩
  | 32 => ⟨S1x4x256x128, .f32⟩
  | 33 => ⟨S1x4x256x128, .f32⟩
  | 34 => ⟨S1x1x4x256x128, .f32⟩
  | 35 => ⟨S1x4x256x128, .f32⟩
  | 36 => ⟨S1x4x256x128, .f32⟩
  | 37 => ⟨S1x1x4x1x128, .f32⟩
  | 38 => ⟨S1x4x1x128, .f32⟩
  | 39 => ⟨S1x4x256x128, .f32⟩
  | 40 => ⟨S1x4x256x128, .f32⟩
  | 41 => ⟨S1x1x4x256x128, .f32⟩
  | 42 => ⟨S1x4x256x128, .f32⟩
  | 43 => ⟨S1x4x256x128, .f32⟩
  | 44 => ⟨S1x1x4x1x128, .f32⟩
  | 45 => ⟨S1x4x1x128, .f32⟩
  | 46 => ⟨S1x4x256x128, .f32⟩
  | 47 => ⟨S1x4x256x128, .f32⟩
  | 48 => ⟨S1x1x4x256x128, .f32⟩
  | 49 => ⟨S1x4x256x128, .f32⟩
  | 50 => ⟨S1x4x256x128, .f32⟩
  | 51 => ⟨S1x1x4x1x128, .f32⟩
  | 52 => ⟨S1x4x1x128, .f32⟩
  | 53 => ⟨S1x4x256x128, .f32⟩
  | 54 => ⟨S1x4x256x128, .f32⟩
  | 55 => ⟨S1x1x4x256x128, .f32⟩
  | 56 => ⟨S1x4x256x128, .f32⟩
  | 57 => ⟨S1x4x256x128, .f32⟩
  | 58 => ⟨S1x1x4x1x128, .f32⟩
  | 59 => ⟨S1x4x1x128, .f32⟩
  | 60 => ⟨S1x4x256x128, .f32⟩
  | 61 => ⟨S1x4x256x128, .f32⟩
  | 62 => ⟨S1x1x4x256x128, .f32⟩
  | 63 => ⟨S1x4x256x128, .f32⟩
  | 64 => ⟨S1x4x256x128, .f32⟩
  | 65 => ⟨S1x1x4x1x128, .f32⟩
  | 66 => ⟨S1x4x1x128, .f32⟩
  | 67 => ⟨S1x4x256x128, .f32⟩
  | 68 => ⟨S1x4x256x128, .f32⟩
  | 69 => ⟨S1x1x4x256x128, .f32⟩
  | 70 => ⟨S1x4x256x128, .f32⟩
  | 71 => ⟨S1x4x256x128, .f32⟩
  | 72 => ⟨S1x1x4x1x128, .f32⟩
  | 73 => ⟨S1x4x1x128, .f32⟩
  | 74 => ⟨S1x4x256x128, .f32⟩
  | 75 => ⟨S1x4x256x128, .f32⟩
  | 76 => ⟨S1x1x4x256x128, .f32⟩
  | 77 => ⟨S1x4x256x128, .f32⟩
  | 78 => ⟨S1x4x256x128, .f32⟩
  | 79 => ⟨S1x1x4x1x128, .f32⟩
  | 80 => ⟨S1x4x1x128, .f32⟩
  | 81 => ⟨S1x4x256x128, .f32⟩
  | 82 => ⟨S1x4x256x128, .f32⟩
  | 83 => ⟨S1x1x4x256x128, .f32⟩
  | 84 => ⟨S1x4x256x128, .f32⟩
  | 85 => ⟨S1x4x256x128, .f32⟩
  | 86 => ⟨S1x1x4x1x128, .f32⟩
  | 87 => ⟨S1x4x1x128, .f32⟩
  | 88 => ⟨S1x4x256x128, .f32⟩
  | 89 => ⟨S1x4x256x128, .f32⟩
  | 90 => ⟨S1x1x4x256x128, .f32⟩
  | 91 => ⟨S1x4x256x128, .f32⟩
  | 92 => ⟨S1x4x256x128, .f32⟩
  | 93 => ⟨S1x1x4x1x128, .f32⟩
  | 94 => ⟨S1x4x1x128, .f32⟩
  | 95 => ⟨S1x4x256x128, .f32⟩
  | 96 => ⟨S1x4x256x128, .f32⟩
  | 97 => ⟨S1x1x4x256x128, .f32⟩
  | 98 => ⟨S1x4x256x128, .f32⟩
  | 99 => ⟨S1x4x256x128, .f32⟩
  | 100 => ⟨S1x1x4x1x128, .f32⟩
  | 101 => ⟨S1x4x1x128, .f32⟩
  | 102 => ⟨S1x4x256x128, .f32⟩
  | 103 => ⟨S1x4x256x128, .f32⟩
  | 104 => ⟨S1x1x4x256x128, .f32⟩
  | 105 => ⟨S1x4x256x128, .f32⟩
  | 106 => ⟨S1x4x256x128, .f32⟩
  | 107 => ⟨S1x1x4x1x128, .f32⟩
  | 108 => ⟨S1x4x1x128, .f32⟩
  | 109 => ⟨S1x4x256x128, .f32⟩
  | 110 => ⟨S1x4x256x128, .f32⟩
  | 111 => ⟨S1x1x4x256x128, .f32⟩
  | 112 => ⟨S1x4x256x128, .f32⟩
  | 113 => ⟨S1x4x256x128, .f32⟩
  | 114 => ⟨S1x1x4x1x128, .f32⟩
  | 115 => ⟨S1x4x1x128, .f32⟩
  | 116 => ⟨S1x4x256x128, .f32⟩
  | 117 => ⟨S1x4x256x128, .f32⟩
  | 118 => ⟨S1x1x4x256x128, .f32⟩
  | 119 => ⟨S1x4x256x128, .f32⟩
  | 120 => ⟨S1x4x256x128, .f32⟩
  | 121 => ⟨S16x4x256x128, .f32⟩
  | 122 => ⟨S16x4x256x128, .f32⟩
  | 123 => ⟨S32x4x256x128, .f32⟩
  | 124 => ⟨S2048x2048, .f32⟩
  | 125 => ⟨S2048x1024, .bf16⟩
  | 126 => ⟨S_, .f32⟩
  | 127 => ⟨S8x128, .f32⟩
  | _ => ⟨S2048x512, .f32⟩

abbrev hbmTy0_2 (i : Nat) : BufTy := match i % 128 with
  | 0 => ⟨S2048x2048, .bf16⟩
  | 1 => ⟨S2048x512, .f32⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x1024, .bf16⟩
  | .local _ .vmem, ⟨9, _⟩ => ⟨S512x1024, .bf16⟩
  | .local _ .vmem, ⟨10, _⟩ => ⟨S8x4x256x128, .f32⟩
  | .local _ .vmem, ⟨11, _⟩ => ⟨S8x4x256x128, .f32⟩
  | .local _ .vmem, ⟨12, _⟩ => ⟨S512x2048, .bf16⟩
  | .local _ .vmem, ⟨13, _⟩ => ⟨S512x2048, .bf16⟩
  | .local _ .vmem, ⟨14, _⟩ => ⟨S512x512, .f32⟩
  | .local _ .vmem, ⟨15, _⟩ => ⟨S512x512, .f32⟩
  | .local _ .vmem, ⟨16, _⟩ => ⟨S4x256x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_v235 : Ref sig .tc := ⟨.hbm, 243, rfl⟩
abbrev main_v236 : Ref sig .tc := ⟨.hbm, 244, rfl⟩
abbrev main_v237 : Ref sig .tc := ⟨.hbm, 245, rfl⟩
abbrev main_v238 : Ref sig .tc := ⟨.hbm, 246, rfl⟩
abbrev main_v239 : Ref sig .tc := ⟨.hbm, 247, rfl⟩
abbrev main_v240 : Ref sig .tc := ⟨.hbm, 248, rfl⟩
abbrev main_v241 : Ref sig .tc := ⟨.hbm, 249, rfl⟩
abbrev main_v242 : Ref sig .tc := ⟨.hbm, 250, rfl⟩
abbrev main_v243 : Ref sig .tc := ⟨.hbm, 251, rfl⟩
abbrev main_v244 : Ref sig .tc := ⟨.hbm, 252, rfl⟩
abbrev main_v245 : Ref sig .tc := ⟨.hbm, 253, rfl⟩
abbrev main_cst_0 : Ref sig .tc := ⟨.hbm, 254, rfl⟩
abbrev main_v246 : Ref sig .tc := ⟨.hbm, 255, rfl⟩
abbrev main_v247_0 : Ref sig .tc := ⟨.hbm, 256, rfl⟩
abbrev main_v247_1 : Ref sig .tc := ⟨.hbm, 257, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let v0 : BitVec 32 := Scalar.subi c3_i32 arg0
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c3_i32 : BitVec 32 := 3#32
  let v0 : BitVec 32 := Scalar.subi c3_i32 arg0
  let c3_i32_0 : BitVec 32 := 3#32
  let c0_i32 : BitVec 32 := 0#32
  ![v0.toNat, c3_i32_0.toNat]

def cc0_transform_2 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Post.lean ====
abbrev S2048x512 : Shape := ⟨2, ![2048, 512]⟩
abbrev S2048x1024 : Shape := ⟨2, ![2048, 1024]⟩
abbrev S1024x6320 : Shape := ⟨2, ![1024, 6320]⟩
abbrev S256 : Shape := ⟨1, ![256]⟩
abbrev S1024 : Shape := ⟨1, ![1024]⟩
abbrev S512x1024 : Shape := ⟨2, ![512, 1024]⟩
abbrev S1024x1024 : Shape := ⟨2, ![1024, 1024]⟩
abbrev S1024x512 : Shape := ⟨2, ![1024, 512]⟩
abbrev S1024x3584 : Shape := ⟨2, ![1024, 3584]⟩
abbrev S3584x1024 : Shape := ⟨2, ![3584, 1024]⟩
abbrev S1x256 : Shape := ⟨2, ![1, 256]⟩
abbrev S1x1024 : Shape := ⟨2, ![1, 1024]⟩
abbrev S2048x3584 : Shape := ⟨2, ![2048, 3584]⟩
abbrev S1x128 : Shape := ⟨2, ![1, 128]⟩
abbrev S256x512 : Shape := ⟨2, ![256, 512]⟩
abbrev S256x1024 : Shape := ⟨2, ![256, 1024]⟩
abbrev S256x3584 : Shape := ⟨2, ![256, 3584]⟩
abbrev S256x256 : Shape := ⟨2, ![256, 256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 36
  | .vmem => 38
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1024x6320, .f32⟩
  | .hbm, ⟨6, _⟩ => ⟨S256, .f32⟩
  | .hbm, ⟨7, _⟩ => ⟨S1024, .f32⟩
  | .hbm, ⟨8, _⟩ => ⟨S512x1024, .f32⟩
  | .hbm, ⟨9, _⟩ => ⟨S1024x1024, .f32⟩
  | .hbm, ⟨10, _⟩ => ⟨S1024x1024, .f32⟩
  | .hbm, ⟨11, _⟩ => ⟨S2048x1024, .bf16⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x512, .f32⟩
  | .hbm, ⟨16, _⟩ => ⟨S1024x3584, .f32⟩
  | .hbm, ⟨17, _⟩ => ⟨S1024x3584, .bf16⟩
  | .hbm, ⟨18, _⟩ => ⟨S3584x1024, .bf16⟩
  | .hbm, ⟨19, _⟩ => ⟨S1x256, .f32⟩
  | .hbm, ⟨20, _⟩ => ⟨S1x1024, .f32⟩
  | .hbm, ⟨21, _⟩ => ⟨S512x1024, .bf16⟩
  | .hbm, ⟨22, _⟩ => ⟨S1024x1024, .bf16⟩
  | .hbm, ⟨23, _⟩ => ⟨S1024x1024, .bf16⟩
  | .hbm, ⟨24, _⟩ => ⟨S2048x1024, .f32⟩
  | .hbm, ⟨25, _⟩ => ⟨S2048x512, .f32⟩
  | .hbm, ⟨26, _⟩ => ⟨S2048x1024, .bf16⟩
  | .hbm, ⟨27, _⟩ => ⟨S2048x3584, .bf16⟩
  | .hbm, ⟨28, _⟩ => ⟨S2048x1024, .bf16⟩
  | .hbm, ⟨29, _⟩ => ⟨S2048x512, .bf16⟩
  | .hbm, ⟨30, _⟩ => ⟨S2048x1024, .bf16⟩
  | .hbm, ⟨31, _⟩ => ⟨S2048x1024, .bf16⟩
  | .hbm, ⟨32, _⟩ => ⟨S2048x1024, .bf16⟩
  | .hbm, ⟨33, _⟩ => ⟨S1x128, .f32⟩
  | .hbm, ⟨34, _⟩ => ⟨S1x1024, .f32⟩
  | .hbm, ⟨35, _⟩ => ⟨S1x256, .f32⟩
  | .local _ .vmem, ⟨0, _⟩ => ⟨S256x512, .f32⟩
  | .local _ .vmem, ⟨1, _⟩ => ⟨S256x512, .f32⟩
  | .local _ .vmem, ⟨2, _⟩ => ⟨S256x1024, .bf16⟩
  | .local _ .vmem, ⟨3, _⟩ => ⟨S256x1024, .bf16⟩
  | .local _ .vmem, ⟨4, _⟩ => ⟨S3584x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x256, .f32⟩
  | .local _ .vmem, ⟨12, _⟩ => ⟨S1x1024, .f32⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S256x512, .f32⟩
  | .local _ .vmem, ⟨19, _⟩ => ⟨S256x512, .f32⟩
  | .local _ .vmem, ⟨20, _⟩ => ⟨S256x1024, .bf16⟩
  | .local _ .vmem, ⟨21, _⟩ => ⟨S256x1024, .bf16⟩
  | .local _ .vmem, ⟨22, _⟩ => ⟨S256x3584, .bf16⟩
  | .local _ .vmem, ⟨23, _⟩ => ⟨S256x3584, .bf16⟩
  | .local _ .vmem, ⟨24, _⟩ => ⟨S256x1024, .bf16⟩
  | .local _ .vmem, ⟨25, _⟩ => ⟨S256x1024, .bf16⟩
  | .local _ .vmem, ⟨26, _⟩ => ⟨S256x512, .bf16⟩
  | .local _ .vmem, ⟨27, _⟩ => ⟨S256x512, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S1x128, .f32⟩
  | .local _ .vmem, ⟨35, _⟩ => ⟨S1x1024, .f32⟩
  | .local _ .vmem, ⟨36, _⟩ => ⟨S1x256, .f32⟩
  | .local _ .vmem, ⟨37, _⟩ => ⟨S256x3584, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev main_v13_4 : Ref sig .tc := ⟨.hbm, 28, rfl⟩
abbrev main_v13_5 : Ref sig .tc := ⟨.hbm, 29, rfl⟩
abbrev main_v13_6 : Ref sig .tc := ⟨.hbm, 30, rfl⟩
abbrev main_v13_7 : Ref sig .tc := ⟨.hbm, 31, rfl⟩
abbrev main_v13_8 : Ref sig .tc := ⟨.hbm, 32, rfl⟩
abbrev main_v13_9 : Ref sig .tc := ⟨.hbm, 33, rfl⟩
abbrev main_v13_10 : Ref sig .tc := ⟨.hbm, 34, rfl⟩
abbrev main_v13_11 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem21_0 : DmaSem sig := 35
abbrev cc0_sem22_0 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x3584 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== PostRefIdeal.lean ====
abbrev S2048x512 : Shape := ⟨2, ![2048, 512]⟩
abbrev S2048x1024 : Shape := ⟨2, ![2048, 1024]⟩
abbrev S1024x6320 : Shape := ⟨2, ![1024, 6320]⟩
abbrev S256 : Shape := ⟨1, ![256]⟩
abbrev S1024 : Shape := ⟨1, ![1024]⟩
abbrev S512x1024 : Shape := ⟨2, ![512, 1024]⟩
abbrev S1024x1024 : Shape := ⟨2, ![1024, 1024]⟩
abbrev S2048x6320 : Shape := ⟨2, ![2048, 6320]⟩
abbrev S2048x384 : Shape := ⟨2, ![2048, 384]⟩
abbrev S2048x256 : Shape := ⟨2, ![2048, 256]⟩
abbrev S2048x32 : Shape := ⟨2, ![2048, 32]⟩
abbrev S2048x16 : Shape := ⟨2, ![2048, 16]⟩
abbrev S_ : Shape := ⟨0, ![]⟩
abbrev S2048x4x256 : Shape := ⟨3, ![2048, 4, 256]⟩
abbrev S2048x4 : Shape := ⟨2, ![2048, 4]⟩
abbrev S2048x4x1 : Shape := ⟨3, ![2048, 4, 1]⟩
abbrev S1x1x256 : Shape := ⟨3, ![1, 1, 256]⟩
abbrev S2048 : Shape := ⟨1, ![2048]⟩
abbrev S2048x1 : Shape := ⟨2, ![2048, 1]⟩
abbrev S1x1024 : Shape := ⟨2, ![1, 1024]⟩
abbrev S2048x3584 : Shape := ⟨2, ![2048, 3584]⟩
abbrev S1x128 : Shape := ⟨2, ![1, 128]⟩
abbrev S1x256 : Shape := ⟨2, ![1, 256]⟩

abbrev nBuf : Space → Nat
  | .hbm => 231
  | .vmem => 0
  | .smem => 0
  | _ => 0

abbrev hbmTy0_0 (i : Nat) : BufTy := match i % 128 with
  | 0 => ⟨S2048x512, .f32⟩
  | 1 => ⟨S2048x1024, .f32⟩
  | 2 => ⟨S2048x1024, .f32⟩
  | 3 => ⟨S2048x1024, .f32⟩
  | 4 => ⟨S2048x1024, .f32⟩
  | 5 => ⟨S1024x6320, .f32⟩
  | 6 => ⟨S256, .f32⟩
  | 7 => ⟨S1024, .f32⟩
  | 8 => ⟨S512x1024, .f32⟩
  | 9 => ⟨S1024x1024, .f32⟩
  | 10 => ⟨S1024x1024, .f32⟩
  | 11 => ⟨S2048x6320, .f32⟩
  | 12 => ⟨S2048x384, .f32⟩
  | 13 => ⟨S2048x256, .f32⟩
  | 14 => ⟨S2048x32, .f32⟩
  | 15 => ⟨S2048x512, .f32⟩
  | 16 => ⟨S2048x512, .f32⟩
  | 17 => ⟨S2048x512, .f32⟩
  | 18 => ⟨S2048x1024, .f32⟩
  | 19 => ⟨S2048x16, .f32⟩
  | 20 => ⟨S2048x1024, .f32⟩
  | 21 => ⟨S2048x1024, .f32⟩
  | 22 => ⟨S2048x1024, .f32⟩
  | 23 => ⟨S2048x512, .f32⟩
  | 24 => ⟨S2048x512, .f32⟩
  | 25 => ⟨S_, .f32⟩
  | 26 => ⟨S2048x512, .f32⟩
  | 27 => ⟨S2048x512, .f32⟩
  | 28 => ⟨S_, .f32⟩
  | 29 => ⟨S2048x512, .f32⟩
  | 30 => ⟨S2048x512, .f32⟩
  | 31 => ⟨S_, .f32⟩
  | 32 => ⟨S2048x512, .f32⟩
  | 33 => ⟨S2048x512, .f32⟩
  | 34 => ⟨S2048x512, .f32⟩
  | 35 => ⟨S2048x512, .f32⟩
  | 36 => ⟨S2048x512, .f32⟩
  | 37 => ⟨S2048x4x256, .f32⟩
  | 38 => ⟨S2048x4x256, .f32⟩
  | 39 => ⟨S_, .f32⟩
  | 40 => ⟨S2048x4, .f32⟩
  | 41 => ⟨S2048x4x1, .f32⟩
  | 42 => ⟨S_, .f32⟩
  | 43 => ⟨S2048x4x1, .f32⟩
  | 44 => ⟨S2048x4x1, .f32⟩
  | 45 => ⟨S_, .f32⟩
  | 46 => ⟨S2048x4x1, .f32⟩
  | 47 => ⟨S2048x4x1, .f32⟩
  | 48 => ⟨S2048x4x1, .f32⟩
  | 49 => ⟨S2048x4x1, .f32⟩
  | 50 => ⟨S_, .f32⟩
  | 51 => ⟨S2048x4x1, .f32⟩
  | 52 => ⟨S2048x4x1, .f32⟩
  | 53 => ⟨S2048x4x256, .f32⟩
  | 54 => ⟨S2048x4x256, .f32⟩
  | 55 => ⟨S1x1x256, .f32⟩
  | 56 => ⟨S2048x4x256, .f32⟩
  | 57 => ⟨S2048x4x256, .f32⟩
  | 58 => ⟨S2048x1024, .f32⟩
  | 59 => ⟨S2048x1024, .f32⟩
  | 60 => ⟨S2048x1024, .f32⟩
  | 61 => ⟨S_, .f32⟩
  | 62 => ⟨S2048x1024, .f32⟩
  | 63 => ⟨S2048x1024, .f32⟩
  | 64 => ⟨S_, .f32⟩
  | 65 => ⟨S2048x1024, .f32⟩
  | 66 => ⟨S2048x1024, .f32⟩
  | 67 => ⟨S_, .f32⟩
  | 68 => ⟨S2048x1024, .f32⟩
  | 69 => ⟨S2048x1024, .f32⟩
  | 70 => ⟨S2048x1024, .f32⟩
  | 71 => ⟨S2048x1024, .f32⟩
  | 72 => ⟨S2048x1024, .f32⟩
  | 73 => ⟨S2048x1024, .f32⟩
  | 74 => ⟨S2048x1024, .f32⟩
  | 75 => ⟨S2048x1024, .f32⟩
  | 76 => ⟨S2048x1024, .f32⟩
  | 77 => ⟨S_, .f32⟩
  | 78 => ⟨S2048x1024, .f32⟩
  | 79 => ⟨S2048x1024, .f32⟩
  | 80 => ⟨S_, .f32⟩
  | 81 => ⟨S2048x1024, .f32⟩
  | 82 => ⟨S2048x1024, .f32⟩
  | 83 => ⟨S_, .f32⟩
  | 84 => ⟨S2048x1024, .f32⟩
  | 85 => ⟨S2048x1024, .f32⟩
  | 86 => ⟨S2048x1024, .f32⟩
  | 87 => ⟨S2048x1024, .f32⟩
  | 88 => ⟨S2048x1024, .f32⟩
  | 89 => ⟨S2048x1024, .f32⟩
  | 90 => ⟨S_, .f32⟩
  | 91 => ⟨S2048x1024, .f32⟩
  | 92 => ⟨S2048x1024, .f32⟩
  | 93 => ⟨S_, .f32⟩
  | 94 => ⟨S2048x1024, .f32⟩
  | 95 => ⟨S2048x1024, .f32⟩
  | 96 => ⟨S_, .f32⟩
  | 97 => ⟨S2048x1024, .f32⟩
  | 98 => ⟨S2048x1024, .f32⟩
  | 99 => ⟨S2048x1024, .f32⟩
  | 100 => ⟨S2048x1024, .f32⟩
  | 101 => ⟨S2048x1024, .f32⟩
  | 102 => ⟨S2048x1024, .f32⟩
  | 103 => ⟨S2048x1024, .f32⟩
  | 104 => ⟨S2048x1024, .f32⟩
  | 105 => ⟨S_, .f32⟩
  | 106 => ⟨S2048, .f32⟩
  | 107 => ⟨S2048x1, .f32⟩
  | 108 => ⟨S_, .f32⟩
  | 109 => ⟨S2048x1, .f32⟩
  | 110 => ⟨S2048x1, .f32⟩
  | 111 => ⟨S_, .f32⟩
  | 112 => ⟨S2048x1, .f32⟩
  | 113 => ⟨S2048x1, .f32⟩
  | 114 => ⟨S2048x1, .f32⟩
  | 115 => ⟨S2048x1, .f32⟩
  | 116 => ⟨S_, .f32⟩
  | 117 => ⟨S2048x1, .f32⟩
  | 118 => ⟨S2048x1, .f32⟩
  | 119 => ⟨S2048x1024, .f32⟩
  | 120 => ⟨S2048x1024, .f32⟩
  | 121 => ⟨S1x1024, .f32⟩
  | 122 => ⟨S2048x1024, .f32⟩
  | 123 => ⟨S2048x1024, .f32⟩
  | 124 => ⟨S2048x1024, .f32⟩
  | 125 => ⟨S2048x1024, .f32⟩
  | 126 => ⟨S_, .f32⟩
  | 127 => ⟨S2048x1024, .f32⟩
  | _ => ⟨S2048x512, .f32⟩

abbrev hbmTy0_1 (i : Nat) : BufTy := match i % 128 with
  | 0 => ⟨S2048x1024, .f32⟩
  | 1 => ⟨S_, .f32⟩
  | 2 => ⟨S2048, .f32⟩
  | 3 => ⟨S_, .f32⟩
  | 4 => ⟨S2048, .f32⟩
  | 5 => ⟨S2048, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S2048, .f32⟩
  | 14 => ⟨S_, .f32⟩
  | 15 => ⟨S2048, .f32⟩
  | 16 => ⟨S2048, .f32⟩
  | 17 => ⟨S2048x1024, .f32⟩
  | 18 => ⟨S2048x1024, .f32⟩
  | 19 => ⟨S2048x1024, .f32⟩
  | 20 => ⟨S_, .f32⟩
  | 21 => ⟨S1024, .f32⟩
  | 22 => ⟨S1x1024, .f32⟩
  | 23 => ⟨S2048x1024, .f32⟩
  | 24 => ⟨S2048x1024, .f32⟩
  | 25 => ⟨S_, .f32⟩
  | 26 => ⟨S1024, .f32⟩
  | 27 => ⟨S2048x1024, .f32⟩
  | 28 => ⟨S_, .f32⟩
  | 29 => ⟨S2048, .f32⟩
  | 30 => ⟨S2048x1, .f32⟩
  | 31 => ⟨S2048x1024, .f32⟩
  | 32 => ⟨S2048x1024, .f32⟩
  | 33 => ⟨S2048x1, .f32⟩
  | 34 => ⟨S_, .f32⟩
  | 35 => ⟨S2048x1, .f32⟩
  | 36 => ⟨S2048x1, .f32⟩
  | 37 => ⟨S_, .f32⟩
  | 38 => ⟨S2048, .f32⟩
  | 39 => ⟨S2048x1024, .f32⟩
  | 40 => ⟨S2048x1024, .f32⟩
  | 41 => ⟨S2048x1024, .f32⟩
  | 42 => ⟨S2048x1024, .f32⟩
  | 43 => ⟨S2048x1024, .f32⟩
  | 44 => ⟨S2048x1024, .f32⟩
  | 45 => ⟨S2048x1024, .f32⟩
  | 46 => ⟨S2048x1024, .f32⟩
  | 47 => ⟨S2048x1024, .f32⟩
  | 48 => ⟨S2048x1024, .f32⟩
  | 49 => ⟨S2048x1024, .f32⟩
  | 50 => ⟨S2048x1024, .f32⟩
  | 51 => ⟨S2048x512, .f32⟩
  | 52 => ⟨S2048x512, .f32⟩
  | 53 => ⟨S2048x512, .f32⟩
  | 54 => ⟨S2048x512, .f32⟩
  | 55 => ⟨S2048x512, .f32⟩
  | 56 => ⟨S2048x512, .f32⟩
  | 57 => ⟨S2048x512, .f32⟩
  | 58 => ⟨S2048x1024, .f32⟩
  | 59 => ⟨S2048x1024, .f32⟩
  | 60 => ⟨S2048x1024, .f32⟩
  | 61 => ⟨S2048x1024, .f32⟩
  | 62 => ⟨S2048x1024, .f32⟩
  | 63 => ⟨S2048x1024, .f32⟩
  | 64 => ⟨S2048x1024, .f32⟩
  | 65 => ⟨S2048x4x256, .f32⟩
  | 66 => ⟨S2048x4x256, .f32⟩
  | 67 => ⟨S_, .f32⟩
  | 68 => ⟨S256, .f32⟩
  | 69 => ⟨S1x1x256, .f32⟩
  | 70 => ⟨S2048x4x256, .f32⟩
  | 71 => ⟨S2048x4x256, .f32⟩
  | 72 => ⟨S_, .f32⟩
  | 73 => ⟨S256, .f32⟩
  | 74 => ⟨S2048x4x256, .f32⟩
  | 75 => ⟨S_, .f32⟩
  | 76 => ⟨S2048x4, .f32⟩
  | 77 => ⟨S2048x4x1, .f32⟩
  | 78 => ⟨S2048x4x256, .f32⟩
  | 79 => ⟨S2048x4x256, .f32⟩
  | 80 => ⟨S2048x4x1, .f32⟩
  | 81 => ⟨S_, .f32⟩
  | 82 => ⟨S2048x4x1, .f32⟩
  | 83 => ⟨S2048x4x1, .f32⟩
  | 84 => ⟨S_, .f32⟩
  | 85 => ⟨S2048x4, .f32⟩
  | 86 => ⟨S2048x4x256, .f32⟩
  | 87 => ⟨S2048x4x256, .f32⟩
  | 88 => ⟨S2048x4x256, .f32⟩
  | 89 => ⟨S2048x4x256, .f32⟩
  | 90 => ⟨S2048x4x256, .f32⟩
  | 91 => ⟨S2048x1024, .f32⟩
  | 92 => ⟨S2048x3584, .f32⟩
  | 93 => ⟨S2048x1024, .bf16⟩
  | 94 => ⟨S2048x3584, .bf16⟩
  | 95 => ⟨S2048x1024, .bf16⟩
  | 96 => ⟨S2048x512, .bf16⟩
  | 97 => ⟨S2048x1024, .bf16⟩
  | 98 => ⟨S2048x1024, .bf16⟩
  | 99 => ⟨S2048x1024, .bf16⟩
  | 100 => ⟨S1x128, .f32⟩
  | 101 => ⟨S1x1024, .f32⟩
  | 102 => ⟨S1x256, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v12_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v12_1 : Ref sig .tc := ⟨.hbm, 34, rfl⟩
abbrev main_v12_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_v17 : Ref sig .tc := ⟨.hbm, 41, rfl⟩
abbrev main_cst_0 : Ref sig .tc := ⟨.hbm, 42, rfl⟩
abbrev main_v18 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_2 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_v32_2 : Ref sig .tc := ⟨.hbm, 66, rfl⟩
abbrev main_call1_cst_1 : Ref sig .tc := ⟨.hbm, 67, rfl⟩
abbrev main_call1_v6 : Ref sig .tc := ⟨.hbm, 68, rfl⟩
abbrev main_call1_v7 : Ref sig .tc := ⟨.hbm, 69, rfl⟩
abbrev main_v32_1 : Ref sig .tc := ⟨.hbm, 70, rfl⟩
abbrev main_v32_0 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_3 : Ref sig .tc := ⟨.hbm, 77, rfl⟩
abbrev main_v38 : Ref sig .tc := ⟨.hbm, 78, rfl⟩
abbrev main_v39 : Ref sig .tc := ⟨.hbm, 79, rfl⟩
abbrev main_cst_4 : Ref sig .tc := ⟨.hbm, 80, rfl⟩
abbrev main_v40 : Ref sig .tc := ⟨.hbm, 81, rfl⟩
abbrev main_v41 : Ref sig .tc := ⟨.hbm, 82, rfl⟩
abbrev main_cst_5 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_6 : Ref sig .tc := ⟨.hbm, 90, rfl⟩
abbrev main_v48 : Ref sig .tc := ⟨.hbm, 91, rfl⟩
abbrev main_v49 : Ref sig .tc := ⟨.hbm, 92, rfl⟩
abbrev main_cst_7 : Ref sig .tc := ⟨.hbm, 93, rfl⟩
abbrev main_v50 : Ref sig .tc := ⟨.hbm, 94, rfl⟩
abbrev main_v51 : Ref sig .tc := ⟨.hbm, 95, rfl⟩
abbrev main_cst_8 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_9 : Ref sig .tc := ⟨.hbm, 105, rfl⟩
abbrev main_v60 : Ref sig .tc := ⟨.hbm, 106, rfl⟩
abbrev main_v61 : Ref sig .tc := ⟨.hbm, 107, rfl⟩
abbrev main_cst_10 : Ref sig .tc := ⟨.hbm, 108, rfl⟩
abbrev main_v62 : Ref sig .tc := ⟨.hbm, 109, rfl⟩
abbrev main_v63 : Ref sig .tc := ⟨.hbm, 110, rfl⟩
abbrev main_cst_11 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_12 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_13 : Ref sig .tc := ⟨.hbm, 126, rfl⟩
abbrev main_v77 : Ref sig .tc := ⟨.hbm, 127, rfl⟩
abbrev main_v78 : Ref sig .tc := ⟨.hbm, 128, rfl⟩
abbrev main_cst_14 : Ref sig .tc := ⟨.hbm, 129, rfl⟩
abbrev main_v79 : Ref sig .tc := ⟨.hbm, 130, rfl⟩
abbrev main_cst_15 : Ref sig .tc := ⟨.hbm, 131, rfl⟩
abbrev main_v80 : Ref sig .tc := ⟨.hbm, 132, rfl⟩
abbrev main_v81 : Ref sig .tc := ⟨.hbm, 133, rfl⟩
abbrev main_cst_16 : Ref sig .tc := ⟨.hbm, 134, rfl⟩
abbrev main_v82 : Ref sig .tc := ⟨.hbm, 135, rfl⟩
abbrev main_cst_17 : Ref sig .tc := ⟨.hbm, 136, rfl⟩
abbrev main_v83 : Ref sig .tc := ⟨.hbm, 137, rfl⟩
abbrev main_cst_18 : Ref sig .tc := ⟨.hbm, 138, rfl⟩
abbrev main_cst_19 : Ref sig .tc := ⟨.hbm, 139, rfl⟩
abbrev main_v84 : Ref sig .tc := ⟨.hbm, 140, rfl⟩
abbrev main_v85 : Ref sig .tc := ⟨.hbm, 141, rfl⟩
abbrev main_cst_20 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_21 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_cst_22 : Ref sig .tc := ⟨.hbm, 153, rfl⟩
abbrev main_v95 : Ref sig .tc := ⟨.hbm, 154, rfl⟩
abbrev main_v96 : Ref sig .tc := ⟨.hbm, 155, rfl⟩
abbrev main_cst_23 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_cst_24 : Ref sig .tc := ⟨.hbm, 162, rfl⟩
abbrev main_v102 : Ref sig .tc := ⟨.hbm, 163, rfl⟩
abbrev main_v103 : Ref sig .tc := ⟨.hbm, 164, rfl⟩
abbrev main_cst_25 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_call2_v0 : Ref sig .tc := ⟨.hbm, 182, rfl⟩
abbrev main_call2_v1 : Ref sig .tc := ⟨.hbm, 183, rfl⟩
abbrev main_call2_v2 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_call3_v0 : Ref sig .tc := ⟨.hbm, 189, rfl⟩
abbrev main_call3_v1 : Ref sig .tc := ⟨.hbm, 190, rfl⟩
abbrev main_call3_v2 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_cst_26 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_cst_27 : Ref sig .tc := ⟨.hbm, 200, rfl⟩
abbrev main_v131 : Ref sig .tc := ⟨.hbm, 201, rfl⟩
abbrev main_v132 : Ref sig .tc := ⟨.hbm, 202, rfl⟩
abbrev main_cst_28 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_cst_29 : Ref sig .tc := ⟨.hbm, 209, rfl⟩
abbrev main_v138 : Ref sig .tc := ⟨.hbm, 210, rfl⟩
abbrev main_v139 : Ref sig .tc := ⟨.hbm, 211, rfl⟩
abbrev main_cst_30 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩

abbrev nD : Nat := 1
abbrev τ : Topo := Topo.v7x

variable {F : FTy → Type} [FloatOps F]
-- ==== Latents.lean ====
abbrev S2048x1024 : Shape := ⟨2, ![2048, 1024]⟩
abbrev S1024 : Shape := ⟨1, ![1024]⟩
abbrev S1024x6320 : Shape := ⟨2, ![1024, 6320]⟩
abbrev S1x1024 : Shape := ⟨2, ![1, 1024]⟩
abbrev S1024x384 : Shape := ⟨2, ![1024, 384]⟩
abbrev S_ : Shape := ⟨0, ![]⟩
abbrev S1024x128 : Shape := ⟨2, ![1024, 128]⟩
abbrev S1024x256 : Shape := ⟨2, ![1024, 256]⟩
abbrev S1024x64 : Shape := ⟨2, ![1024, 64]⟩
abbrev S1024x32 : Shape := ⟨2, ![1024, 32]⟩
abbrev S1024x16 : Shape := ⟨2, ![1024, 16]⟩
abbrev S1024x896 : Shape := ⟨2, ![1024, 896]⟩
abbrev S896x1024 : Shape := ⟨2, ![896, 1024]⟩
abbrev S2048x896 : Shape := ⟨2, ![2048, 896]⟩
abbrev S2048x1 : Shape := ⟨2, ![2048, 1]⟩
abbrev S512x1024 : Shape := ⟨2, ![512, 1024]⟩
abbrev S512x896 : Shape := ⟨2, ![512, 896]⟩
abbrev S512x1 : Shape := ⟨2, ![512, 1]⟩
abbrev S512 : Shape := ⟨1, ![512]⟩

abbrev nBuf : Space → Nat
  | .hbm => 20
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x6320, .f32⟩
  | .hbm, ⟨3, _⟩ => ⟨S1x1024, .f32⟩
  | .hbm, ⟨4, _⟩ => ⟨S1024x384, .f32⟩
  | .hbm, ⟨5, _⟩ => ⟨S_, .f32⟩
  | .hbm, ⟨6, _⟩ => ⟨S1024x128, .f32⟩
  | .hbm, ⟨7, _⟩ => ⟨S1024x256, .f32⟩
  | .hbm, ⟨8, _⟩ => ⟨S_, .f32⟩
  | .hbm, ⟨9, _⟩ => ⟨S1024x64, .f32⟩
  | .hbm, ⟨10, _⟩ => ⟨S1024x32, .f32⟩
  | .hbm, ⟨11, _⟩ => ⟨S1024x16, .f32⟩
  | .hbm, ⟨12, _⟩ => ⟨S_, .f32⟩
  | .hbm, ⟨13, _⟩ => ⟨S1024x16, .f32⟩
  | .hbm, ⟨14, _⟩ => ⟨S1024x896, .f32⟩
  | .hbm, ⟨15, _⟩ => ⟨S1024x896, .bf16⟩
  | .hbm, ⟨16, _⟩ => ⟨S896x1024, .bf16⟩
  | .hbm, ⟨17, _⟩ => ⟨S2048x896, .f32⟩
  | .hbm, ⟨18, _⟩ => ⟨S2048x1024, .bf16⟩
  | .hbm, ⟨19, _⟩ => ⟨S2048x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S896x1024, .bf16⟩
  | .local _ .vmem, ⟨4, _⟩ => ⟨S512x896, .f32⟩
  | .local _ .vmem, ⟨5, _⟩ => ⟨S512x896, .f32⟩
  | .local _ .vmem, ⟨6, _⟩ => ⟨S512x1024, .bf16⟩
  | .local _ .vmem, ⟨7, _⟩ => ⟨S512x1024, .bf16⟩
  | .local _ .vmem, ⟨8, _⟩ => ⟨S512x1, .f32⟩
  | .local _ .vmem, ⟨9, _⟩ => ⟨S512x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S896x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LatentsRefIdeal.lean ====
abbrev S2048x1024 : Shape := ⟨2, ![2048, 1024]⟩
abbrev S1024 : Shape := ⟨1, ![1024]⟩
abbrev S1024x6320 : Shape := ⟨2, ![1024, 6320]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x6320 : Shape := ⟨2, ![2048, 6320]⟩
abbrev S2048x384 : Shape := ⟨2, ![2048, 384]⟩
abbrev S2048x256 : Shape := ⟨2, ![2048, 256]⟩
abbrev S2048x32 : Shape := ⟨2, ![2048, 32]⟩
abbrev S2048x16 : Shape := ⟨2, ![2048, 16]⟩
abbrev S2048x128 : Shape := ⟨2, ![2048, 128]⟩
abbrev S2048x64 : Shape := ⟨2, ![2048, 64]⟩
abbrev S2048x896 : Shape := ⟨2, ![2048, 896]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x6320, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x6320, .f32⟩
  | .hbm, ⟨20, _⟩ => ⟨S2048x384, .f32⟩
  | .hbm, ⟨21, _⟩ => ⟨S2048x256, .f32⟩
  | .hbm, ⟨22, _⟩ => ⟨S2048x32, .f32⟩
  | .hbm, ⟨23, _⟩ => ⟨S2048x16, .f32⟩
  | .hbm, ⟨24, _⟩ => ⟨S_, .f32⟩
  | .hbm, ⟨25, _⟩ => ⟨S2048x128, .f32⟩
  | .hbm, ⟨26, _⟩ => ⟨S_, .f32⟩
  | .hbm, ⟨27, _⟩ => ⟨S2048x64, .f32⟩
  | .hbm, ⟨28, _⟩ => ⟨S_, .f32⟩
  | .hbm, ⟨29, _⟩ => ⟨S2048x16, .f32⟩
  | .hbm, ⟨30, _⟩ => ⟨S2048x896, .f32⟩
  | .hbm, ⟨31, _⟩ => ⟨S2048x1024, .bf16⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Prep.lean ====
abbrev S2048x8x96 : Shape := ⟨3, ![2048, 8, 96]⟩
abbrev S2048x512 : Shape := ⟨2, ![2048, 512]⟩
abbrev S2048x1024 : Shape := ⟨2, ![2048, 1024]⟩
abbrev S2048x16 : Shape := ⟨2, ![2048, 16]⟩
abbrev S1024x6320 : Shape := ⟨2, ![1024, 6320]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S16x512 : Shape := ⟨2, ![16, 512]⟩
abbrev S512 : Shape := ⟨1, ![512]⟩
abbrev S1024x384 : Shape := ⟨2, ![1024, 384]⟩
abbrev S_ : Shape := ⟨0, ![]⟩
abbrev S1024x128 : Shape := ⟨2, ![1024, 128]⟩
abbrev S1024x256 : Shape := ⟨2, ![1024, 256]⟩
abbrev S1024x64 : Shape := ⟨2, ![1024, 64]⟩
abbrev S1024x32 : Shape := ⟨2, ![1024, 32]⟩
abbrev S1024x16 : Shape := ⟨2, ![1024, 16]⟩
abbrev S1024x896 : Shape := ⟨2, ![1024, 896]⟩
abbrev S2048x896 : Shape := ⟨2, ![2048, 896]⟩
abbrev S2048x384 : Shape := ⟨2, ![2048, 384]⟩
abbrev S2048x256 : Shape := ⟨2, ![2048, 256]⟩
abbrev S2048 : Shape := ⟨1, ![2048]⟩
abbrev S2048x1 : Shape := ⟨2, ![2048, 1]⟩
abbrev S1x512 : Shape := ⟨2, ![1, 512]⟩
abbrev S384x8x96 : Shape := ⟨3, ![384, 8, 96]⟩
abbrev S256x8x128 : Shape := ⟨3, ![256, 8, 128]⟩
abbrev S256x8x64 : Shape := ⟨3, ![256, 8, 64]⟩
abbrev S256x512 : Shape := ⟨2, ![256, 512]⟩
abbrev S128x512 : Shape := ⟨2, ![128, 512]⟩
abbrev S2048x32 : Shape := ⟨2, ![2048, 32]⟩
abbrev S2048x64 : Shape := ⟨2, ![2048, 64]⟩
abbrev S2048x128 : Shape := ⟨2, ![2048, 128]⟩
abbrev S2048x8x128 : Shape := ⟨3, ![2048, 8, 128]⟩
abbrev S1x384 : Shape := ⟨2, ![1, 384]⟩
abbrev S1x256 : Shape := ⟨2, ![1, 256]⟩
abbrev S384x8x128 : Shape := ⟨3, ![384, 8, 128]⟩
abbrev S384x1024 : Shape := ⟨2, ![384, 1024]⟩
abbrev S256x256 : Shape := ⟨2, ![256, 256]⟩
abbrev S256x1 : Shape := ⟨2, ![256, 1]⟩
abbrev S256x128 : Shape := ⟨2, ![256, 128]⟩
abbrev S256x896 : Shape := ⟨2, ![256, 896]⟩
abbrev S256x384 : Shape := ⟨2, ![256, 384]⟩

abbrev nBuf : Space → Nat
  | .hbm => 106
  | .vmem => 39
  | .smem => 0
  | _ => 0

abbrev bufTy : (tb : Table) → Fin (tcTables nBuf tb) → BufTy
  | .hbm, ⟨0, _⟩ => ⟨S2048x8x96, .f32⟩
  | .hbm, ⟨1, _⟩ => ⟨S2048x8x96, .f32⟩
  | .hbm, ⟨2, _⟩ => ⟨S2048x512, .f32⟩
  | .hbm, ⟨3, _⟩ => ⟨S2048x512, .f32⟩
  | .hbm, ⟨4, _⟩ => ⟨S2048x1024, .f32⟩
  | .hbm, ⟨5, _⟩ => ⟨S2048x16, .f32⟩
  | .hbm, ⟨6, _⟩ => ⟨S2048x16, .f32⟩
  | .hbm, ⟨7, _⟩ => ⟨S1024x6320, .f32⟩
  | .hbm, ⟨8, _⟩ => ⟨S384, .f32⟩
  | .hbm, ⟨9, _⟩ => ⟨S256, .f32⟩
  | .hbm, ⟨10, _⟩ => ⟨S384x768, .f32⟩
  | .hbm, ⟨11, _⟩ => ⟨S256x1024, .f32⟩
  | .hbm, ⟨12, _⟩ => ⟨S16x512, .f32⟩
  | .hbm, ⟨13, _⟩ => ⟨S512, .f32⟩
  | .hbm, ⟨14, _⟩ => ⟨S1024x384, .f32⟩
  | .hbm, ⟨15, _⟩ => ⟨S_, .f32⟩
  | .hbm, ⟨16, _⟩ => ⟨S1024x128, .f32⟩
  | .hbm, ⟨17, _⟩ => ⟨S1024x256, .f32⟩
  | .hbm, ⟨18, _⟩ => ⟨S_, .f32⟩
  | .hbm, ⟨19, _⟩ => ⟨S1024x64, .f32⟩
  | .hbm, ⟨20, _⟩ => ⟨S1024x32, .f32⟩
  | .hbm, ⟨21, _⟩ => ⟨S1024x16, .f32⟩
  | .hbm, ⟨22, _⟩ => ⟨S_, .f32⟩
  | .hbm, ⟨23, _⟩ => ⟨S1024x16, .f32⟩
  | .hbm, ⟨24, _⟩ => ⟨S1024x896, .f32⟩
  | .hbm, ⟨25, _⟩ => ⟨S1024x896, .bf16⟩
  | .hbm, ⟨26, _⟩ => ⟨S1024x896, .f32⟩
  | .hbm, ⟨27, _⟩ => ⟨S2048x896, .f32⟩
  | .hbm, ⟨28, _⟩ => ⟨S2048x384, .f32⟩
  | .hbm, ⟨29, _⟩ => ⟨S2048x256, .f32⟩
  | .hbm, ⟨30, _⟩ => ⟨S2048x384, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S2048x256, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S2048x1, .f32⟩
  | .hbm, ⟨52, _⟩ => ⟨S2048x16, .f32⟩
  | .hbm, ⟨53, _⟩ => ⟨S2048x512, .f32⟩
  | .hbm, ⟨54, _⟩ => ⟨S1x512, .f32⟩
  | .hbm, ⟨55, _⟩ => ⟨S2048x512, .f32⟩
  | .hbm, ⟨56, _⟩ => ⟨S2048x512, .f32⟩
  | .hbm, ⟨57, _⟩ => ⟨S384x8x96, .f32⟩
  | .hbm, ⟨58, _⟩ => ⟨S256x8x128, .f32⟩
  | .hbm, ⟨59, _⟩ => ⟨S256x8x64, .f32⟩
  | .hbm, ⟨60, _⟩ => ⟨S256x512, .f32⟩
  | .hbm, ⟨61, _⟩ => ⟨S_, .i32⟩
  | .hbm, ⟨62, _⟩ => ⟨S_, .f32⟩
  | .hbm, ⟨63, _⟩ => ⟨S128x512, .f32⟩
  | .hbm, ⟨64, _⟩ => ⟨S_, .f32⟩
  | .hbm, ⟨65, _⟩ => ⟨S2048x16, .f32⟩
  | .hbm, ⟨66, _⟩ => ⟨S_, .f32⟩
  | .hbm, ⟨67, _⟩ => ⟨S2048x32, .f32⟩
  | .hbm, ⟨68, _⟩ => ⟨S_, .f32⟩
  | .hbm, ⟨69, _⟩ => ⟨S2048x64, .f32⟩
  | .hbm, ⟨70, _⟩ => ⟨S_, .f32⟩
  | .hbm, ⟨71, _⟩ => ⟨S2048x64, .f32⟩
  | .hbm, ⟨72, _⟩ => ⟨S2048x128, .f32⟩
  | .hbm, ⟨73, _⟩ => ⟨S2048x16, .f32⟩
  | .hbm, ⟨74, _⟩ => ⟨S2048x128, .f32⟩
  | .hbm, ⟨75, _⟩ => ⟨S2048x128, .f32⟩
  | .hbm, ⟨76, _⟩ => ⟨S_, .i32⟩
  | .hbm, ⟨77, _⟩ => ⟨S_, .f32⟩
  | .hbm, ⟨78, _⟩ => ⟨S2048x8x128, .f32⟩
  | .hbm, ⟨79, _⟩ => ⟨S2048x1024, .f32⟩
  | .hbm, ⟨80, _⟩ => ⟨S2048x1024, .bf16⟩
  | .hbm, ⟨81, _⟩ => ⟨S_, .i32⟩
  | .hbm, ⟨82, _⟩ => ⟨S_, .f32⟩
  | .hbm, ⟨83, _⟩ => ⟨S2048x8x128, .f32⟩
  | .hbm, ⟨84, _⟩ => ⟨S2048x1024, .f32⟩
  | .hbm, ⟨85, _⟩ => ⟨S1x384, .f32⟩
  | .hbm, ⟨86, _⟩ => ⟨S1x256, .f32⟩
  | .hbm, ⟨87, _⟩ => ⟨S_, .i32⟩
  | .hbm, ⟨88, _⟩ => ⟨S_, .f32⟩
  | .hbm, ⟨89, _⟩ => ⟨S384x8x128, .f32⟩
  | .hbm, ⟨90, _⟩ => ⟨S384x1024, .f32⟩
  | .hbm, ⟨91, _⟩ => ⟨S384x1024, .bf16⟩
  | .hbm, ⟨92, _⟩ => ⟨S256x8x64, .f32⟩
  | .hbm, ⟨93, _⟩ => ⟨S_, .i32⟩
  | .hbm, ⟨94, _⟩ => ⟨S_, .f32⟩
  | .hbm, ⟨95, _⟩ => ⟨S256x8x128, .f32⟩
  | .hbm, ⟨96, _⟩ => ⟨S256x1024, .f32⟩
  | .hbm, ⟨97, _⟩ => ⟨S256x1024, .bf16⟩
  | .hbm, ⟨98, _⟩ => ⟨S256x512, .bf16⟩
  | .hbm, ⟨99, _⟩ => ⟨S128x512, .bf16⟩
  | .hbm, ⟨100, _⟩ => ⟨S2048x896, .bf16⟩
  | .hbm, ⟨101, _⟩ => ⟨S2048x1024, .bf16⟩
  | .hbm, ⟨102, _⟩ => ⟨S2048x512, .bf16⟩
  | .hbm, ⟨103, _⟩ => ⟨S1x384, .f32⟩
  | .hbm, ⟨104, _⟩ => ⟨S1x256, .f32⟩
  | .hbm, ⟨105, _⟩ => ⟨S1x512, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x256, .f32⟩
  | .local _ .vmem, ⟨13, _⟩ => ⟨S256x256, .f32⟩
  | .local _ .vmem, ⟨14, _⟩ => ⟨S256x1, .f32⟩
  | .local _ .vmem, ⟨15, _⟩ => ⟨S256x1, .f32⟩
  | .local _ .vmem, ⟨16, _⟩ => ⟨S256x1, .f32⟩
  | .local _ .vmem, ⟨17, _⟩ => ⟨S256x1, .f32⟩
  | .local _ .vmem, ⟨18, _⟩ => ⟨S1x384, .f32⟩
  | .local _ .vmem, ⟨19, _⟩ => ⟨S1x256, .f32⟩
  | .local _ .vmem, ⟨20, _⟩ => ⟨S384x1024, .bf16⟩
  | .local _ .vmem, ⟨21, _⟩ => ⟨S256x1024, .bf16⟩
  | .local _ .vmem, ⟨22, _⟩ => ⟨S256x512, .bf16⟩
  | .local _ .vmem, ⟨23, _⟩ => ⟨S128x512, .bf16⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S256x896, .bf16⟩
  | .local _ .vmem, ⟨31, _⟩ => ⟨S256x896, .bf16⟩
  | .local _ .vmem, ⟨32, _⟩ => ⟨S256x1024, .bf16⟩
  | .local _ .vmem, ⟨33, _⟩ => ⟨S256x1024, .bf16⟩
  | .local _ .vmem, ⟨34, _⟩ => ⟨S256x512, .bf16⟩
  | .local _ .vmem, ⟨35, _⟩ => ⟨S256x512, .bf16⟩
  | .local _ .vmem, ⟨36, _⟩ => ⟨S1x384, .f32⟩
  | .local _ .vmem, ⟨37, _⟩ => ⟨S1x256, .f32⟩
  | .local _ .vmem, ⟨38, _⟩ => ⟨S1x512, .f32⟩
  | _, _ => ⟨S2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev main_cst_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c : Ref sig .tc := ⟨.hbm, 61, rfl⟩
abbrev main_call0_v0 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_cst_10 : Ref sig .tc := ⟨.hbm, 68, rfl⟩
abbrev main_v41 : Ref sig .tc := ⟨.hbm, 69, rfl⟩
abbrev main_cst_11 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_12 : Ref sig .tc := ⟨.hbm, 76, rfl⟩
abbrev main_call1_v0 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_13 : Ref sig .tc := ⟨.hbm, 81, rfl⟩
abbrev main_call2_v0 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_14 : Ref sig .tc := ⟨.hbm, 87, rfl⟩
abbrev main_call3_v0 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_15 : Ref sig .tc := ⟨.hbm, 93, rfl⟩
abbrev main_call4_v0 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63_0 : Ref sig .tc := ⟨.hbm, 100, rfl⟩
abbrev main_v63_1 : Ref sig .tc := ⟨.hbm, 101, rfl⟩
abbrev main_v63_2 : Ref sig .tc := ⟨.hbm, 102, rfl⟩
abbrev main_v63_3 : Ref sig .tc := ⟨.hbm, 103, rfl⟩
abbrev main_v63_4 : Ref sig .tc := ⟨.hbm, 104, rfl⟩
abbrev main_v63_5 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg22_0 : Ref sig .tc := ⟨.vmem, 37, rfl⟩
abbrev cc0_stg23_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem22_0 : DmaSem sig := 37
abbrev cc0_sem23_0 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x896 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x384 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Proof.Inproj.Block.lean ====
/- The input projection's backward kernel, one grid point at a time: the two blocks the body leaves, as the body's own
   values of the point's input blocks. -/
module

public import proofs.«01_k».proof.Proof.Gen.InprojIdeal.Value
public import Idealize.ShloMosaic.Lib.Pipeline.ValueKit
public import Idealize.ShloMosaic.Lib.Tactic

@[expose] public section

set_option maxRecDepth 16384

noncomputable section

namespace Cert.InprojIdeal.Hand

open Cert.InprojIdeal Cert.InprojIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The cotangent of the normed rows in row block `t`: the three packed groups against their weights, added up. -/
def dhBlk (c : Dev nD) (t : Fin cfg0.N) : FVec F S256x1024 .f32 :=
  k0_pay3 (iblk m c 0 t) (iblk m c 3 t) (iblk m c 1 t) (iblk m c 4 t) (iblk m c 2 t) (iblk m c 5 t)

/-- What the body adds to the gain's gradient at point `t`, over what it found there. -/
def dgStep (c : Dev nD) (t : Fin cfg0.N) (acc : Vec F S1x1024 .f32) : FVec F S1x1024 .f32 :=
  k0_pay6 (iblk m c 0 t) (iblk m c 3 t) (iblk m c 1 t) (iblk m c 4 t) (iblk m c 2 t) (iblk m c 5 t) (iblk m c 7 t)
    (iblk m c 6 t) acc

/-- The row block of dx the body writes at point `t`. -/
theorem outs_dx (c : Dev nD) (t : Fin cfg0.N) :
    (outsAt0 m c t.val t.isLt).1
      = k0_pay1 (dhBlk m c t) (k0_pay4 (iblk m c 7 t)) (k0_pay5 (iblk m c 7 t) (iblk m c 6 t)) (iblk m c 8 t) (iblk m c 9 t) := by
  by_cases h0 : t.val % 8 = 0
  · rw [outsAt0_A m c t h0]
    frame_out
    rfl
  · rw [outsAt0_B m c t h0]
    frame_out
    rfl

/-- The gain's gradient after the first point: the step over zeros. -/
theorem outs_dg_A (c : Dev nD) (t : Fin cfg0.N) (h0 : t.val % 8 = 0) :
    (outsAt0 m c t.val t.isLt).2 = dgStep m c t k0_pay2 := by
  rw [outsAt0_A m c t h0]
  frame_out
  rfl

/-- After a later point: the step over what the point before left. -/
theorem outs_dg_B (c : Dev nD) (t : Fin cfg0.N) (h0 : ¬t.val % 8 = 0) :
    (outsAt0 m c t.val t.isLt).2
      = dgStep m c t (outsAt0 m c (t.val - 1) (Nat.lt_of_le_of_lt (Nat.sub_le _ _) t.isLt)).2 := by
  rw [outsAt0_B m c t h0]
  frame_out
  rfl

end Cert.InprojIdeal.Hand

end
-- ==== Proof.Inproj.Reads.lean ====
module

public import proofs.«01_k».proof.Proof.Inproj.Block
public import Idealize.ShloMosaic.Lib.Pointwise
public import Idealize.ShloMosaic.Lib.Claim
public import Idealize.ShloMosaic.Lib.StableHlo.ReadAt

@[expose] public section

set_option maxRecDepth 16384

noncomputable section

namespace Cert.InprojIdeal.Hand

open Cert.InprojIdeal Cert.InprojIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![0, 0] ∧ win0_9.index t = ![t.val, 0] ∧ win0_10.index t = ![t.val, 0]
    ∧ win0_11.index t = ![0, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![0, 0] ∧ win0_9.index t = ![t.val, 0] ∧ win0_10.index t = ![t.val, 0]
    ∧ win0_11.index t = ![0, 0])

/-- The arguments, entry by entry: the rows, the gain, the weights, the projection's cotangent, the residual's. -/
def aX (c : Dev nD) (i : Fin 2048) (j : Fin 1024) : EReal := m ((c : Thread nD τ).loc main_arg0) (ix2 i j)
def aG (c : Dev nD) (j : Fin 1024) : EReal := m ((c : Thread nD τ).loc main_arg1) (ix1 j)
def aW (c : Dev nD) (j : Fin 1024) (k : Fin 6320) : EReal := m ((c : Thread nD τ).loc main_arg2) (ix2 j k)
def aD (c : Dev nD) (i : Fin 2048) (k : Fin 6320) : EReal := m ((c : Thread nD τ).loc main_arg3) (ix2 i k)
def aR (c : Dev nD) (i : Fin 2048) (j : Fin 1024) : EReal := m ((c : Thread nD τ).loc main_arg4) (ix2 i j)

/-- Column `n` of row `r` of the projection's cotangent, zero past the last column. -/
def dCol (c : Dev nD) (r : Fin 2048) (n : ℕ) : EReal :=
  if h : n < 6320 then aD m c r ⟨n, h⟩ else 0

theorem dCol_of (c : Dev nD) (r : Fin 2048) (i : Fin 6320) (n : ℕ) (h : n = i.val) :
    (m ((c : Thread nD τ).loc main_arg3) (ix2 r i) : EReal) = dCol m c r n := by
  subst h
  simp only [dCol, i.isLt, dif_pos, aD]

theorem dCol_zero (c : Dev nD) (r : Fin 2048) (n : ℕ) (h : n = 6320) : (0 : EReal) = dCol m c r n := by
  subst h
  simp [dCol]

/-- Column `n` of row `j` of the projection's weights, zero past the last column. -/
def wCol (c : Dev nD) (j : Fin 1024) (n : ℕ) : EReal :=
  if h : n < 6320 then aW m c j ⟨n, h⟩ else 0

theorem wCol_of (c : Dev nD) (j : Fin 1024) (i : Fin 6320) (n : ℕ) (h : n = i.val) :
    (m ((c : Thread nD τ).loc main_arg2) (ix2 j i) : EReal) = wCol m c j n := by
  subst h
  simp only [wCol, i.isLt, dif_pos, aW]

theorem wCol_zero (c : Dev nD) (j : Fin 1024) (n : ℕ) (h : n = 6320) : (0 : EReal) = wCol m c j n := by
  subst h
  simp [wCol]

/-- The column that the first packed group holds at place `k`. -/
def col0 (k : ℕ) : ℕ := if k < 1024 then 2208 + k else if k - 1024 < 512 then 1184 + (k - 1024)
  else 1696 + (k - 1024 - 512)

/-- The column that the second packed group holds at place `k`. -/
def col1 (k : ℕ) : ℕ :=
  if k < 1024 then 3248 + k else if k - 1024 < 1024 then 4272 + (k - 1024)
  else if k - 1024 - 1024 < 1024 then 5296 + (k - 1024 - 1024) else 672 + (k - 1024 - 1024 - 1024)

/-- The column that the third packed group holds at place `k`; 6320 at the padding. -/
def col2 (k : ℕ) : ℕ :=
  if k < 384 then k else if k - 384 < 128 then 6320 else if k - 384 - 128 < 256 then 384 + (k - 384 - 128)
  else if k - 384 - 128 - 256 < 64 then 6320
  else if k - 384 - 128 - 256 - 64 < 32 then 640 + (k - 384 - 128 - 256 - 64)
  else if k - 384 - 128 - 256 - 64 - 32 < 16 then 3232 + (k - 384 - 128 - 256 - 64 - 32) else 6320

set_option maxHeartbeats 4000000 in
theorem rd0 (c : Dev nD) (t : Fin cfg0.N) (r : Fin 256) (k : Fin 2048) (h : t.val * 256 + r.val < 2048) :
    (iblk m c 0 t (ix2 r k) : EReal) = dCol m c ⟨t.val * 256 + r.val, h⟩ (col0 k) := by
  have e : iblk m c 0 t (ix2 r k) = V m c main_v12 (ix2 ⟨t.val * 256 + r.val, h⟩ k) := by
    blk_ext [iblk, idx t]
  rw [e]
  unfold V
  after_reads_simp
  pointwise
  after_reads_simp
  pointwise
  have hk := k.isLt
  unfold col0
  split_ifs <;> first | exact dCol_of m c _ _ _ rfl | exact dCol_zero m c _ _ rfl

set_option maxHeartbeats 4000000 in
theorem rd1 (c : Dev nD) (t : Fin cfg0.N) (r : Fin 256) (k : Fin 3584) (h : t.val * 256 + r.val < 2048) :
    (iblk m c 1 t (ix2 r k) : EReal) = dCol m c ⟨t.val * 256 + r.val, h⟩ (col1 k) := by
  have e : iblk m c 1 t (ix2 r k) = V m c main_v18 (ix2 ⟨t.val * 256 + r.val, h⟩ k) := by
    blk_ext [iblk, idx t]
  rw [e]
  unfold V
  after_reads_simp
  pointwise
  after_reads_simp
  pointwise
  have hk := k.isLt
  unfold col1
  split_ifs <;> first | exact dCol_of m c _ _ _ rfl | exact dCol_zero m c _ _ rfl

set_option maxHeartbeats 4000000 in
theorem rd2 (c : Dev nD) (t : Fin cfg0.N) (r : Fin 256) (k : Fin 896) (h : t.val * 256 + r.val < 2048) :
    (iblk m c 2 t (ix2 r k) : EReal) = dCol m c ⟨t.val * 256 + r.val, h⟩ (col2 k) := by
  have e : iblk m c 2 t (ix2 r k) = V m c main_v27 (ix2 ⟨t.val * 256 + r.val, h⟩ k) := by
    blk_ext [iblk, idx t]
  rw [e]
  unfold V
  after_reads_simp
  pointwise
  after_reads_simp
  pointwise
  have hk := k.isLt
  unfold col2
  split_ifs <;> first | exact dCol_of m c _ _ _ rfl | exact dCol_zero m c _ _ rfl

set_option maxHeartbeats 4000000 in
theorem rd3 (c : Dev nD) (t : Fin cfg0.N) (k : Fin 2048) (j : Fin 1024) :
    (iblk m c 3 t (ix2 k j) : EReal) = wCol m c j (col0 k) := by
  have e : iblk m c 3 t (ix2 k j) = V m c main_v33 (ix2 k j) := by
    blk_ext [iblk, idx t]
  rw [e]
  unfold V
  after_reads_simp
  pointwise
  after_reads_simp
  pointwise
  have hk := k.isLt
  unfold col0
  split_ifs <;> first | exact wCol_of m c _ _ _ rfl | exact wCol_zero m c _ _ rfl

set_option maxHeartbeats 4000000 in
theorem rd4 (c : Dev nD) (t : Fin cfg0.N) (k : Fin 3584) (j : Fin 1024) :
    (iblk m c 4 t (ix2 k j) : EReal) = wCol m c j (col1 k) := by
  have e : iblk m c 4 t (ix2 k j) = V m c main_v40 (ix2 k j) := by
    blk_ext [iblk, idx t]
  rw [e]
  unfold V
  after_reads_simp
  pointwise
  after_reads_simp
  pointwise
  have hk := k.isLt
  unfold col1
  split_ifs <;> first | exact wCol_of m c _ _ _ rfl | exact wCol_zero m c _ _ rfl

set_option maxHeartbeats 4000000 in
theorem rd5 (c : Dev nD) (t : Fin cfg0.N) (k : Fin 896) (j : Fin 1024) :
    (iblk m c 5 t (ix2 k j) : EReal) = wCol m c j (col2 k) := by
  have e : iblk m c 5 t (ix2 k j) = V m c main_v50 (ix2 k j) := by
    blk_ext [iblk, idx t]
  rw [e]
  unfold V
  after_reads_simp
  pointwise
  after_reads_simp
  pointwise
  have hk := k.isLt
  unfold col2
  split_ifs <;> first | exact wCol_of m c _ _ _ rfl | exact wCol_zero m c _ _ rfl

theorem rd6 (c : Dev nD) (t : Fin cfg0.N) (r : Fin 256) (j : Fin 1024) (h : t.val * 256 + r.val < 2048) :
    iblk m c 6 t (ix2 r j) = aX m c ⟨t.val * 256 + r.val, h⟩ j := by
  unfold aX
  blk_ext [iblk, V, idx t]

theorem rd9 (c : Dev nD) (t : Fin cfg0.N) (r : Fin 256) (j : Fin 1024) (h : t.val * 256 + r.val < 2048) :
    iblk m c 9 t (ix2 r j) = aR m c ⟨t.val * 256 + r.val, h⟩ j := by
  unfold aR
  blk_ext [iblk, V, idx t]

set_option maxHeartbeats 4000000 in
theorem rd7 (c : Dev nD) (t : Fin cfg0.N) (r : Fin 256) (h : t.val * 256 + r.val < 2048) :
    (iblk m c 7 t (ix2 r 0) : EReal) = Ideal.rsqrt (Ideal.div
      (∑ x : Fin 1024, aX m c ⟨t.val * 256 + r.val, h⟩ x * aX m c ⟨t.val * 256 + r.val, h⟩ x)
      (Ideal.ofBits .f32 0x44800000#32) + Ideal.ofBits .f32 0x358637BD#32) := by
  have e : iblk m c 7 t (ix2 r 0) = V m c main_v7 (ix2 ⟨t.val * 256 + r.val, h⟩ 0) := by
    blk_ext [iblk, idx t]
  rw [e]
  unfold V aX
  after_reads_simp
  pointwise

set_option maxHeartbeats 4000000 in
theorem rd8 (c : Dev nD) (t : Fin cfg0.N) (j : Fin 1024) :
    (iblk m c 8 t (ix2 0 j) : EReal) = aG m c j := by
  unfold aG
  have e : iblk m c 8 t (ix2 0 j) = V m c main_v51 (ix2 0 j) := by
    blk_ext [iblk, idx t]
  rw [e]
  unfold V
  after_reads_simp
  pointwise

theorem sum_groups (P : ℕ → EReal) (h : P 6320 = 0) :
    ∑ k : Fin 2048, P (col0 k) + ∑ k : Fin 3584, P (col1 k) + ∑ k : Fin 896, P (col2 k) = ∑ k : Fin 6320, P k := by
  rw [← Finset.sum_range (fun k => P (col0 k)), ← Finset.sum_range (fun k => P (col1 k)),
    ← Finset.sum_range (fun k => P (col2 k)), ← Finset.sum_range P]
  have piece : ∀ (f : ℕ → ℕ) (n a b : ℕ), (∀ k < n, f (a + k) = b + k) →
      ∑ k ∈ Finset.range n, P (f (a + k)) = ∑ k ∈ Finset.range n, P (b + k) := fun f n a b e =>
    Finset.sum_congr rfl fun k hk => by rw [e k (Finset.mem_range.mp hk)]
  have pad : ∀ (f : ℕ → ℕ) (n a : ℕ), (∀ k < n, f (a + k) = 6320) → ∑ k ∈ Finset.range n, P (f (a + k)) = 0 := fun f n a e =>
    Finset.sum_eq_zero fun k hk => by rw [e k (Finset.mem_range.mp hk), h]
  have g0 : ∑ k ∈ Finset.range 2048, P (col0 k) = ∑ k ∈ Finset.range 1024, P (2208 + k)
      + ∑ k ∈ Finset.range 512, P (1184 + k) + ∑ k ∈ Finset.range 512, P (1696 + k) := by
    rw [show 2048 = 1024 + 512 + 512 from rfl, Finset.sum_range_add, Finset.sum_range_add,
      ← piece col0 1024 0 2208 (fun k hk => by unfold col0; split_ifs <;> omega),
      ← piece col0 512 1024 1184 (fun k hk => by unfold col0; split_ifs <;> omega),
      ← piece col0 512 1536 1696 (fun k hk => by unfold col0; split_ifs <;> omega)]
    simp only [zero_add]
  have g1 : ∑ k ∈ Finset.range 3584, P (col1 k) = ∑ k ∈ Finset.range 1024, P (3248 + k)
      + ∑ k ∈ Finset.range 1024, P (4272 + k) + ∑ k ∈ Finset.range 1024, P (5296 + k)
      + ∑ k ∈ Finset.range 512, P (672 + k) := by
    rw [show 3584 = 1024 + 1024 + 1024 + 512 from rfl, Finset.sum_range_add, Finset.sum_range_add, Finset.sum_range_add,
      ← piece col1 1024 0 3248 (fun k hk => by unfold col1; split_ifs <;> omega),
      ← piece col1 1024 1024 4272 (fun k hk => by unfold col1; split_ifs <;> omega),
      ← piece col1 1024 2048 5296 (fun k hk => by unfold col1; split_ifs <;> omega),
      ← piece col1 512 3072 672 (fun k hk => by unfold col1; split_ifs <;> omega)]
    simp only [zero_add]
  have g2 : ∑ k ∈ Finset.range 896, P (col2 k) = ∑ k ∈ Finset.range 384, P (0 + k)
      + ∑ k ∈ Finset.range 256, P (384 + k) + ∑ k ∈ Finset.range 32, P (640 + k)
      + ∑ k ∈ Finset.range 16, P (3232 + k) := by
    rw [show 896 = 384 + 128 + 256 + 64 + 32 + 16 + 16 from rfl, Finset.sum_range_add, Finset.sum_range_add,
      Finset.sum_range_add, Finset.sum_range_add, Finset.sum_range_add, Finset.sum_range_add,
      ← piece col2 384 0 0 (fun k hk => by unfold col2; split_ifs <;> omega),
      ← piece col2 256 512 384 (fun k hk => by unfold col2; split_ifs <;> omega),
      ← piece col2 32 832 640 (fun k hk => by unfold col2; split_ifs <;> omega),
      ← piece col2 16 864 3232 (fun k hk => by unfold col2; split_ifs <;> omega),
      pad col2 128 384 (fun k hk => by unfold col2; split_ifs <;> omega),
      pad col2 64 768 (fun k hk => by unfold col2; split_ifs <;> omega),
      pad col2 16 880 (fun k hk => by unfold col2; split_ifs <;> omega)]
    simp only [zero_add, add_zero]
  have all : ∑ k ∈ Finset.range 6320, P k = ∑ k ∈ Finset.range 384, P (0 + k) + ∑ k ∈ Finset.range 256, P (384 + k)
      + ∑ k ∈ Finset.range 32, P (640 + k) + ∑ k ∈ Finset.range 512, P (672 + k) + ∑ k ∈ Finset.range 512, P (1184 + k)
      + ∑ k ∈ Finset.range 512, P (1696 + k) + ∑ k ∈ Finset.range 1024, P (2208 + k)
      + ∑ k ∈ Finset.range 16, P (3232 + k) + ∑ k ∈ Finset.range 1024, P (3248 + k)
      + ∑ k ∈ Finset.range 1024, P (4272 + k) + ∑ k ∈ Finset.range 1024, P (5296 + k) := by
    rw [show 6320 = 384 + 256 + 32 + 512 + 512 + 512 + 1024 + 16 + 1024 + 1024 + 1024 from rfl]
    simp only [Finset.sum_range_add, zero_add]
  rw [g0, g1, g2, all]
  abel

/-- The cotangent of the normed rows, entry by entry: the projection's cotangent against the weights, over the
    reference's own columns. -/
theorem dhBlk_at (c : Dev nD) (t : Fin cfg0.N) (r : Fin 256) (j : Fin 1024) (h : t.val * 256 + r.val < 2048) :
    (dhBlk m c t (ix2 r j) : EReal) = ∑ k : Fin 6320, aD m c ⟨t.val * 256 + r.val, h⟩ k * aW m c j k := by
  pointwise [dhBlk, k0_pay3]
  simp only [rd0 m c t r _ h, rd1 m c t r _ h, rd2 m c t r _ h, rd3, rd4, rd5]
  refine (sum_groups (fun n => dCol m c ⟨t.val * 256 + r.val, h⟩ n * wCol m c j n) ?_).trans ?_
  · simp [dCol]
  · refine Finset.sum_congr rfl fun k _ => ?_
    simp only [dCol, wCol, k.isLt, dif_pos]

end Cert.InprojIdeal.Hand

end
-- ==== Proof.Real.Basic.lean ====
/- Extended reals that are reals: sums, the constants the programs write, and the precondition "every entry is finite". -/
module

public import Idealize.ShloMosaic.PureOps.Ideal.Laws
public import Idealize.ShloMosaic.Lib.Pointwise
public import Idealize.ShloMosaic.Lib.IdealHost

@[expose] public section

noncomputable section

namespace Cert.Real

open Idealize.ShloMosaic

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The written constant 1024. -/
theorem c1024 : Ideal.ofBits .f32 0x44800000#32 = ((1024 : ℝ) : EReal) := by
  simp [Ideal.ofBits, Ideal.ieee, -EReal.coe_mul]; norm_num

/-- The written constant −1/2. -/
theorem cneghalf : Ideal.ofBits .f32 0xBF000000#32 = ((-1 / 2 : ℝ) : EReal) := by
  simp [Ideal.ofBits, Ideal.ieee, -EReal.coe_mul, -EReal.coe_neg]; norm_num

/-- The norms' small constant is a positive real. -/
theorem ceps : ∃ e : ℝ, 0 < e ∧ Ideal.ofBits .f32 0x358637BD#32 = (e : EReal) := by
  refine ⟨(8796093 : ℝ) * 2 ^ (-43 : ℤ), by positivity, ?_⟩
  simp [Ideal.ofBits, Ideal.ieee, -EReal.coe_mul]

/-- The written infinity. -/
theorem cinf : Ideal.ofBits .f32 0x7F800000#32 = ⊤ := by
  simp [Ideal.ofBits, Ideal.ieee]

/-- An entry whose absolute value is below infinity is a real. -/
theorem real_of_finite {x : Ideal .f32}
    (h : BitVec.ofBool (decide (FloatOps.absf x < Ideal.ofBits .f32 0x7F800000#32)) = 1#1) : ∃ r : ℝ, x = (r : EReal) := by
  rw [cinf] at h
  have h' : max (x : EReal) (-x) < ⊤ := by
    by_contra hn
    have : decide (FloatOps.absf x < (⊤ : EReal)) = false := decide_eq_false hn
    rw [this] at h
    exact absurd h (by decide)
  rw [max_lt_iff] at h'
  induction x using EReal.rec with
  | bot => exact absurd h'.2 (by simp)
  | top => exact absurd h'.1 (by simp)
  | coe r => exact ⟨r, rfl⟩

/-- A quotient of reals. -/
theorem div_real (a b : ℝ) (h : b ≠ 0) : Ideal.div (a : EReal) (b : EReal) = ((a / b : ℝ) : EReal) := by
  rw [Ideal.div_coe h, ← EReal.coe_mul, mul_one_div]

/-- The reciprocal root of a positive real. -/
theorem rsqrt_real (a : ℝ) (h : 0 < a) : Ideal.rsqrt (a : EReal) = (((Real.sqrt a)⁻¹ : ℝ) : EReal) := by
  rw [Ideal.rsqrt_coe, if_neg (not_lt.mpr h.le), if_neg h.ne']

end Cert.Real

end
-- ==== Proof.Real.Norm.lean ====
/- The norm of a row and its derivative in the extended reals: the kernels' form against the one that differentiating the
   forward lines gives. They agree at every row and every cotangent. -/
module

public import proofs.«01_k».proof.Proof.Real.Basic

@[expose] public section

noncomputable section

namespace Cert.Real

open Idealize.ShloMosaic

/-- An extended real that is a real. -/
def IsR (x : EReal) : Prop := ∃ r : ℝ, x = (r : EReal)

namespace IsR

theorem add {x y : EReal} : IsR x → IsR y → IsR (x + y) := by
  rintro ⟨a, rfl⟩ ⟨b, rfl⟩; exact ⟨a + b, (EReal.coe_add _ _).symm⟩

theorem sub {x y : EReal} : IsR x → IsR y → IsR (x - y) := by
  rintro ⟨a, rfl⟩ ⟨b, rfl⟩; exact ⟨a - b, (EReal.coe_sub _ _).symm⟩

theorem mul {x y : EReal} : IsR x → IsR y → IsR (x * y) := by
  rintro ⟨a, rfl⟩ ⟨b, rfl⟩; exact ⟨a * b, (EReal.coe_mul _ _).symm⟩

theorem sum {ι : Type*} [Fintype ι] {f : ι → EReal} (h : ∀ i, IsR (f i)) : IsR (∑ i, f i) := by
  choose g hg using h
  exact ⟨∑ i, g i, by simp only [hg, coe_sum]⟩

theorem div {x y : EReal} : IsR x → (∃ r : ℝ, r ≠ 0 ∧ y = (r : EReal)) → IsR (Ideal.div x y) := by
  rintro ⟨a, rfl⟩ ⟨b, hb, rfl⟩; exact ⟨a / b, div_real a b hb⟩

theorem one : IsR 1 := ⟨1, EReal.coe_one.symm⟩

theorem zero : IsR 0 := ⟨0, EReal.coe_zero.symm⟩

theorem not_top : ¬ IsR ⊤ := fun ⟨r, h⟩ => EReal.coe_ne_top r h.symm

theorem not_bot : ¬ IsR ⊥ := fun ⟨r, h⟩ => EReal.coe_ne_bot r h.symm

/-- A summand of a real sum is real. -/
theorem of_add {x y : EReal} (h : IsR (x + y)) : IsR x := by
  induction x using EReal.rec with
  | bot => rw [EReal.bot_add] at h; exact absurd h not_bot
  | coe r => exact ⟨r, rfl⟩
  | top =>
    induction y using EReal.rec with
    | bot => rw [EReal.add_bot] at h; exact absurd h not_bot
    | coe r => rw [EReal.top_add_coe] at h; exact absurd h not_top
    | top => rw [EReal.top_add_top] at h; exact absurd h not_top

theorem of_sum {ι : Type*} [Fintype ι] {f : ι → EReal} (h : IsR (∑ i, f i)) (i : ι) : IsR (f i) := by
  classical
  rw [← Finset.add_sum_erase Finset.univ f (Finset.mem_univ i)] at h
  exact h.of_add

/-- A factor of a real product is real, when the other is not zero. -/
theorem of_mul {x y : EReal} (h : IsR (x * y)) (hx : x ≠ 0) : IsR y := by
  rcases lt_or_gt_of_ne hx with hx | hx
  · induction y using EReal.rec with
    | bot => rw [EReal.mul_bot_of_neg hx] at h; exact absurd h not_top
    | coe r => exact ⟨r, rfl⟩
    | top => rw [EReal.mul_top_of_neg hx] at h; exact absurd h not_bot
  · induction y using EReal.rec with
    | bot => rw [EReal.mul_bot_of_pos hx] at h; exact absurd h not_bot
    | coe r => exact ⟨r, rfl⟩
    | top => rw [EReal.mul_top_of_pos hx] at h; exact absurd h not_top

end IsR

theorem div_top (x : EReal) : Ideal.div x ⊤ = 0 := by simp [Ideal.div]

/-- The mean square of a row plus the small constant, read in the extended reals. -/
theorem var_real {n : ℕ} {E C : EReal} {d : ℝ} (hE : ∃ e : ℝ, 0 < e ∧ E = (e : EReal)) (hC : C = (d : EReal)) (hd : 0 < d) (X : Fin n → ℝ) :
    ∃ v : ℝ, 0 < v ∧ Ideal.div (∑ k, (X k : EReal) * (X k : EReal)) C + E = (v : EReal) := by
  obtain ⟨e, he, hc⟩ := hE
  refine ⟨(∑ k, X k * X k) / d + e, ?_, ?_⟩
  · have : 0 ≤ ∑ k, X k * X k := Finset.sum_nonneg fun k _ => mul_self_nonneg _
    positivity
  · simp only [hC, ← EReal.coe_mul, ← coe_sum]
    rw [div_real _ _ hd.ne', hc, ← EReal.coe_add]

/-- A row is real, or its mean square is infinite. -/
theorem row_cases {n : ℕ} {E C : EReal} {d : ℝ} (hE : ∃ e : ℝ, 0 < e ∧ E = (e : EReal)) (hC : C = (d : EReal)) (hd : 0 < d) (X : Fin n → EReal) :
    (∀ k, IsR (X k)) ∨ Ideal.div (∑ k, X k * X k) C + E = ⊤ := by
  by_cases h : ∀ k, IsR (X k)
  · exact .inl h
  · right
    obtain ⟨k, hk⟩ := not_forall.mp h
    have sq : ∀ x : EReal, 0 ≤ x * x := fun x => by
      induction x using EReal.rec with
      | bot => rw [EReal.bot_mul_bot]; exact le_top
      | coe r => rw [← EReal.coe_mul]; exact EReal.coe_nonneg.mpr (mul_self_nonneg r)
      | top => rw [EReal.top_mul_top]; exact le_top
    have hk' : X k * X k = ⊤ := by
      generalize X k = x at hk
      induction x using EReal.rec with
      | bot => exact EReal.bot_mul_bot
      | coe r => exact absurd ⟨r, rfl⟩ hk
      | top => exact EReal.top_mul_top
    have hs : ∑ k, X k * X k = ⊤ :=
      top_le_iff.mp (hk' ▸ Finset.single_le_sum (f := fun k => X k * X k) (fun k _ => sq (X k)) (Finset.mem_univ k))
    obtain ⟨e, -, hc⟩ := hE
    rw [hs, hC, Ideal.div_coe hd.ne', EReal.top_mul_coe_of_pos (by positivity), hc,
      EReal.top_add_coe]

/-- The reciprocal root of a row's mean square is a real, and so are the row's entries times it. -/
theorem rstd_real {n : ℕ} {E C : EReal} {d : ℝ} (hE : ∃ e : ℝ, 0 < e ∧ E = (e : EReal)) (hC : C = (d : EReal)) (hd : 0 < d) (X : Fin n → EReal) :
    IsR (Ideal.rsqrt (Ideal.div (∑ k, X k * X k) C + E))
      ∧ ∀ j, IsR (X j * Ideal.rsqrt (Ideal.div (∑ k, X k * X k) C + E)) := by
  rcases row_cases hE hC hd X with hX | e
  · have h : IsR (Ideal.rsqrt (Ideal.div (∑ k, X k * X k) C + E)) := by
      choose x hx using hX
      obtain ⟨v, hv, e⟩ := var_real hE hC hd x
      simp only [hx]
      rw [e]
      exact ⟨_, rsqrt_real v hv⟩
    exact ⟨h, fun j => (hX j).mul h⟩
  · rw [e, show Ideal.rsqrt ⊤ = 0 from rfl]
    exact ⟨.zero, fun j => by rw [mul_zero]; exact .zero⟩

/-- A positive real moves into a sum. -/
theorem pos_mul_sum {n : ℕ} {r : ℝ} (hr : 0 < r) (f : Fin n → EReal) : (r : EReal) * ∑ k, f k = ∑ k, (r : EReal) * f k := by
  have h : ∀ s : Finset (Fin n), (r : EReal) * ∑ k ∈ s, f k = ∑ k ∈ s, (r : EReal) * f k := fun s => by
    induction s using Finset.induction_on with
    | empty => simp
    | insert a s ha ih =>
      rw [Finset.sum_insert ha, Finset.sum_insert ha, ← ih,
        EReal.left_distrib_of_nonneg_of_ne_top (EReal.coe_nonneg.mpr hr.le) (EReal.coe_ne_top r)]
  exact h Finset.univ

theorem twice (y : EReal) : y + y = ((2 : ℝ) : EReal) * y := by
  have : ((2 : ℝ) : EReal) = 1 + 1 := by rw [← EReal.coe_one, ← EReal.coe_add]; norm_num
  rw [this, EReal.right_distrib_of_nonneg zero_le_one zero_le_one, one_mul]

/-- The norm's derivative: the kernel's form against the one that differentiating the forward lines gives. -/
theorem norm_grad {n : ℕ} {E C : EReal} {d : ℝ} (hE : ∃ e : ℝ, 0 < e ∧ E = (e : EReal)) (hC : C = (d : EReal)) (hd : 0 < d) (X W : Fin n → EReal)
    (v : EReal) (ev : v = Ideal.div (∑ k, X k * X k) C + E) (j : Fin n) :
    Ideal.rsqrt v * (W j - X j * Ideal.rsqrt v * Ideal.div (∑ k, W k * (X k * Ideal.rsqrt v)) C)
      = W j * Ideal.rsqrt v
        + X j * Ideal.div ((∑ k, X k * W k) * (Ideal.ofBits .f32 0xBF000000#32 * Ideal.div (Ideal.rsqrt v) v)) C
        + Ideal.div ((∑ k, X k * W k) * (Ideal.ofBits .f32 0xBF000000#32 * Ideal.div (Ideal.rsqrt v) v)) C * X j := by
  rcases row_cases hE hC hd X with hX | e
  · choose x hx using hX
    obtain ⟨u, hu, e⟩ := var_real hE hC hd x
    simp only [hx] at ev
    rw [e] at ev
    subst ev
    have hr : 0 < (Real.sqrt u)⁻¹ := inv_pos.mpr (Real.sqrt_pos.mpr hu)
    have hs : (Real.sqrt u)⁻¹ * (Real.sqrt u)⁻¹ = u⁻¹ := by rw [← mul_inv, Real.mul_self_sqrt hu.le]
    rw [rsqrt_real u hu, div_real _ _ hu.ne', hC, cneghalf]
    generalize (Real.sqrt u)⁻¹ = r at hr hs
    have hsum : ∑ k, W k * (X k * (r : EReal)) = (r : EReal) * ∑ k, X k * W k := by
      rw [pos_mul_sum hr]
      exact Finset.sum_congr rfl fun k _ => by rw [← mul_assoc, mul_comm (W k), mul_comm]
    rw [hsum, hx j]
    generalize ∑ k, X k * W k = S
    generalize W j = y
    generalize x j = a
    have k1 : Ideal.div ((r : EReal) * S) (d : EReal) = ((r / d : ℝ) : EReal) * S := by
      rw [Ideal.div_coe hd.ne', mul_right_comm, ← EReal.coe_mul, mul_one_div]
    have k2 : Ideal.div (S * (((-1 / 2 : ℝ) : EReal) * ((r / u : ℝ) : EReal))) (d : EReal)
        = ((-1 / 2 * (r / u) / d : ℝ) : EReal) * S := by
      rw [Ideal.div_coe hd.ne', ← EReal.coe_mul, mul_assoc, ← EReal.coe_mul, mul_comm, mul_one_div]
    rw [k1, k2, sub_eq_add_neg, EReal.left_distrib_of_nonneg_of_ne_top (EReal.coe_nonneg.mpr hr.le) (EReal.coe_ne_top r),
      mul_comm y, add_assoc, mul_comm (_ * S), twice]
    refine congrArg _ ?_
    have e1 : (r : EReal) * -((a : EReal) * r * (((r / d : ℝ) : EReal) * S)) = ((-(r * (a * r * (r / d))) : ℝ) : EReal) * S := by
      rw [EReal.coe_neg, neg_mul, mul_neg]
      simp only [EReal.coe_mul, mul_assoc]
    have e2 : ((2 : ℝ) : EReal) * ((a : EReal) * (((-1 / 2 * (r / u) / d : ℝ) : EReal) * S))
        = ((2 * (a * (-1 / 2 * (r / u) / d)) : ℝ) : EReal) * S := by
      rw [EReal.coe_mul 2, EReal.coe_mul a, mul_assoc, mul_assoc]
    rw [e1, e2, div_eq_mul_inv r u, ← hs]
    exact congrArg (fun t : ℝ => (t : EReal) * S) (by ring)
  · rw [ev, e, show Ideal.rsqrt ⊤ = 0 from rfl, div_top]
    simp [hC, Ideal.div_coe hd.ne']

end Cert.Real

end
-- ==== Proof.Inproj.Value.lean ====
/- The input projection's backward: the kernel's two result arrays and the reference's, entry by entry, and that they
   are the same. -/
module

public import proofs.«01_k».proof.Proof.Inproj.Reads
public import proofs.«01_k».proof.Proof.Real.Norm
public import proofs.«01_k».proof.Proof.Gen.InprojRefIdeal.Read

@[expose] public section

set_option maxRecDepth 16384

noncomputable section

namespace Cert.InprojIdeal.Hand

open Cert.InprojIdeal Cert.InprojIdeal.Gen Idealize.ShloMosaic Idealize.ShloMosaic.TcCoe Idealize.SL.Sem
open Idealize.ShloMosaic.Pipeline (Dat)

variable (m : (ℓ : Loc nD τ sig) → Buf (Elt Ideal) ℓ)

/-- The row of the whole array that row `r` of block `t` is. -/
theorem row_lt (t : Fin cfg0.N) (r : Fin 256) : t.val * 256 + r.val < 2048 := by
  have hN : cfg0.N = 8 := N_0; have := t.isLt; have := r.isLt; omega

/-- An entry of the cotangent of the normed rows. -/
def dH (c : Dev nD) (i : Fin 2048) (j : Fin 1024) : EReal := ∑ k : Fin 6320, aD m c i k * aW m c j k

/-- The reciprocal root of row `i`'s mean square. -/
def rs (c : Dev nD) (i : Fin 2048) : EReal :=
  Ideal.rsqrt (Ideal.div (∑ x : Fin 1024, aX m c i x * aX m c i x) (Ideal.ofBits .f32 0x44800000#32)
    + Ideal.ofBits .f32 0x358637BD#32)

/-- An entry of dx, as the kernel computes it. -/
def kDx (c : Dev nD) (i : Fin 2048) (j : Fin 1024) : EReal :=
  aR m c i j + rs m c i * (dH m c i j * aG m c j - aX m c i j * rs m c i
    * Ideal.div (∑ x, dH m c i x * aG m c x * (aX m c i x * rs m c i)) (Ideal.ofBits .f32 0x44800000#32))

theorem blk_dx (c : Dev nD) (t : Fin cfg0.N) (r : Fin 256) (j : Fin 1024) :
    ((outsAt0 m c t.val t.isLt).1 (ix2 r j) : EReal) = kDx m c ⟨t.val * 256 + r.val, row_lt t r⟩ j := by
  rw [outs_dx]
  pointwise [k0_pay1, k0_pay4, k0_pay5]
  simp only [dhBlk_at m c t r _ (row_lt t r), rd6 m c t r _ (row_lt t r), rd7 m c t r (row_lt t r), rd8,
    rd9 m c t r _ (row_lt t r)]
  rfl

theorem arr_dx (c : Dev nD) :
    (dats m 0 c).arrAt 10 cfg0.N = fun i : S2048x1024.Idx => (kDx m c (i 0) (i 1) : EReal) := by
  refine (dats m 0 c).arrAt_eq_of_covers 10 _ (by decide +kernel) fun t hf y => ?_
  blk_simp
  rw [after0_10]
  idx_vars y
  rw [blk_dx m c t y0 y1]
  have e0 : (((View.whole main_v53_0).slice (win0_10.rect t)).emb (ix2 y0 y1) 0).val = t.val * 256 + y0.val := by
    blk_simp [idx t]
  have e1 : (((View.whole main_v53_0).slice (win0_10.rect t)).emb (ix2 y0 y1) 1).val = y1.val := by
    blk_simp [idx t]
  exact congrArg₂ (kDx m c) (Fin.ext e0.symm) (Fin.ext e1.symm)

/-- What point `t` adds to entry `j` of the gain's gradient. -/
theorem step_dg (c : Dev nD) (t : Fin cfg0.N) (acc : Vec Ideal S1x1024 .f32) (j : Fin 1024) :
    (dgStep m c t acc (ix2 0 j) : EReal) = acc (ix2 0 j)
      + ∑ r : Fin 256, dH m c ⟨t.val * 256 + r.val, row_lt t r⟩ j
        * (aX m c ⟨t.val * 256 + r.val, row_lt t r⟩ j * rs m c ⟨t.val * 256 + r.val, row_lt t r⟩) := by
  pointwise [dgStep, k0_pay6, k0_pay5, k0_pay4]
  exact congrArg₂ (· + ·) rfl (Finset.sum_congr rfl fun r _ => congrArg₂ (· * ·) (dhBlk_at m c t r j (row_lt t r))
    (congrArg₂ (· * ·) (rd6 m c t r j (row_lt t r)) (rd7 m c t r (row_lt t r))))

/-- An entry of the gain's gradient, as the kernel computes it. -/
def kDg (c : Dev nD) (j : Fin 1024) : EReal := ∑ i : Fin 2048, dH m c i j * (aX m c i j * rs m c i)

theorem last_dg (c : Dev nD) (j : Fin 1024) :
    ((outsAt0 m c t0_7.val t0_7.isLt).2 (ix2 0 j) : EReal) = kDg m c j := by
  have hN : cfg0.N = 8 := N_0
  have key := Pipeline.eq_sum_fin_of_reset_step_apply_last (N := cfg0.N) (fun n h => fun j : Fin 1024 => ((outsAt0 m c n h).2 (ix2 0 j) : EReal)) 8
    (fun _ => 0) (fun t j => ∑ r : Fin 256, dH m c ⟨t.val * 256 + r.val, row_lt t r⟩ j
        * (aX m c ⟨t.val * 256 + r.val, row_lt t r⟩ j * rs m c ⟨t.val * 256 + r.val, row_lt t r⟩))
    (fun t h j => by
      rw [outs_dg_A m c t h, step_dg]
      congr 1
      pointwise [k0_pay2])
    (fun t h j => by rw [outs_dg_B m c t h, step_dg]) hN.le t0_7 ((rfl : t0_7.val + 1 = 8).trans hN.symm) j
  rw [key, zero_add]
  exact Fin.sum_mul_add_fin cfg0.N 256 (fun i : Fin 2048 => dH m c i j * (aX m c i j * rs m c i)) (by rw [hN])

theorem arr_dg (c : Dev nD) :
    (dats m 0 c).arrAt 11 cfg0.N = fun i : S1x1024.Idx => (kDg m c (i 1) : EReal) := by
  refine (dats m 0 c).arrAt_eq_of_after_last 11 t0_7 (by decide +kernel) _ fun y => ?_
  blk_simp
  rw [after0_11]
  idx_vars y
  obtain rfl : y0 = 0 := Subsingleton.elim _ _
  exact last_dg m c y1

/-! ## The reference -/

/-- The reference's dx, entry by entry. -/
def rDx (c : Dev nD) (i : Fin 2048) (j : Fin 1024) : EReal :=
  let v := Ideal.div (∑ x, aX m c i x * aX m c i x) (Ideal.ofBits .f32 0x44800000#32) + Ideal.ofBits .f32 0x358637BD#32
  let a := Ideal.div ((∑ x, aX m c i x * (dH m c i x * aG m c x)) * (Ideal.ofBits .f32 0xBF000000#32 * Ideal.div (Ideal.rsqrt v) v))
    (Ideal.ofBits .f32 0x44800000#32)
  aR m c i j + dH m c i j * aG m c j * Ideal.rsqrt v + aX m c i j * a + a * aX m c i j

open Cert.InprojRefIdeal.Read in
set_option maxHeartbeats 1000000 in
theorem ref_dx (c : Dev nD) (i : Fin 2048) (j : Fin 1024) :
    (val_main_v38 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (ix2 i j) : EReal) = rDx m c i j := by
  pointwise [val_main_v38, val_main_v36, val_main_v37, val_main_v35, val_main_v34, val_main_v33, val_main_v32, val_main_v31,
    val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1, val_main_cst_2, val_main_cst_3, val_main_cst_4, val_main_cst_5, val_main_cst_6,
    val_main_cst_7]
  simp only [Finset.univ_unique, Finset.sum_singleton]
  rfl

open Cert.InprojRefIdeal.Read in
set_option maxHeartbeats 1000000 in
theorem ref_dg (c : Dev nD) (j : Fin 1024) :
    (val_main_v39 (F := Ideal) (m ((c : Thread nD τ).loc main_arg0))
      (m ((c : Thread nD τ).loc main_arg2)) (m ((c : Thread nD τ).loc main_arg3)) (ix2 0 j) : EReal) = kDg m c j := by
  pointwise [val_main_v39, val_main_v23, val_main_v20, val_main_v19, val_main_v18, val_main_v17, val_main_v12, val_main_v11,
    val_main_v7, val_main_v6, val_main_v5, val_main_v4, val_main_v3, val_main_v2, val_main_v1, val_main_v0, val_main_cst,
    val_main_cst_0, val_main_cst_1, val_main_cst_2, val_main_cst_3, val_main_cst_4, val_main_cst_5, val_main_cst_6,
    val_main_cst_7]
  simp only [Finset.univ_unique, Finset.sum_singleton]
  exact Finset.sum_congr rfl fun i _ => mul_comm _ _

/-- The two forms of dx are one. -/
theorem dx_eq (c : Dev nD) (i : Fin 2048) (j : Fin 1024) : kDx m c i j = rDx m c i j := by
  unfold kDx rDx rs
  rw [Cert.Real.norm_grad Cert.Real.ceps Cert.Real.c1024 (by norm_num) (aX m c i) (fun x => dH m c i x * aG m c x) _ rfl j]
  simp only [add_assoc]

end Cert.InprojIdeal.Hand

end
-- ==== Proof.Inproj.Claim.lean ====
/- The input projection's backward: the two runs end with the same two arrays. -/
module

public import proofs.«01_k».proof.Proof.Inproj.Value
public import proofs.«01_k».proof.Proof.Gen.InprojIdeal.Frame
public import proofs.«01_k».proof.Defs

@[expose] public section

set_option maxRecDepth 16384

noncomputable section

namespace Cert.InprojIdeal.Hand

open Cert.InprojIdeal Cert.InprojIdeal.Gen Idealize.ShloMosaic Idealize.ShloMosaic.TcCoe Idealize.SL.Sem

/-- The reference's frame, from its run. -/
theorem ref_frame : Cert.quiescent_InprojRefIdeal := fun m ρ _ =>
  (θ_run _ _ _).mono (fun r h => ⟨fun c => (h c).2.2, sem_eq_zero_of_no_sems (by decide) r.2⟩)
    (Cert.InprojRefIdeal.Value.run m ρ)

theorem algebraic : Cert.algebraic_InprojIdeal_InprojRefIdeal := by
  intro m g m' g' _ hag
  refine ⟨fun c => (dats m 0 c).arrAt 10 cfg0.N, fun c => (dats m 0 c).arrAt 11 cfg0.N, ?_, ?_⟩
  · exact Cert.InprojIdeal.Value.run_blocks m g
  · refine (θ_run _ _ _).mono (fun r h c => ?_) (Cert.InprojRefIdeal.Value.run m' g')
    obtain ⟨h38, h39, hr⟩ := h c
    obtain ⟨a0, a1, a2, a3, a4⟩ := hag c
    refine ⟨h38.trans ?_, h39.trans ?_, hr⟩
    · rw [Cert.InprojRefIdeal.Read.val_main_v38_eq, a0, a1, a2, a3, a4]
      refine Eq.trans ?_ (arr_dx m c).symm
      funext i
      idx_vars i
      exact (ref_dx m c i0 i1).trans (dx_eq m c i0 i1).symm
    · rw [Cert.InprojRefIdeal.Read.val_main_v39_eq, a0, a2, a3]
      refine Eq.trans ?_ (arr_dg m c).symm
      funext i
      idx_vars i
      obtain rfl : i0 = 0 := Subsingleton.elim _ _
      exact ref_dg m c i1

end Cert.InprojIdeal.Hand

end
-- ==== Proof.Attn.Run.lean ====
module

public import proofs.«01_k».proof.Proof.Gen.AttnIdeal.Frame
public import proofs.«01_k».proof.Proof.Gen.AttnIdeal.Skeleton

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal.Gen

variable {F : FTy → Type} [FloatOps F]

local notation "𝕄" => MT nD τ sig Unit (Elt F) ℕ (UR sig nD τ) ℕ

/-- The kernel's test "the tile number is `k`", on words, is the test on numbers. -/
theorem taken_iff : ∀ k j : Fin 8,
    Scalar.cmpi .ne (Scalar.extui (Scalar.cmpi .eq (BitVec.ofNat 32 j.val) (BitVec.ofNat 32 k.val)) : BitVec 32) 0#32 = 1#1
      ↔ j.val = k.val := by
  decide +kernel

/-- The nine branch conditions of the body, as tests of the tile number. -/
theorem cond_iff (i : grid0.Coords) :
    (k0_cond1 i = 1#1 ↔ (i 1).val = 0) ∧ (k0_cond2 i = 1#1 ↔ (i 1).val = 0) ∧ (k0_cond3 i = 1#1 ↔ (i 1).val = 1)
      ∧ (k0_cond4 i = 1#1 ↔ (i 1).val = 2) ∧ (k0_cond5 i = 1#1 ↔ (i 1).val = 3) ∧ (k0_cond6 i = 1#1 ↔ (i 1).val = 4)
      ∧ (k0_cond7 i = 1#1 ↔ (i 1).val = 5) ∧ (k0_cond8 i = 1#1 ↔ (i 1).val = 6) ∧ (k0_cond9 i = 1#1 ↔ (i 1).val = 7) :=
  ⟨taken_iff 0 (i 1), taken_iff 0 (i 1), taken_iff 1 (i 1), taken_iff 2 (i 1), taken_iff 3 (i 1), taken_iff 4 (i 1),
    taken_iff 5 (i 1), taken_iff 6 (i 1), taken_iff 7 (i 1)⟩

set_option maxHeartbeats 4000000 in
/-- One grid point on tile `n`: the pieces the body's stores leave in the three results' blocks, last first, with the
    triple they are read off — the inputs' blocks at their contents and left so; the block of dq at anything; the
    running blocks of dk and dv at contents `y7`, `y8`, left with the pieces written over them. -/
def run (n : ℕ) (c : Dev nD) (i : grid0.Coords) (hn : (i 1).val = n) (hlt : n < 8)
    (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S2x256x1 .f32) (harg7 : arg7.IsWhole)
    (arg9 : Memref sig .tc .vmem S256x256 .bf16) (harg9 : arg9.IsWhole) (arg10 : Memref sig .tc .vmem S2048x256 .f32) (harg10 : arg10.IsWhole) (arg11 : Memref sig .tc .vmem S2048x128 .f32) (harg11 : arg11.IsWhole)
    (x0 : Vec F S256x256 .bf16) (x1 : Vec F S2048x256 .bf16) (x2 : Vec F S2048x128 .bf16) (x3 : Vec F S256x128 .f32) (x4 : Vec F S256x128 .f32) (x5 : Vec F S2x256x1 .f32)
    (y7 : Vec F S2048x256 .f32) (y8 : Vec F S2048x128 .f32) :
    Σ' (L6 : List (View.Piece (Elt F) S256x256 .bf16)) (L7 : List (View.Piece (Elt F) S2048x256 .f32)),
      { L8 : List (View.Piece (Elt F) S2048x128 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg9 fullShare d) ∗ owns (c : Thread nD τ) arg10 fullShare y7 ∗ owns (c : Thread nD τ) arg11 fullShare y8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (∃ f, arg9.view.loc (c : Thread nD τ) ↦[arg9.view.set]{fullShare} arg9.view.writes (Elt F) f L6)
              ∗ (arg10.view.loc (c : Thread nD τ) ↦[arg10.view.set]{fullShare} arg10.view.writes (Elt F) (harg10.unread y7) L7)
              ∗ (arg11.view.loc (c : Thread nD τ) ↦[arg11.view.set]{fullShare} arg11.view.writes (Elt F) (harg11.unread y8) L8)) -∗ K ⟨⟩))
          ⊢ wp frame (wpE (defs₀ (F := F)) Variants.none c none) E
            (cc0_mla_attn_bwd i arg2 harg2 arg3 harg3 arg4 harg4 arg5 harg5 arg6 harg6 arg7 harg7 (Memref.whole main_v33) (Memref.isWhole_whole _) arg9 harg9 arg10 harg10 arg11 harg11) K } := by
  have e := cond_iff i
  have e1 := e.1
  have e2 := e.2.1
  have e3 := e.2.2.1
  have e4 := e.2.2.2.1
  have e5 := e.2.2.2.2.1
  have e6 := e.2.2.2.2.2.1
  have e7 := e.2.2.2.2.2.2.1
  have e8 := e.2.2.2.2.2.2.2.1
  have e9 := e.2.2.2.2.2.2.2.2
  simp only [hn] at e1 e2 e3 e4 e5 e6 e7 e8 e9
  refine match n, hlt, e1, e2, e3, e4, e5, e6, e7, e8, e9 with
  | 0, _, e1, e2, e3, e4, e5, e6, e7, e8, e9 => ?_
  | 1, _, e1, e2, e3, e4, e5, e6, e7, e8, e9 => ?_
  | 2, _, e1, e2, e3, e4, e5, e6, e7, e8, e9 => ?_
  | 3, _, e1, e2, e3, e4, e5, e6, e7, e8, e9 => ?_
  | 4, _, e1, e2, e3, e4, e5, e6, e7, e8, e9 => ?_
  | 5, _, e1, e2, e3, e4, e5, e6, e7, e8, e9 => ?_
  | 6, _, e1, e2, e3, e4, e5, e6, e7, e8, e9 => ?_
  | 7, _, e1, e2, e3, e4, e5, e6, e7, e8, e9 => ?_
  | n + 8, hlt, _, _, _, _, _, _, _, _, _ => absurd hlt (by omega)
  all_goals
    clear hn e
    simp only [Nat.reduceEqDiff, OfNat.ofNat_ne_zero, OfNat.zero_ne_ofNat, iff_true, iff_false] at e1 e2 e3 e4 e5 e6 e7 e8 e9
    refine ⟨?_, ?_, ?_, fun E K => ?run⟩
    case run =>
      simp only [cc0_mla_attn_bwd_eq_skeleton]; unfold cc0_mla_attn_bwd_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
      obtain rfl := harg2.eq_unread hf0; obtain rfl := harg3.eq_unread hf1; obtain rfl := harg4.eq_unread hf2
      obtain rfl := harg5.eq_unread hf3; obtain rfl := harg6.eq_unread hf4; obtain rfl := harg7.eq_unread hf5
      obtain rfl := harg10.eq_unread hf7; obtain rfl := harg11.eq_unread hf8
      sl_exec
      sl_step
      iapply Hk
      isplitl [H0]; · iexists _; isplitr; · ipureintro; exact harg2.read_unread _
                      iexact H0
      isplitl [H1]; · iexists _; isplitr; · ipureintro; exact harg3.read_unread _
                      iexact H1
      isplitl [H2]; · iexists _; isplitr; · ipureintro; exact harg4.read_unread _
                      iexact H2
      isplitl [H3]; · iexists _; isplitr; · ipureintro; exact harg5.read_unread _
                      iexact H3
      isplitl [H4]; · iexists _; isplitr; · ipureintro; exact harg6.read_unread _
                      iexact H4
      isplitl [H5]; · iexists _; isplitr; · ipureintro; exact harg7.read_unread _
                      iexact H5
      isplitl [H6]; · iexists _; iexact H6
      isplitl [H7]; · iexact H7
      iexact H8

end Cert.AttnIdeal.Hand

end
-- ==== Proof.Attn.Data.lean ====
module

public import Idealize.ShloMosaic.Lib.Claim
public import proofs.«01_k».proof.Proof.Attn.Run

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hs0 (t : Fin cfg0.N) : (st0_0 t).IsWhole := hstage0_0 ((cfg0.slots t 0).cast nbuf0_0)
theorem hs1 (t : Fin cfg0.N) : (st0_1 t).IsWhole := hstage0_1 ((cfg0.slots t 1).cast nbuf0_1)
theorem hs2 (t : Fin cfg0.N) : (st0_2 t).IsWhole := hstage0_2 ((cfg0.slots t 2).cast nbuf0_2)
theorem hs3 (t : Fin cfg0.N) : (st0_3 t).IsWhole := hstage0_3 ((cfg0.slots t 3).cast nbuf0_3)
theorem hs4 (t : Fin cfg0.N) : (st0_4 t).IsWhole := hstage0_4 ((cfg0.slots t 4).cast nbuf0_4)
theorem hs5 (t : Fin cfg0.N) : (st0_5 t).IsWhole := hstage0_5 ((cfg0.slots t 5).cast nbuf0_5)
theorem hs6 (t : Fin cfg0.N) : (st0_6 t).IsWhole := hstage0_6 ((cfg0.slots t 6).cast nbuf0_6)
theorem hs7 (t : Fin cfg0.N) : (st0_7 t).IsWhole := hstage0_7 ((cfg0.slots t 7).cast nbuf0_7)
theorem hs8 (t : Fin cfg0.N) : (st0_8 t).IsWhole := hstage0_8 ((cfg0.slots t 8).cast nbuf0_8)

/-- The tile a grid point works on. -/
theorem tile_eq : ∀ t : Fin cfg0.N, (grid0.coords t 1).val = t.val % 8 :=
  (by decide +kernel : ∀ t : Fin grid0.N, (grid0.coords t 1).val = t.val % 8)

/-- Every grid point stores into each result's block. -/
theorem live : ∀ i : cfg0.grid.Coords, cfg0.idle 6 i = false ∧ cfg0.idle 7 i = false ∧ cfg0.idle 8 i = false :=
  (by decide +kernel : ∀ i : grid0.Coords, idle0 6 i = false ∧ idle0 7 i = false ∧ idle0 8 i = false)

/-- The run at grid point `t` from running blocks `y7` of dk and `y8` of dv. -/
def runAt (c : Dev nD) (t : Fin cfg0.N) (y7 : Vec F S2048x256 .f32) (y8 : Vec F S2048x128 .f32) :=
  run (t.val % 8) c (grid0.coords t) (tile_eq t) (Nat.mod_lt _ (by decide)) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (iblk m c 0 t) (iblk m c 1 t) (iblk m c 2 t) (iblk m c 3 t) (iblk m c 4 t) (iblk m c 5 t) y7 y8

/-- What the three results' blocks hold after grid point `t`. -/
def step (c : Dev nD) (t : Fin cfg0.N) (y : Vec F S2048x256 .f32 × Vec F S2048x128 .f32) :
    Vec F S256x256 .bf16 × Vec F S2048x256 .f32 × Vec F S2048x128 .f32 :=
  ((st0_6 t).view.read (Elt F) ((st0_6 t).view.writes (Elt F) (st0_6 t).view.junk (runAt m c t y.1 y.2).1),
    (st0_7 t).view.read (Elt F) ((st0_7 t).view.writes (Elt F) ((hs7 t).unread y.1) (runAt m c t y.1 y.2).2.1),
    (st0_8 t).view.read (Elt F) ((st0_8 t).view.writes (Elt F) ((hs8 t).unread y.2) (runAt m c t y.1 y.2).2.2.1))

/-- What the three results' blocks hold after point `n`, the running blocks carried from point to point. -/
def blocks (c : Dev nD) : (n : ℕ) → n < cfg0.N → Vec F S256x256 .bf16 × Vec F S2048x256 .f32 × Vec F S2048x128 .f32
  | 0, h => step m c ⟨0, h⟩ (k0_pay1, k0_pay2)
  | n + 1, h => step m c ⟨n + 1, h⟩ (blocks c n (Nat.lt_of_succ_lt h)).2

/-- The stores of dq cover its block, whatever the tile. -/
theorem cover_dq (n : ℕ) (c : Dev nD) (i : grid0.Coords) (hn : (i 1).val = n) (hlt : n < 8)
    (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S2x256x1 .f32) (harg7 : arg7.IsWhole)
    (arg9 : Memref sig .tc .vmem S256x256 .bf16) (harg9 : arg9.IsWhole) (arg10 : Memref sig .tc .vmem S2048x256 .f32) (harg10 : arg10.IsWhole) (arg11 : Memref sig .tc .vmem S2048x128 .f32) (harg11 : arg11.IsWhole)
    (x0 : Vec F S256x256 .bf16) (x1 : Vec F S2048x256 .bf16) (x2 : Vec F S2048x128 .bf16) (x3 : Vec F S256x128 .f32) (x4 : Vec F S256x128 .f32) (x5 : Vec F S2x256x1 .f32)
    (y7 : Vec F S2048x256 .f32) (y8 : Vec F S2048x128 .f32) (y : S256x256.Idx) :
    ∃ pc ∈ (run n c i hn hlt arg2 harg2 arg3 harg3 arg4 harg4 arg5 harg5 arg6 harg6 arg7 harg7 arg9 harg9 arg10 harg10 arg11 harg11 x0 x1 x2 x3 x4 x5 y7 y8).1, y ∈ pc.1.set := by
  match n, hlt with
  | 0, _ | 1, _ | 2, _ | 3, _ | 4, _ | 5, _ | 6, _ | 7, _ => exact View.cover_of_tiledL _ ![256, 128] (by sl_kernel_rfl) y
  | n + 8, h => exact absurd h (by omega)

theorem whole_dk (y : S2048x256.Idx) :
    y ∈ (Rect.unit (s := S2048x256) ![0, 0] S2048x256.size inb_S2048x256_S2048x256_0_0).set :=
  Rect.mem_set_unit.mpr fun a => by
    have := (y a).isLt
    fin_cases a <;> exact ⟨Nat.zero_le _, by simpa using this⟩

theorem whole_dv (y : S2048x128.Idx) :
    y ∈ (Rect.unit (s := S2048x128) ![0, 0] S2048x128.size inb_S2048x128_S2048x128_0_0).set :=
  Rect.mem_set_unit.mpr fun a => by
    have := (y a).isLt
    fin_cases a <;> exact ⟨Nat.zero_le _, by simpa using this⟩

/-- On the first tile the running blocks are cleared first, so what a point leaves does not depend on them. -/
theorem run_first (n : ℕ) (c : Dev nD) (i : grid0.Coords) (hn : (i 1).val = n) (hlt : n < 8)
    (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S2x256x1 .f32) (harg7 : arg7.IsWhole)
    (arg9 : Memref sig .tc .vmem S256x256 .bf16) (harg9 : arg9.IsWhole) (arg10 : Memref sig .tc .vmem S2048x256 .f32) (harg10 : arg10.IsWhole) (arg11 : Memref sig .tc .vmem S2048x128 .f32) (harg11 : arg11.IsWhole)
    (x0 : Vec F S256x256 .bf16) (x1 : Vec F S2048x256 .bf16) (x2 : Vec F S2048x128 .bf16) (x3 : Vec F S256x128 .f32) (x4 : Vec F S256x128 .f32) (x5 : Vec F S2x256x1 .f32) (h0 : n = 0)
    (y7 z7 : Vec F S2048x256 .f32) (y8 z8 : Vec F S2048x128 .f32) :
    (arg9.view.read (Elt F) (arg9.view.writes (Elt F) arg9.view.junk (run n c i hn hlt arg2 harg2 arg3 harg3 arg4 harg4 arg5 harg5 arg6 harg6 arg7 harg7 arg9 harg9 arg10 harg10 arg11 harg11 x0 x1 x2 x3 x4 x5 y7 y8).1),
        arg10.view.read (Elt F) (arg10.view.writes (Elt F) (harg10.unread y7) (run n c i hn hlt arg2 harg2 arg3 harg3 arg4 harg4 arg5 harg5 arg6 harg6 arg7 harg7 arg9 harg9 arg10 harg10 arg11 harg11 x0 x1 x2 x3 x4 x5 y7 y8).2.1),
        arg11.view.read (Elt F) (arg11.view.writes (Elt F) (harg11.unread y8) (run n c i hn hlt arg2 harg2 arg3 harg3 arg4 harg4 arg5 harg5 arg6 harg6 arg7 harg7 arg9 harg9 arg10 harg10 arg11 harg11 x0 x1 x2 x3 x4 x5 y7 y8).2.2.1))
      = (arg9.view.read (Elt F) (arg9.view.writes (Elt F) arg9.view.junk (run n c i hn hlt arg2 harg2 arg3 harg3 arg4 harg4 arg5 harg5 arg6 harg6 arg7 harg7 arg9 harg9 arg10 harg10 arg11 harg11 x0 x1 x2 x3 x4 x5 z7 z8).1),
        arg10.view.read (Elt F) (arg10.view.writes (Elt F) (harg10.unread z7) (run n c i hn hlt arg2 harg2 arg3 harg3 arg4 harg4 arg5 harg5 arg6 harg6 arg7 harg7 arg9 harg9 arg10 harg10 arg11 harg11 x0 x1 x2 x3 x4 x5 z7 z8).2.1),
        arg11.view.read (Elt F) (arg11.view.writes (Elt F) (harg11.unread z8) (run n c i hn hlt arg2 harg2 arg3 harg3 arg4 harg4 arg5 harg5 arg6 harg6 arg7 harg7 arg9 harg9 arg10 harg10 arg11 harg11 x0 x1 x2 x3 x4 x5 z7 z8).2.2.1)) := by
  subst h0
  dsimp only [run]
  exact Prod.ext rfl (Prod.ext
    (View.read_writes_of_cover _ _ _ _ _ fun y => ⟨⟨Rect.unit (s := S2048x256) ![0, 0] S2048x256.size inb_S2048x256_S2048x256_0_0, k0_pay1⟩,
      List.mem_cons_of_mem _ (List.mem_cons_of_mem _ List.mem_cons_self), whole_dk y⟩)
    (View.read_writes_of_cover _ _ _ _ _ fun y => ⟨⟨Rect.unit (s := S2048x128) ![0, 0] S2048x128.size inb_S2048x128_S2048x128_0_0, k0_pay2⟩,
      List.mem_cons_of_mem _ List.mem_cons_self, whole_dv y⟩))

/-- After a point on the first tile: the same from any running blocks. -/
theorem step_first (c : Dev nD) (t : Fin cfg0.N) (h0 : t.val % 8 = 0) (y z : Vec F S2048x256 .f32 × Vec F S2048x128 .f32) :
    step m c t y = step m c t z := by
  unfold step runAt
  exact run_first (t.val % 8) c (grid0.coords t) (tile_eq t) (Nat.mod_lt _ (by decide)) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (iblk m c 0 t) (iblk m c 1 t) (iblk m c 2 t) (iblk m c 3 t) (iblk m c 4 t) (iblk m c 5 t) h0 y.1 z.1 y.2 z.2

/-- After a point on the first tile. -/
theorem blocks_first (c : Dev nD) (t : Fin cfg0.N) (h0 : t.val % 8 = 0) (y : Vec F S2048x256 .f32 × Vec F S2048x128 .f32) :
    blocks m c t.val t.isLt = step m c t y := by
  obtain ⟨n, hn⟩ := t
  cases n with
  | zero => exact step_first m c _ h0 _ _
  | succ n => exact step_first m c _ h0 _ _

/-- After a point on a later tile. -/
theorem blocks_next (c : Dev nD) (t : Fin cfg0.N) (h0 : ¬t.val % 8 = 0) :
    blocks m c t.val t.isLt
      = step m c t (blocks m c (t.val - 1) (Nat.lt_of_le_of_lt (Nat.sub_le _ _) t.isLt)).2 := by
  obtain ⟨n, hn⟩ := t
  cases n with
  | zero => exact absurd (Nat.zero_mod _) h0
  | succ n => rfl

/-- The launch's data: each argument's block as read from its array, the results' blocks as the points leave them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (blocks m c t.val t.isLt).1
    | ⟨7, _⟩ => (blocks m c t.val t.isLt).2.1
    | ⟨8, _⟩ => (blocks m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

/-- An argument's block is in place at every point. -/
theorem before_in (c : Dev nD) (t : Fin cfg0.N) :
    (∀ d, (dats m 0 c).before 0 t d = iblk m c 0 t) ∧ (∀ d, (dats m 0 c).before 1 t d = iblk m c 1 t)
      ∧ (∀ d, (dats m 0 c).before 2 t d = iblk m c 2 t) ∧ (∀ d, (dats m 0 c).before 3 t d = iblk m c 3 t)
      ∧ (∀ d, (dats m 0 c).before 4 t d = iblk m c 4 t) ∧ (∀ d, (dats m 0 c).before 5 t d = iblk m c 5 t) :=
  ⟨before0_0_of m (dats m 0 c) (A_eq m c 0) (fun _ => by dsimp only [dats]) t,
    before0_1_of m (dats m 0 c) (A_eq m c 1) (fun _ => by dsimp only [dats]) t,
    before0_2_of m (dats m 0 c) (A_eq m c 2) (fun _ => by dsimp only [dats]) t,
    before0_3_of m (dats m 0 c) (A_eq m c 3) (fun _ => by dsimp only [dats]) t,
    before0_4_of m (dats m 0 c) (A_eq m c 4) (fun _ => by dsimp only [dats]) t,
    before0_5_of m (dats m 0 c) (A_eq m c 5) (fun _ => by dsimp only [dats]) t⟩

/-- Past the first tile a running block is found as the point before left it. -/
theorem before_running (c : Dev nD) (t : Fin cfg0.N) (h0 : ¬t.val % 8 = 0) :
    (∀ d, (dats m 0 c).before 7 t d = (blocks m c (t.val - 1) (Nat.lt_of_le_of_lt (Nat.sub_le _ _) t.isLt)).2.1)
      ∧ ∀ d, (dats m 0 c).before 8 t d = (blocks m c (t.val - 1) (Nat.lt_of_le_of_lt (Nat.sub_le _ _) t.isLt)).2.2 := by
  have hN : t.val < 32 := lt_of_lt_of_eq t.isLt (show cfg0.N = 32 from N_0)
  refine ⟨fun d => ?_, fun d => ?_⟩
  · rw [Dat.before_out_kept _ 7 rfl t (by omega) (Bool.eq_false_iff.mpr fun h => by have := (flush0_7 _).mp h; dsimp only at this; omega)
      (fun i => (live i).2.1) (fun _ _ => rfl)]
    dsimp only [dats]
  · rw [Dat.before_out_kept _ 8 rfl t (by omega) (Bool.eq_false_iff.mpr fun h => by have := (flush0_8 _).mp h; dsimp only at this; omega)
      (fun i => (live i).2.2) (fun _ _ => rfl)]
    dsimp only [dats]

/-- What a point's body is given. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What a point's body leaves. -/
def left (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- A point's body from running blocks from which it leaves what the data say. -/
theorem body_from (c : Dev nD) (t : Fin cfg0.N) (y : Vec F S2048x256 .f32 × Vec F S2048x128 .f32)
    (hy : step m c t y = blocks m c t.val t.isLt) :
    iprop((dats m 0 c).Φ t.castSucc ∗ (dats m 0 c).owesAt () t.castSucc
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (iblk m c 4 t) ∗ owns (c : Thread nD τ) (st0_5 t) fullShare (iblk m c 5 t)
      ∗ (∃ d, owns (c : Thread nD τ) (st0_6 t) fullShare d) ∗ owns (c : Thread nD τ) (st0_7 t) fullShare y.1
      ∗ owns (c : Thread nD τ) (st0_8 t) fullShare y.2)
    ⊢ wp frame (wpE (defs₀ (F := F)) Variants.none c none) Set.univ (bodyAt0 t) (fun _ => left m c t) := by
  unfold left bodyAt0
  rw [show (dats m 0 c).Φ t.succ = (dats m 0 c).Φ t.castSucc from rfl,
    show (dats m 0 c).owesAt () t.succ = (dats m 0 c).owesAt () t.castSucc from rfl]
  dsimp only [dats]
  rw [← hy]
  unfold step
  dsimp only
  iintro ⟨HΦ, Ho, H0, H1, H2, H3, H4, H5, H6, H7, H8⟩
  iapply ((runAt m c t y.1 y.2).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, ⟨%e6, H6⟩, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover_dq _ _ _ _ _ _ _ _ _ _ _ _ _ _ _ _ _ _ _ _ _ _ _ _ _ _ _ _ _ _ _)
  isplitl [H7]
  · unfold owns; iexists _; isplitr
    swap; · iexact H7
    ipureintro; rfl
  unfold owns; iexists _; isplitr
  swap; · iexact H8
  ipureintro; rfl

/-- A point's body meets its obligation. -/
theorem body_sound (c : Dev nD) (t : Fin cfg0.N) :
    given m c t ⊢ wp frame (wpE (defs₀ (F := F)) Variants.none c none) Set.univ (bodyAt0 t) (fun _ => left m c t) := by
  unfold given
  obtain ⟨b0, b1, b2, b3, b4, b5⟩ := before_in m c t
  simp only [b0, b1, b2, b3, b4, b5]
  by_cases h0 : t.val % 8 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_from m c t ((dats m 0 c).before 7 t d7, (dats m 0 c).before 8 t d8) (blocks_first m c t h0 _).symm)
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iexact H8
  · obtain ⟨b7, b8⟩ := before_running m c t h0
    simp only [b7, b8]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_from m c t _ (blocks_next m c t h0).symm)
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iexact H8

theorem body_at (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, body_at]
  refine triple_restated (body_sound m c t) rfl .rfl fun _ => ?_
  rw [show cfg0.idle 6 (cfg0.grid.coords t) = false from (live _).1, show cfg0.idle 7 (cfg0.grid.coords t) = false from (live _).2.1]
  exact .rfl

set_option backward.isDefEq.respectTransparency.types false in
/-- The launch's run: the arrays as the data say, and no semaphore left up. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments unchanged, no semaphore left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.AttnIdeal.Hand

end
-- ==== Proof.Attn.Tile.lean ====
/- What one grid point leaves in the three results' blocks, entry by entry: the tile's share of the attention's gradient,
   its masks as tests on row numbers and lanes. -/
module

public import proofs.«01_k».proof.Proof.Attn.Data
public import Idealize.ShloMosaic.Lib.Pointwise
public import Idealize.ShloMosaic.Lib.Pipeline.ValueKit
public import Idealize.ShloMosaic.Lib.Tactic
public import Idealize.ShloMosaic.Lib.WritesUnit
public import Idealize.ShloMosaic.Lib.WholeRead

@[expose] public section

set_option maxRecDepth 16384

noncomputable section

namespace Cert.AttnIdeal.Hand

open Idealize.ShloMosaic Idealize.ShloMosaic.TcCoe Cert.AttnIdeal.Gen

/-- The kernel's causal test on words is the test on numbers. -/
theorem select_keep {α : Type} {K R : ℕ} (x : Fin K) (a : ℕ) (r : Fin R) (hK : K ≤ 2048) (hR : R ≤ 2048) (ha : a ≤ 2048) (A B : α) :
    Scalar.select (IntOp.cmpi .sle (BitVec.ofNat 32 x.val) (IntOp.addi (BitVec.ofNat 32 a) (BitVec.ofNat 32 r.val))) A B
      = if x.val ≤ a + r.val then A else B := by
  have hx := x.isLt
  have hr := r.isLt
  have e : IntOp.addi (BitVec.ofNat 32 a) (BitVec.ofNat 32 r.val) = BitVec.ofNat 32 (a + r.val) := (BitVec.ofNat_add _ _).symm
  have h1 : (BitVec.ofNat 32 x.val).toInt = x.val := by
    rw [BitVec.toInt_eq_toNat_of_lt (by rw [BitVec.toNat_ofNat]; omega), BitVec.toNat_ofNat, Nat.mod_eq_of_lt (by omega)]
  have h2 : (BitVec.ofNat 32 (a + r.val)).toInt = (a + r.val : ℕ) := by
    rw [BitVec.toInt_eq_toNat_of_lt (by rw [BitVec.toNat_ofNat]; omega), BitVec.toNat_ofNat, Nat.mod_eq_of_lt (by omega)]
  rw [e, show IntOp.cmpi .sle (BitVec.ofNat 32 x.val) (BitVec.ofNat 32 (a + r.val)) = BitVec.ofBool (decide ((BitVec.ofNat 32 x.val).toInt ≤ (BitVec.ofNat 32 (a + r.val)).toInt)) from rfl, h1, h2]
  by_cases h : x.val ≤ a + r.val
  · rw [if_pos h, decide_eq_true (by exact_mod_cast h)]; rfl
  · rw [if_neg h, decide_eq_false (by exact_mod_cast h)]; rfl

theorem select_bool {α : Type} (p : Prop) [Decidable p] (A B : α) :
    Scalar.select (BitVec.ofBool (decide p)) A B = if p then A else B := by
  by_cases h : p
  · rw [if_pos h, decide_eq_true h]; rfl
  · rw [if_neg h, decide_eq_false h]; rfl

/-- The kernel's two lane masks on words: the first head's lanes, the second's. -/
theorem select_lanes : ∀ d : Fin 128, IntOp.cmpi .slt (BitVec.ofNat 32 d.val) 64#32 = BitVec.ofBool (decide (d.val / 64 = 0))
    ∧ IntOp.xori (IntOp.cmpi .slt (BitVec.ofNat 32 d.val) 64#32) 1#1 = BitVec.ofBool (decide (d.val / 64 = 1)) := by
  decide +kernel

theorem select_lane0 {α : Type} (d : Fin 128) (A B : α) :
    Scalar.select (IntOp.cmpi .slt (BitVec.ofNat 32 d.val) 64#32) A B = if d.val / 64 = 0 then A else B := by
  rw [(select_lanes d).1]; exact select_bool _ A B

theorem select_lane1 {α : Type} (d : Fin 128) (A B : α) :
    Scalar.select (IntOp.xori (IntOp.cmpi .slt (BitVec.ofNat 32 d.val) 64#32) 1#1) A B = if d.val / 64 = 1 then A else B := by
  rw [(select_lanes d).2]; exact select_bool _ A B

/-- A load of a rectangle of a whole buffer, at an index. -/
theorem load2 {κ : Kind} {sp : Space} {e : EltTy} {A B a b K L : ℕ} {M : Memref sig κ sp ⟨2, ![A, B]⟩ e} (h : M.IsWhole)
    (X : Vec Ideal ⟨2, ![A, B]⟩ e) (inb : ∀ d : Fin 2, (![a, b] : Fin 2 → ℕ) d + (![K, L] : Fin 2 → ℕ) d ≤ (![A, B] : Fin 2 → ℕ) d)
    (x : Fin K) (y : Fin L) :
    View.readAt (Elt Ideal) M.view (Rect.unit (s := ⟨2, ![A, B]⟩) ![a, b] ![K, L] inb).toLoadRect (h.unread X) (ix2 x y)
      = X (ix2 ⟨a + x.val, lt_of_lt_of_le (Nat.add_lt_add_left x.isLt a) (inb 0)⟩
          ⟨b + y.val, lt_of_lt_of_le (Nat.add_lt_add_left y.isLt b) (inb 1)⟩) := by
  rw [h.readAt_unread]
  congr 1
  funext d
  apply Fin.ext
  fin_cases d
  · show a + 1 * x.val = a + x.val
    omega
  · show b + 1 * y.val = b + y.val
    omega

theorem load3 {κ : Kind} {sp : Space} {e : EltTy} {A B C a b c K L J : ℕ} {M : Memref sig κ sp ⟨3, ![A, B, C]⟩ e} (h : M.IsWhole)
    (X : Vec Ideal ⟨3, ![A, B, C]⟩ e)
    (inb : ∀ d : Fin 3, (![a, b, c] : Fin 3 → ℕ) d + (![K, L, J] : Fin 3 → ℕ) d ≤ (![A, B, C] : Fin 3 → ℕ) d)
    (x : Fin K) (y : Fin L) (z : Fin J) :
    View.readAt (Elt Ideal) M.view (Rect.unit (s := ⟨3, ![A, B, C]⟩) ![a, b, c] ![K, L, J] inb).toLoadRect (h.unread X) (ix3 x y z)
      = X (ix3 ⟨a + x.val, lt_of_lt_of_le (Nat.add_lt_add_left x.isLt a) (inb 0)⟩
          ⟨b + y.val, lt_of_lt_of_le (Nat.add_lt_add_left y.isLt b) (inb 1)⟩
          ⟨c + z.val, lt_of_lt_of_le (Nat.add_lt_add_left z.isLt c) (inb 2)⟩) := by
  rw [h.readAt_unread]
  congr 1
  funext d
  apply Fin.ext
  fin_cases d
  · show a + 1 * x.val = a + x.val
    omega
  · show b + 1 * y.val = b + y.val
    omega
  · show c + 1 * z.val = c + z.val
    omega

/-- Entry `k` of head `h` among the 256 lanes two heads share. -/
def lane (h : Fin 2) (k : Fin 128) : Fin 256 :=
  match h with
  | 0 => ⟨k.val, by omega⟩
  | 1 => ⟨128 + k.val, by omega⟩

theorem lane_val (h : Fin 2) (k : Fin 128) : (lane h k).val = 128 * h.val + k.val := by
  match h with
  | 0 => exact (Nat.zero_add _).symm
  | 1 => rfl

variable (x0 : Vec Ideal S256x256 .bf16) (x1 : Vec Ideal S2048x256 .bf16) (x2 : Vec Ideal S2048x128 .bf16)
  (x3 x4 : Vec Ideal S256x128 .f32) (x5 : Vec Ideal S2x256x1 .f32)

/-- The written scale of the scores. -/
def sc : EReal := Ideal.ofBits .f32 1037108716#32

/-- The weight of key `j` for query `r` of the tile, head `h`. -/
def pE (h : Fin 2) (r : Fin 256) (j : Fin 2048) : EReal :=
  Ideal.exp ((∑ e : Fin 128, x0 (ix2 r (lane h e)) * x1 (ix2 j (lane h e))) * sc - x5 (ix3 h r 0))

/-- The gradient of its score. -/
def dsE (h : Fin 2) (r : Fin 256) (j : Fin 2048) : EReal :=
  pE x0 x1 x5 h r j * (∑ d : Fin 128, (if d.val / 64 = h.val then x4 (ix2 r d) * x2 (ix2 j d) else 0)
    - ∑ d : Fin 128, (if d.val / 64 = h.val then x4 (ix2 r d) * x3 (ix2 r d) else 0)) * sc

/-- The tile's dq. -/
def dqE (n : ℕ) (h : Fin 2) (r : Fin 256) (k : Fin 128) : EReal :=
  ∑ j : Fin 2048, if j.val ≤ 256 * n + r.val then dsE x0 x1 x2 x3 x4 x5 h r j * x1 (ix2 j (lane h k)) else 0

/-- What the tile adds to dk. -/
def dkE (n : ℕ) (h : Fin 2) (j : Fin 2048) (k : Fin 128) : EReal :=
  ∑ r : Fin 256, if j.val ≤ 256 * n + r.val then dsE x0 x1 x2 x3 x4 x5 h r j * x0 (ix2 r (lane h k)) else 0

/-- What the tile adds to dv. -/
def dvE (n : ℕ) (j : Fin 2048) (d : Fin 128) : EReal :=
  (∑ r : Fin 256, if d.val / 64 = 0 then (if j.val ≤ 256 * n + r.val then pE x0 x1 x5 0 r j * x4 (ix2 r d) else 0) else 0)
    + ∑ r : Fin 256, if d.val / 64 = 1 then (if j.val ≤ 256 * n + r.val then pE x0 x1 x5 1 r j * x4 (ix2 r d) else 0) else 0

/-- A sum over the keys up to `K`, the rest masked. -/
theorem sum_keys {K : ℕ} (hK : K ≤ 2048) (f : Fin K → EReal) (g : Fin 2048 → EReal)
    (h : ∀ x : Fin K, f x = g ⟨x.val, lt_of_lt_of_le x.isLt hK⟩) (h0 : ∀ j : Fin 2048, K ≤ j.val → g j = 0) :
    ∑ x, f x = ∑ j, g j := by
  rw [← Finset.sum_subset (Finset.subset_univ (Finset.univ.map (Fin.castLEEmb hK))) fun j _ hj => h0 j (by
    by_contra hlt
    exact hj (Finset.mem_map.mpr ⟨⟨j.val, by omega⟩, Finset.mem_univ _, Fin.ext rfl⟩))]
  rw [Finset.sum_map]
  exact Finset.sum_congr rfl fun x _ => h x

theorem dk_masked (n : ℕ) (h : Fin 2) (j : Fin 2048) (k : Fin 128) (hj : ¬j.val < 256 * (n + 1)) :
    dkE x0 x1 x2 x3 x4 x5 n h j k = 0 :=
  Finset.sum_eq_zero fun r _ => if_neg (by have := r.isLt; omega)

theorem dv_masked (n : ℕ) (j : Fin 2048) (d : Fin 128) (hj : ¬j.val < 256 * (n + 1)) :
    dvE x0 x1 x4 x5 n j d = 0 := by
  have e : ∀ r : Fin 256, ¬j.val ≤ 256 * n + r.val := fun r => by have := r.isLt; omega
  unfold dvE
  simp only [e, if_false, ite_self, Finset.sum_const_zero, add_zero]

/-- A load of what a store of the whole block left, whatever was stored beside the load since. -/
theorem cov_whole {κ : Kind} {sp : Space} {A B a b K L : ℕ} (v : View sig κ sp ⟨2, ![A, B]⟩ .f32)
    (inb : ∀ d : Fin 2, (![0, 0] : Fin 2 → ℕ) d + (![A, B] : Fin 2 → ℕ) d ≤ (![A, B] : Fin 2 → ℕ) d)
    (w : Vec Ideal ⟨2, ![A, B]⟩ .f32)
    (inb' : ∀ d : Fin 2, (![a, b] : Fin 2 → ℕ) d + (![K, L] : Fin 2 → ℕ) d ≤ (![A, B] : Fin 2 → ℕ) d) (x : Fin K) (y : Fin L) :
    View.readCov (Val := Elt Ideal) v [⟨Rect.unit (s := ⟨2, ![A, B]⟩) ![0, 0] ![A, B] inb, w⟩]
        (Rect.unit (s := ⟨2, ![A, B]⟩) ![a, b] ![K, L] inb').toLoadRect (ix2 x y)
      = w ((Rect.unit (s := ⟨2, ![A, B]⟩) ![a, b] ![K, L] inb').toLoadRect.idx (ix2 x y)) :=
  View.read_writes_cons_unit_of_mem _ _ _ _ _ _ _ rfl (Fin.forall_fin_two.mpr ⟨(Nat.zero_add _).symm, (Nat.zero_add _).symm⟩)

theorem cov_beside {κ : Kind} {sp : Space} {A B b K L : ℕ} (v : View sig κ sp ⟨2, ![A, B]⟩ .f32)
    (inb : ∀ d : Fin 2, (![0, 0] : Fin 2 → ℕ) d + (![A, B] : Fin 2 → ℕ) d ≤ (![A, B] : Fin 2 → ℕ) d)
    (w : Vec Ideal ⟨2, ![A, B]⟩ .f32)
    (inb' : ∀ d : Fin 2, (![0, b] : Fin 2 → ℕ) d + (![K, L] : Fin 2 → ℕ) d ≤ (![A, B] : Fin 2 → ℕ) d)
    (inb'' : ∀ d : Fin 2, (![0, 0] : Fin 2 → ℕ) d + (![K, b] : Fin 2 → ℕ) d ≤ (![A, B] : Fin 2 → ℕ) d)
    (u : Vec Ideal ⟨2, ![K, b]⟩ .f32) (x : Fin K) (y : Fin L) :
    View.readCov (Val := Elt Ideal) v [⟨Rect.unit (s := ⟨2, ![A, B]⟩) ![0, 0] ![K, b] inb'', u⟩,
          ⟨Rect.unit (s := ⟨2, ![A, B]⟩) ![0, 0] ![A, B] inb, w⟩]
        (Rect.unit (s := ⟨2, ![A, B]⟩) ![0, b] ![K, L] inb').toLoadRect (ix2 x y)
      = w ((Rect.unit (s := ⟨2, ![A, B]⟩) ![0, b] ![K, L] inb').toLoadRect.idx (ix2 x y)) :=
  (View.read_writes_cons_unit_of_not_mem _ _ _ _ _ _ rfl 1 (Or.inr (by show 0 + b ≤ b + 1 * y.val; omega))).trans
    (View.read_writes_cons_unit_of_mem _ _ _ _ _ _ _ rfl (Fin.forall_fin_two.mpr ⟨(Nat.zero_add _).symm, (Nat.zero_add _).symm⟩))

end Cert.AttnIdeal.Hand

end
-- ==== Proof.Attn.Reads.lean ====
/- The blocks the attention's backward is given at a grid point, entry by entry, as the problem's own arrays. -/
module

public import proofs.«01_k».proof.Proof.Attn.Tile
public import proofs.«01_k».proof.Proof.Gen.AttnRefIdeal.Read
public import Idealize.ShloMosaic.Lib.StableHlo.ReadAt
public import Idealize.ShloMosaic.Lib.Claim

@[expose] public section

set_option maxRecDepth 16384

noncomputable section

namespace Cert.AttnIdeal.Hand

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 8, t.val / 8] ∧ win0_1.index t = ![0, t.val / 8]
    ∧ win0_2.index t = ![0, t.val / 8] ∧ win0_3.index t = ![t.val % 8, t.val / 8] ∧ win0_4.index t = ![t.val % 8, t.val / 8]
    ∧ win0_5.index t = ![t.val / 8, t.val % 8, 0] ∧ win0_6.index t = ![t.val % 8, t.val / 8]
    ∧ win0_7.index t = ![0, t.val / 8] ∧ win0_8.index t = ![0, t.val / 8] :=
  (by decide +kernel : ∀ t : Fin grid0.N, win0_0.index t = ![t.val % 8, t.val / 8] ∧ win0_1.index t = ![0, t.val / 8]
    ∧ win0_2.index t = ![0, t.val / 8] ∧ win0_3.index t = ![t.val % 8, t.val / 8] ∧ win0_4.index t = ![t.val % 8, t.val / 8]
    ∧ win0_5.index t = ![t.val / 8, t.val % 8, 0] ∧ win0_6.index t = ![t.val % 8, t.val / 8]
    ∧ win0_7.index t = ![0, t.val / 8] ∧ win0_8.index t = ![0, t.val / 8])

/-- The arguments, entry by entry: the queries, the keys, the values, the output's cotangent. -/
def aQ (c : Dev nD) (i : Fin 2048) (h : Fin 8) (k : Fin 96) : EReal := m ((c : Thread nD τ).loc main_arg0) (ix3 i h k)
def aK (c : Dev nD) (i : Fin 2048) (h : Fin 8) (k : Fin 96) : EReal := m ((c : Thread nD τ).loc main_arg1) (ix3 i h k)
def aV (c : Dev nD) (i : Fin 2048) (h : Fin 8) (d : Fin 64) : EReal := m ((c : Thread nD τ).loc main_arg2) (ix3 i h d)
def aD (c : Dev nD) (i : Fin 2048) (h : Fin 8) (d : Fin 64) : EReal := m ((c : Thread nD τ).loc main_arg3) (ix3 i h d)

/-- Each head's 96 entries followed by 32 zeros. -/
def padz (A : Fin 2048 → Fin 8 → Fin 96 → EReal) (i : Fin 2048) (h : Fin 8) (k : Fin 128) : EReal :=
  if hk : k.val < 96 then A i h ⟨k.val, hk⟩ else 0

/-- The row, and the head, that a grid point's row and head are. -/
def row (t : Fin cfg0.N) (r : Fin 256) : Fin 2048 := ⟨256 * (t.val % 8) + r.val, by omega⟩
def head (t : Fin cfg0.N) (h : Fin 2) : Fin 8 := ⟨2 * (t.val / 8) + h.val, by
  have hN : t.val < 32 := lt_of_lt_of_eq t.isLt (show cfg0.N = 32 from N_0)
  omega⟩

/-- Entry `d` of head `h` among the 128 lanes two heads share. -/
def half (h : Fin 2) (d : Fin 64) : Fin 128 := ⟨64 * h.val + d.val, by omega⟩

theorem col_lt (h : Fin 8) (k : Fin 128) : 128 * h.val + k.val < 1024 := by omega
theorem col_lt' (h : Fin 8) (d : Fin 64) : 64 * h.val + d.val < 512 := by omega

/-- The causal test on words is the test on numbers. -/
theorem select_causal {α : Type} (i j : Fin 2048) (A B : α) :
    Scalar.select (IntOp.cmpi .sle (BitVec.ofNat 32 j.val) (BitVec.ofNat 32 i.val)) A B = if j.val ≤ i.val then A else B := by
  have e := select_keep j 0 i le_rfl le_rfl (Nat.zero_le _) A B
  rw [Nat.zero_add] at e
  rw [← e]
  congr 2
  exact (BitVec.zero_add _).symm

/-- The score of key `j` for query `i` of head `h`, the future masked. -/
def eS (c : Dev nD) (h : Fin 8) (i j : Fin 2048) : EReal :=
  if j.val ≤ i.val then (∑ d, aQ m c i h d * aK m c j h d) * sc else Ideal.ofBits .f32 0xFF800000#32

/-- The greatest score of a query, its weights before division, and their sum. -/
def eM (c : Dev nD) (h : Fin 8) (i : Fin 2048) : EReal :=
  Finset.fold max (Ideal.ofBits .f32 0xFF800000#32) (fun j => eS m c h i j) Finset.univ
def eE (c : Dev nD) (h : Fin 8) (i j : Fin 2048) : EReal := Ideal.exp (eS m c h i j - eM m c h i)
def eL (c : Dev nD) (h : Fin 8) (i : Fin 2048) : EReal := ∑ j, eE m c h i j

theorem sitofp_zero : (FloatOps.sitofp (F := Ideal) FTy.f32 (0#32) : EReal) = 0 :=
  (show (((0#32 : BitVec 32).toInt : ℝ) : EReal) = 0 by simp)

set_option maxHeartbeats 4000000 in
theorem v24 (c : Dev nD) (i : Fin 2048) (h : Fin 8) (k : Fin 128) :
    (V m c main_v24 (ix2 i ⟨128 * h.val + k.val, col_lt h k⟩) : EReal) = padz (aQ m c) i h k := by
  have hk := k.isLt
  have e1 : (128 * h.val + k.val) / 128 = h.val := by omega
  have e2 : (128 * h.val + k.val) % 128 = k.val := by omega
  unfold V
  after_reads_simp
  simp only [StableHlo.TRef.toBuf, StableHlo.TRef.ofBuf, cast_eq]
  pointwise
  unfold padz
  by_cases h96 : k.val < 96
  · rw [dif_pos h96, dif_pos ⟨by rw [e1]; exact h.isLt, by rw [e2]; exact h96⟩]
    exact congrArg₂ (aQ m c i) (Fin.ext e1) (Fin.ext e2)
  · rw [dif_neg h96, dif_neg fun hh => h96 (by rw [← e2]; exact hh.2)]
    exact sitofp_zero

set_option maxHeartbeats 4000000 in
theorem v27 (c : Dev nD) (i : Fin 2048) (h : Fin 8) (k : Fin 128) :
    (V m c main_v27 (ix2 i ⟨128 * h.val + k.val, col_lt h k⟩) : EReal) = padz (aK m c) i h k := by
  have hk := k.isLt
  have e1 : (128 * h.val + k.val) / 128 = h.val := by omega
  have e2 : (128 * h.val + k.val) % 128 = k.val := by omega
  unfold V
  after_reads_simp
  simp only [StableHlo.TRef.toBuf, StableHlo.TRef.ofBuf, cast_eq]
  pointwise
  unfold padz
  by_cases h96 : k.val < 96
  · rw [dif_pos h96, dif_pos ⟨by rw [e1]; exact h.isLt, by rw [e2]; exact h96⟩]
    exact congrArg₂ (aK m c i) (Fin.ext e1) (Fin.ext e2)
  · rw [dif_neg h96, dif_neg fun hh => h96 (by rw [← e2]; exact hh.2)]
    exact sitofp_zero

set_option maxHeartbeats 4000000 in
theorem v29 (c : Dev nD) (i : Fin 2048) (h : Fin 8) (d : Fin 64) :
    (V m c main_v29 (ix2 i ⟨64 * h.val + d.val, col_lt' h d⟩) : EReal) = aV m c i h d := by
  unfold V
  after_reads_simp
  pointwise
  exact congrArg₂ (aV m c i) (Fin.ext (by show (64 * h.val + d.val) / 64 = h.val; omega))
    (Fin.ext (by show (64 * h.val + d.val) % 64 = d.val; omega))

set_option maxHeartbeats 4000000 in
theorem v30 (c : Dev nD) (i : Fin 2048) (h : Fin 8) (d : Fin 64) :
    (V m c main_v30 (ix2 i ⟨64 * h.val + d.val, col_lt' h d⟩) : EReal) = aD m c i h d := by
  unfold V
  after_reads_simp
  pointwise
  rfl

set_option maxHeartbeats 4000000 in
theorem v18 (c : Dev nD) (h : Fin 8) (i j : Fin 2048) :
    (V m c main_v18 (ix3 h i j) : EReal) = Ideal.div (eE m c h i j) (eL m c h i) := by
  unfold V
  after_reads_simp
  simp only [StableHlo.TRef.toBuf, StableHlo.TRef.ofBuf, cast_eq]
  pointwise
  simp only [select_causal]
  rfl

/-- The attention's output from its weights and its values. -/
def weighted (x : FVec Ideal S8x2048x2048 .f32) (v : FVec Ideal S2048x8x64 .f32) : FVec Ideal S2048x512 .f32 :=
  shapeCast S2048x512 (transpose S2048x8x64 [2, 0, 1] (Host.dotGeneral dot_S2048x8x64_S8x2048x2048_S8x64x2048_0_2_2_1_1_0 none v x)
    transposes_S8x64x2048_S2048x8x64_2_0_1) shapeCasts_S2048x8x64_S2048x512

theorem weighted_at (x : FVec Ideal S8x2048x2048 .f32) (v : FVec Ideal S2048x8x64 .f32) (i : Fin 2048) (h : Fin 8) (d : Fin 64) :
    (weighted x v (ix2 i ⟨64 * h.val + d.val, col_lt' h d⟩) : EReal) = ∑ j, v (ix3 j h d) * x (ix3 h i j) := by
  unfold weighted
  pointwise

set_option maxHeartbeats 4000000 in
theorem v21_eq (c : Dev nD) : V m c main_v21 = weighted (V m c main_v18) (m ((c : Thread nD τ).loc main_arg2)) := by
  unfold V
  after_reads_simp
  rfl

/-- An entry of the attention's output. -/
def eO (c : Dev nD) (i : Fin 2048) (h : Fin 8) (d : Fin 64) : EReal := ∑ j, aV m c j h d * Ideal.div (eE m c h i j) (eL m c h i)

theorem v21 (c : Dev nD) (i : Fin 2048) (h : Fin 8) (d : Fin 64) :
    (V m c main_v21 (ix2 i ⟨64 * h.val + d.val, col_lt' h d⟩) : EReal) = eO m c i h d := by
  have e : (V m c main_v21 (ix2 i ⟨64 * h.val + d.val, col_lt' h d⟩) : EReal)
      = weighted (V m c main_v18) (m ((c : Thread nD τ).loc main_arg2)) (ix2 i ⟨64 * h.val + d.val, col_lt' h d⟩) :=
    congrFun (v21_eq m c) _
  exact e.trans ((weighted_at _ _ i h d).trans
    (Finset.sum_congr (M := EReal) rfl fun j _ => congrArg₂ (· * ·) rfl (v18 m c h i j)))

set_option maxHeartbeats 4000000 in
theorem v11 (c : Dev nD) (h : Fin 8) (i : Fin 2048) : (V m c main_v11 (ix3 h i 0) : EReal) = eM m c h i := by
  unfold V
  after_reads_simp
  simp only [StableHlo.TRef.toBuf, StableHlo.TRef.ofBuf, cast_eq]
  pointwise
  simp only [select_causal]
  rfl

set_option maxHeartbeats 4000000 in
theorem v16 (c : Dev nD) (h : Fin 8) (i : Fin 2048) : (V m c main_v16 (ix3 h i 0) : EReal) = eL m c h i := by
  unfold V
  after_reads_simp
  simp only [StableHlo.TRef.toBuf, StableHlo.TRef.ofBuf, cast_eq]
  pointwise
  simp only [select_causal]
  rfl

/-- The logarithm of the weights' sum before the greatest score is taken away. -/
def logSum (x y : FVec Ideal S8x2048x1 .f32) : FVec Ideal S8x2048x1 .f32 := addf x (Host.log y)

theorem logSum_at (x y : FVec Ideal S8x2048x1 .f32) (i : S8x2048x1.Idx) : (logSum x y i : EReal) = x i + Ideal.log (y i) := rfl

set_option maxHeartbeats 4000000 in
theorem v32_eq (c : Dev nD) : V m c main_v32 = logSum (V m c main_v11) (V m c main_v16) := by
  unfold V
  after_reads_simp
  rfl

/-- The kernel's argument of that name. -/
def eZ (c : Dev nD) (h : Fin 8) (i : Fin 2048) : EReal := eM m c h i + Ideal.log (eL m c h i)

theorem v32 (c : Dev nD) (h : Fin 8) (i : Fin 2048) : (V m c main_v32 (ix3 h i 0) : EReal) = eZ m c h i := by
  have e : (V m c main_v32 (ix3 h i 0) : EReal) = logSum (V m c main_v11) (V m c main_v16) (ix3 h i 0) :=
    congrFun (v32_eq m c) _
  rw [e, logSum_at]
  exact congrArg₂ (fun x y => x + Ideal.log y) (v11 m c h i) (v16 m c h i)

theorem rd0 (c : Dev nD) (t : Fin cfg0.N) (r : Fin 256) (h : Fin 2) (k : Fin 128) :
    (iblk m c 0 t (ix2 r (lane h k)) : EReal) = padz (aQ m c) (row t r) (head t h) k := by
  refine Eq.trans ?_ (v24 m c _ _ _)
  blk_ext [iblk, idx t]
  · simp only [row]; omega
  · simp only [head, lane_val]; omega

theorem rd1 (c : Dev nD) (t : Fin cfg0.N) (j : Fin 2048) (h : Fin 2) (k : Fin 128) :
    (iblk m c 1 t (ix2 j (lane h k)) : EReal) = padz (aK m c) j (head t h) k := by
  refine Eq.trans ?_ (v27 m c _ _ _)
  blk_ext [iblk, idx t]
  · simp only [head, lane_val]; omega

theorem rd2 (c : Dev nD) (t : Fin cfg0.N) (j : Fin 2048) (h : Fin 2) (d : Fin 64) :
    (iblk m c 2 t (ix2 j (half h d)) : EReal) = aV m c j (head t h) d := by
  refine Eq.trans ?_ (v29 m c _ _ _)
  blk_ext [iblk, idx t]
  · simp only [head, half]; omega

theorem rd3 (c : Dev nD) (t : Fin cfg0.N) (r : Fin 256) (h : Fin 2) (d : Fin 64) :
    (iblk m c 3 t (ix2 r (half h d)) : EReal) = eO m c (row t r) (head t h) d := by
  refine Eq.trans ?_ (v21 m c _ _ _)
  blk_ext [iblk, idx t]
  · simp only [row]; omega
  · simp only [head, half]; omega

theorem rd4 (c : Dev nD) (t : Fin cfg0.N) (r : Fin 256) (h : Fin 2) (d : Fin 64) :
    (iblk m c 4 t (ix2 r (half h d)) : EReal) = aD m c (row t r) (head t h) d := by
  refine Eq.trans ?_ (v30 m c _ _ _)
  blk_ext [iblk, idx t]
  · simp only [row]; omega
  · simp only [head, half]; omega

theorem blk5 (A : FVec Ideal S8x2048x1 .f32) (t : Fin cfg0.N) (h : Fin 2) (r : Fin 256) :
    (View.read (Elt Ideal) ((cfg0.win 5).blk t).view A (ix3 h r (0 : Fin 1)) : EReal) = A (ix3 (head t h) (row t r) (0 : Fin 1)) := by
  blk_ext [idx t]
  · simp only [head]; omega
  · simp only [row]; omega

theorem rd5 (c : Dev nD) (t : Fin cfg0.N) (h : Fin 2) (r : Fin 256) :
    (iblk m c 5 t (ix3 h r (0 : Fin 1)) : EReal) = eZ m c (head t h) (row t r) := by
  unfold iblk
  exact (blk5 (V m c main_v32) t h r).trans (v32 m c (head t h) (row t r))

end Cert.AttnIdeal.Hand

end
-- ==== Proof.Attn.TileDq.lean ====
/- The tile's dq: what its two stores leave, head by head. -/
module

public import proofs.«01_k».proof.Proof.Attn.Tile

@[expose] public section

set_option maxRecDepth 16384

noncomputable section

namespace Cert.AttnIdeal.Hand

open Idealize.ShloMosaic Idealize.ShloMosaic.TcCoe Cert.AttnIdeal.Gen

variable (x0 : Vec Ideal S256x256 .bf16) (x1 : Vec Ideal S2048x256 .bf16) (x2 : Vec Ideal S2048x128 .bf16)
  (x3 x4 : Vec Ideal S256x128 .f32) (x5 : Vec Ideal S2x256x1 .f32)

variable (c : Dev nD) (i : grid0.Coords)
    (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S2x256x1 .f32) (harg7 : arg7.IsWhole)
    (arg9 : Memref sig .tc .vmem S256x256 .bf16) (harg9 : arg9.IsWhole) (arg10 : Memref sig .tc .vmem S2048x256 .f32) (harg10 : arg10.IsWhole) (arg11 : Memref sig .tc .vmem S2048x128 .f32) (harg11 : arg11.IsWhole)
    (y7 : Vec Ideal S2048x256 .f32) (y8 : Vec Ideal S2048x128 .f32)

set_option maxHeartbeats 8000000 in
theorem tile_dq0 (n : ℕ) (hn : (i 1).val = n) (hlt : n < 8) (f : arg9.view.ty.Contents (Elt Ideal)) (r : Fin 256) (k : Fin 128) :
    arg9.view.read (Elt Ideal) (arg9.view.writes (Elt Ideal) f (run n c i hn hlt arg2 harg2 arg3 harg3 arg4 harg4 arg5 harg5 arg6 harg6 arg7 harg7 arg9 harg9 arg10 harg10 arg11 harg11 x0 x1 x2 x3 x4 x5 y7 y8).1) (ix2 r (lane 0 k))
      = dqE x0 x1 x2 x3 x4 x5 n 0 r k := by
  match n, hlt with
  | 0, _ | 1, _ | 2, _ | 3, _ | 4, _ | 5, _ | 6, _ | 7, _ =>
    dsimp only [run]
    frame_open
    refine (View.read_writes_cons_unit_of_not_mem _ _ _ _ _ _ rfl 1 (Or.inl (by show k.val < 128; omega))).trans ?_
    refine (View.read_writes_cons_unit_of_mem _ _ _ _ _ _ (ix2 r k) rfl (Fin.forall_fin_two.mpr ⟨(Nat.zero_add _).symm, (Nat.zero_add _).symm⟩)).trans ?_
    open_payloads
    pointwise
    simp only [harg2.read_unread, harg3.read_unread, harg4.read_unread, harg5.read_unread, harg6.read_unread, harg7.read_unread, harg10.read_unread, harg11.read_unread]
    refine sum_keys (by decide) _ _ (fun x => ?_) (fun j hj => ?_)
    · refine (select_keep x _ r (by decide) (by decide) (by decide) _ _).trans ?_
      simp only [select_lane0, select_lane1]
      rfl
    · exact if_neg (by have := r.isLt; have := j.isLt; omega)
  | n + 8, h => exact absurd h (by omega)

set_option maxHeartbeats 8000000 in
theorem tile_dq1 (n : ℕ) (hn : (i 1).val = n) (hlt : n < 8) (f : arg9.view.ty.Contents (Elt Ideal)) (r : Fin 256) (k : Fin 128) :
    arg9.view.read (Elt Ideal) (arg9.view.writes (Elt Ideal) f (run n c i hn hlt arg2 harg2 arg3 harg3 arg4 harg4 arg5 harg5 arg6 harg6 arg7 harg7 arg9 harg9 arg10 harg10 arg11 harg11 x0 x1 x2 x3 x4 x5 y7 y8).1) (ix2 r (lane 1 k))
      = dqE x0 x1 x2 x3 x4 x5 n 1 r k := by
  match n, hlt with
  | 0, _ | 1, _ | 2, _ | 3, _ | 4, _ | 5, _ | 6, _ | 7, _ =>
    dsimp only [run]
    frame_open
    refine (View.read_writes_cons_unit_of_mem _ _ _ _ _ _ (ix2 r k) rfl (Fin.forall_fin_two.mpr ⟨by exact (Nat.zero_add _).symm, by rfl⟩)).trans ?_
    open_payloads
    pointwise
    simp only [harg2.read_unread, harg3.read_unread, harg4.read_unread, harg5.read_unread, harg6.read_unread, harg7.read_unread, harg10.read_unread, harg11.read_unread]
    refine sum_keys (by decide) _ _ (fun x => ?_) (fun j hj => ?_)
    · refine (select_keep x _ r (by decide) (by decide) (by decide) _ _).trans ?_
      simp only [select_lane0, select_lane1]
      rfl
    · exact if_neg (by have := r.isLt; have := j.isLt; omega)
  | n + 8, h => exact absurd h (by omega)

end Cert.AttnIdeal.Hand

end
-- ==== Proof.Attn.TileDk.lean ====
/- The tile's share of dk: added to what the tiles before left; on the first tile, to the cleared block. -/
module

public import proofs.«01_k».proof.Proof.Attn.Tile

@[expose] public section

set_option maxRecDepth 16384

noncomputable section

namespace Cert.AttnIdeal.Hand

open Idealize.ShloMosaic Idealize.ShloMosaic.TcCoe Cert.AttnIdeal.Gen

variable (x0 : Vec Ideal S256x256 .bf16) (x1 : Vec Ideal S2048x256 .bf16) (x2 : Vec Ideal S2048x128 .bf16)
  (x3 x4 : Vec Ideal S256x128 .f32) (x5 : Vec Ideal S2x256x1 .f32)

variable (c : Dev nD) (i : grid0.Coords)
    (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S2x256x1 .f32) (harg7 : arg7.IsWhole)
    (arg9 : Memref sig .tc .vmem S256x256 .bf16) (harg9 : arg9.IsWhole) (arg10 : Memref sig .tc .vmem S2048x256 .f32) (harg10 : arg10.IsWhole) (arg11 : Memref sig .tc .vmem S2048x128 .f32) (harg11 : arg11.IsWhole)
    (y7 : Vec Ideal S2048x256 .f32) (y8 : Vec Ideal S2048x128 .f32)

set_option maxHeartbeats 8000000 in
theorem tile_dk0 (n : ℕ) (hn : (i 1).val = n) (hlt : n < 8) (hpos : 0 < n) (j : Fin 2048) (k : Fin 128) :
    arg10.view.read (Elt Ideal) (arg10.view.writes (Elt Ideal) (harg10.unread y7) (run n c i hn hlt arg2 harg2 arg3 harg3 arg4 harg4 arg5 harg5 arg6 harg6 arg7 harg7 arg9 harg9 arg10 harg10 arg11 harg11 x0 x1 x2 x3 x4 x5 y7 y8).2.1) (ix2 j (lane 0 k))
      = y7 (ix2 j (lane 0 k)) + dkE x0 x1 x2 x3 x4 x5 n 0 j k := by
  by_cases hj : j.val < 256 * (n + 1)
  · match n, hlt, hpos, hj with
    | 1, _, _, hj | 2, _, _, hj | 3, _, _, hj | 4, _, _, hj | 5, _, _, hj | 6, _, _, hj | 7, _, _, hj =>
      dsimp only [run]
      frame_open
      refine (View.read_writes_cons_unit_of_not_mem _ _ _ _ _ _ rfl 1 (Or.inl (by show k.val < 128; omega))).trans ?_
      refine (View.read_writes_cons_unit_of_mem _ _ _ _ _ _ (ix2 ⟨j.val, hj⟩ k) rfl (Fin.forall_fin_two.mpr ⟨(Nat.zero_add _).symm, (Nat.zero_add _).symm⟩)).trans ?_
      open_payloads
      pointwise
      simp only [harg2.read_unread, harg3.read_unread, harg4.read_unread, harg5.read_unread, harg6.read_unread, harg7.read_unread, harg10.read_unread, harg11.read_unread]
      refine congrArg₂ (· + ·) (congrArg _ (by first | rfl | (congr 1; simp [lane]))) ?_
      refine Finset.sum_congr rfl fun r _ => ?_
      refine (select_keep (⟨j.val, hj⟩ : Fin _) _ r (by decide) (by decide) (by decide) _ _).trans ?_
      simp only [select_lane0, select_lane1]
      rfl
    | 0, _, h, _ => exact absurd h (by omega)
    | n + 8, h, _, _ => exact absurd h (by omega)
  · rw [(dk_masked x0 x1 x2 x3 x4 x5 n 0 j k hj), add_zero]
    match n, hlt, hpos, hj with
    | 1, _, _, hj | 2, _, _, hj | 3, _, _, hj | 4, _, _, hj | 5, _, _, hj | 6, _, _, hj | 7, _, _, hj =>
      dsimp only [run]
      frame_open
      refine (View.read_writes_cons_unit_of_not_mem _ _ _ _ _ _ rfl 0 (Or.inr ((Nat.zero_add _).trans_le (Nat.le_of_not_lt hj)))).trans ?_
      refine (View.read_writes_cons_unit_of_not_mem _ _ _ _ _ _ rfl 0 (Or.inr ((Nat.zero_add _).trans_le (Nat.le_of_not_lt hj)))).trans ?_
      exact congrFun (harg10.read_unread _) _
    | 0, _, h, _ => exact absurd h (by omega)
    | n + 8, h, _, _ => exact absurd h (by omega)

set_option maxHeartbeats 8000000 in
theorem tile_dk1 (n : ℕ) (hn : (i 1).val = n) (hlt : n < 8) (hpos : 0 < n) (j : Fin 2048) (k : Fin 128) :
    arg10.view.read (Elt Ideal) (arg10.view.writes (Elt Ideal) (harg10.unread y7) (run n c i hn hlt arg2 harg2 arg3 harg3 arg4 harg4 arg5 harg5 arg6 harg6 arg7 harg7 arg9 harg9 arg10 harg10 arg11 harg11 x0 x1 x2 x3 x4 x5 y7 y8).2.1) (ix2 j (lane 1 k))
      = y7 (ix2 j (lane 1 k)) + dkE x0 x1 x2 x3 x4 x5 n 1 j k := by
  by_cases hj : j.val < 256 * (n + 1)
  · match n, hlt, hpos, hj with
    | 1, _, _, hj | 2, _, _, hj | 3, _, _, hj | 4, _, _, hj | 5, _, _, hj | 6, _, _, hj | 7, _, _, hj =>
      dsimp only [run]
      frame_open
      refine (View.read_writes_cons_unit_of_mem _ _ _ _ _ _ (ix2 ⟨j.val, hj⟩ k) rfl (Fin.forall_fin_two.mpr ⟨by exact (Nat.zero_add _).symm, by rfl⟩)).trans ?_
      open_payloads
      pointwise
      simp only [harg2.read_unread, harg3.read_unread, harg4.read_unread, harg5.read_unread, harg6.read_unread, harg7.read_unread, harg10.read_unread, harg11.read_unread]
      refine congrArg₂ (· + ·) (congrArg _ (by first | rfl | (congr 1; simp [lane]))) ?_
      refine Finset.sum_congr rfl fun r _ => ?_
      refine (select_keep (⟨j.val, hj⟩ : Fin _) _ r (by decide) (by decide) (by decide) _ _).trans ?_
      simp only [select_lane0, select_lane1]
      rfl
    | 0, _, h, _ => exact absurd h (by omega)
    | n + 8, h, _, _ => exact absurd h (by omega)
  · rw [(dk_masked x0 x1 x2 x3 x4 x5 n 1 j k hj), add_zero]
    match n, hlt, hpos, hj with
    | 1, _, _, hj | 2, _, _, hj | 3, _, _, hj | 4, _, _, hj | 5, _, _, hj | 6, _, _, hj | 7, _, _, hj =>
      dsimp only [run]
      frame_open
      refine (View.read_writes_cons_unit_of_not_mem _ _ _ _ _ _ rfl 0 (Or.inr ((Nat.zero_add _).trans_le (Nat.le_of_not_lt hj)))).trans ?_
      refine (View.read_writes_cons_unit_of_not_mem _ _ _ _ _ _ rfl 0 (Or.inr ((Nat.zero_add _).trans_le (Nat.le_of_not_lt hj)))).trans ?_
      exact congrFun (harg10.read_unread _) _
    | 0, _, h, _ => exact absurd h (by omega)
    | n + 8, h, _, _ => exact absurd h (by omega)

set_option maxHeartbeats 8000000 in
theorem first_dk0 (n : ℕ) (h0 : n = 0) (hn : (i 1).val = n) (hlt : n < 8) (j : Fin 2048) (k : Fin 128) :
    arg10.view.read (Elt Ideal) (arg10.view.writes (Elt Ideal) (harg10.unread y7) (run n c i hn hlt arg2 harg2 arg3 harg3 arg4 harg4 arg5 harg5 arg6 harg6 arg7 harg7 arg9 harg9 arg10 harg10 arg11 harg11 x0 x1 x2 x3 x4 x5 y7 y8).2.1) (ix2 j (lane 0 k))
      = dkE x0 x1 x2 x3 x4 x5 n 0 j k := by
  subst h0
  by_cases hj : j.val < 256
  · dsimp only [run]
    frame_open
    refine (View.read_writes_cons_unit_of_not_mem _ _ _ _ _ _ rfl 1 (Or.inl (by show k.val < 128; omega))).trans ?_
    refine (View.read_writes_cons_unit_of_mem _ _ _ _ _ _ (ix2 ⟨j.val, hj⟩ k) rfl (Fin.forall_fin_two.mpr ⟨(Nat.zero_add _).symm, (Nat.zero_add _).symm⟩)).trans ?_
    open_payloads
    pointwise
    simp only [cov_whole, cov_beside]
    pointwise
    simp only [harg2.read_unread, harg3.read_unread, harg4.read_unread, harg5.read_unread, harg6.read_unread, harg7.read_unread, harg10.read_unread, harg11.read_unread]
    refine Finset.sum_congr rfl fun r _ => ?_
    refine (select_keep (⟨j.val, hj⟩ : Fin _) _ r (by decide) (by decide) (by decide) _ _).trans ?_
    simp only [select_lane0, select_lane1]
    rfl

  · rw [dk_masked x0 x1 x2 x3 x4 x5 0 0 j k (by omega)]
    dsimp only [run]
    frame_open
    refine (View.read_writes_cons_unit_of_not_mem _ _ _ _ _ _ rfl 0 (Or.inr ((Nat.zero_add _).trans_le (Nat.le_of_not_lt hj)))).trans ?_
    refine (View.read_writes_cons_unit_of_not_mem _ _ _ _ _ _ rfl 0 (Or.inr ((Nat.zero_add _).trans_le (Nat.le_of_not_lt hj)))).trans ?_
    refine (View.read_writes_cons_unit_of_mem _ _ _ _ _ _ (ix2 j (lane 0 k)) rfl (Fin.forall_fin_two.mpr ⟨by exact (Nat.zero_add _).symm, by exact (Nat.zero_add _).symm⟩)).trans ?_
    open_payloads
    pointwise

set_option maxHeartbeats 8000000 in
theorem first_dk1 (n : ℕ) (h0 : n = 0) (hn : (i 1).val = n) (hlt : n < 8) (j : Fin 2048) (k : Fin 128) :
    arg10.view.read (Elt Ideal) (arg10.view.writes (Elt Ideal) (harg10.unread y7) (run n c i hn hlt arg2 harg2 arg3 harg3 arg4 harg4 arg5 harg5 arg6 harg6 arg7 harg7 arg9 harg9 arg10 harg10 arg11 harg11 x0 x1 x2 x3 x4 x5 y7 y8).2.1) (ix2 j (lane 1 k))
      = dkE x0 x1 x2 x3 x4 x5 n 1 j k := by
  subst h0
  by_cases hj : j.val < 256
  · dsimp only [run]
    frame_open
    refine (View.read_writes_cons_unit_of_mem _ _ _ _ _ _ (ix2 ⟨j.val, hj⟩ k) rfl (Fin.forall_fin_two.mpr ⟨by exact (Nat.zero_add _).symm, by rfl⟩)).trans ?_
    open_payloads
    pointwise
    simp only [cov_whole, cov_beside]
    pointwise
    simp only [harg2.read_unread, harg3.read_unread, harg4.read_unread, harg5.read_unread, harg6.read_unread, harg7.read_unread, harg10.read_unread, harg11.read_unread]
    refine Finset.sum_congr rfl fun r _ => ?_
    refine (select_keep (⟨j.val, hj⟩ : Fin _) _ r (by decide) (by decide) (by decide) _ _).trans ?_
    simp only [select_lane0, select_lane1]
    rfl

  · rw [dk_masked x0 x1 x2 x3 x4 x5 0 1 j k (by omega)]
    dsimp only [run]
    frame_open
    refine (View.read_writes_cons_unit_of_not_mem _ _ _ _ _ _ rfl 0 (Or.inr ((Nat.zero_add _).trans_le (Nat.le_of_not_lt hj)))).trans ?_
    refine (View.read_writes_cons_unit_of_not_mem _ _ _ _ _ _ rfl 0 (Or.inr ((Nat.zero_add _).trans_le (Nat.le_of_not_lt hj)))).trans ?_
    refine (View.read_writes_cons_unit_of_mem _ _ _ _ _ _ (ix2 j (lane 1 k)) rfl (Fin.forall_fin_two.mpr ⟨by exact (Nat.zero_add _).symm, by exact (Nat.zero_add _).symm⟩)).trans ?_
    open_payloads
    pointwise

end Cert.AttnIdeal.Hand

end
-- ==== Proof.Attn.TileDv.lean ====
/- The tile's share of dv: added to what the tiles before left; on the first tile, to the cleared block. -/
module

public import proofs.«01_k».proof.Proof.Attn.Tile

@[expose] public section

set_option maxRecDepth 16384

noncomputable section

namespace Cert.AttnIdeal.Hand

open Idealize.ShloMosaic Idealize.ShloMosaic.TcCoe Cert.AttnIdeal.Gen

variable (x0 : Vec Ideal S256x256 .bf16) (x1 : Vec Ideal S2048x256 .bf16) (x2 : Vec Ideal S2048x128 .bf16)
  (x3 x4 : Vec Ideal S256x128 .f32) (x5 : Vec Ideal S2x256x1 .f32)

variable (c : Dev nD) (i : grid0.Coords)
    (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S2x256x1 .f32) (harg7 : arg7.IsWhole)
    (arg9 : Memref sig .tc .vmem S256x256 .bf16) (harg9 : arg9.IsWhole) (arg10 : Memref sig .tc .vmem S2048x256 .f32) (harg10 : arg10.IsWhole) (arg11 : Memref sig .tc .vmem S2048x128 .f32) (harg11 : arg11.IsWhole)
    (y7 : Vec Ideal S2048x256 .f32) (y8 : Vec Ideal S2048x128 .f32)

set_option maxHeartbeats 8000000 in
theorem tile_dv (n : ℕ) (hn : (i 1).val = n) (hlt : n < 8) (hpos : 0 < n) (j : Fin 2048) (d : Fin 128) :
    arg11.view.read (Elt Ideal) (arg11.view.writes (Elt Ideal) (harg11.unread y8) (run n c i hn hlt arg2 harg2 arg3 harg3 arg4 harg4 arg5 harg5 arg6 harg6 arg7 harg7 arg9 harg9 arg10 harg10 arg11 harg11 x0 x1 x2 x3 x4 x5 y7 y8).2.2.1) (ix2 j d)
      = y8 (ix2 j d) + dvE x0 x1 x4 x5 n j d := by
  by_cases hj : j.val < 256 * (n + 1)
  · match n, hlt, hpos, hj with
    | 1, _, _, hj | 2, _, _, hj | 3, _, _, hj | 4, _, _, hj | 5, _, _, hj | 6, _, _, hj | 7, _, _, hj =>
      dsimp only [run]
      frame_open
      refine (View.read_writes_cons_unit_of_mem _ _ _ _ _ _ (ix2 ⟨j.val, hj⟩ d) rfl (Fin.forall_fin_two.mpr ⟨(Nat.zero_add _).symm, (Nat.zero_add _).symm⟩)).trans ?_
      open_payloads
      pointwise
      simp only [harg2.read_unread, harg3.read_unread, harg4.read_unread, harg5.read_unread, harg6.read_unread, harg7.read_unread, harg10.read_unread, harg11.read_unread]
      refine congrArg₂ (· + ·) (congrArg _ (by first | rfl | (congr 1; simp [lane]))) ?_
      refine congrArg₂ (· + ·) (Finset.sum_congr rfl fun r _ => ?_) (Finset.sum_congr rfl fun r _ => ?_)
      · refine (select_lane0 d _ _).trans (if_congr Iff.rfl ?_ rfl)
        exact select_keep (⟨j.val, hj⟩ : Fin _) _ r (by decide) (by decide) (by decide) _ _
      · refine (select_lane1 d _ _).trans (if_congr Iff.rfl ?_ rfl)
        exact select_keep (⟨j.val, hj⟩ : Fin _) _ r (by decide) (by decide) (by decide) _ _
    | 0, _, h, _ => exact absurd h (by omega)
    | n + 8, h, _, _ => exact absurd h (by omega)
  · rw [(dv_masked x0 x1 x4 x5 n j d hj), add_zero]
    match n, hlt, hpos, hj with
    | 1, _, _, hj | 2, _, _, hj | 3, _, _, hj | 4, _, _, hj | 5, _, _, hj | 6, _, _, hj | 7, _, _, hj =>
      dsimp only [run]
      frame_open
      refine (View.read_writes_cons_unit_of_not_mem _ _ _ _ _ _ rfl 0 (Or.inr ((Nat.zero_add _).trans_le (Nat.le_of_not_lt hj)))).trans ?_
      exact congrFun (harg11.read_unread _) _
    | 0, _, h, _ => exact absurd h (by omega)
    | n + 8, h, _, _ => exact absurd h (by omega)

set_option maxHeartbeats 8000000 in
theorem first_dv (n : ℕ) (h0 : n = 0) (hn : (i 1).val = n) (hlt : n < 8) (j : Fin 2048) (d : Fin 128) :
    arg11.view.read (Elt Ideal) (arg11.view.writes (Elt Ideal) (harg11.unread y8) (run n c i hn hlt arg2 harg2 arg3 harg3 arg4 harg4 arg5 harg5 arg6 harg6 arg7 harg7 arg9 harg9 arg10 harg10 arg11 harg11 x0 x1 x2 x3 x4 x5 y7 y8).2.2.1) (ix2 j d)
      = dvE x0 x1 x4 x5 n j d := by
  subst h0
  by_cases hj : j.val < 256
  · dsimp only [run]
    frame_open
    refine (View.read_writes_cons_unit_of_mem _ _ _ _ _ _ (ix2 ⟨j.val, hj⟩ d) rfl (Fin.forall_fin_two.mpr ⟨(Nat.zero_add _).symm, (Nat.zero_add _).symm⟩)).trans ?_
    open_payloads
    pointwise
    simp only [cov_whole, cov_beside]
    pointwise
    simp only [harg2.read_unread, harg3.read_unread, harg4.read_unread, harg5.read_unread, harg6.read_unread, harg7.read_unread, harg10.read_unread, harg11.read_unread]
    refine congrArg₂ (· + ·) (Finset.sum_congr rfl fun r _ => ?_) (Finset.sum_congr rfl fun r _ => ?_)
    · refine (select_lane0 d _ _).trans (if_congr Iff.rfl ?_ rfl)
      exact select_keep (⟨j.val, hj⟩ : Fin _) _ r (by decide) (by decide) (by decide) _ _
    · refine (select_lane1 d _ _).trans (if_congr Iff.rfl ?_ rfl)
      exact select_keep (⟨j.val, hj⟩ : Fin _) _ r (by decide) (by decide) (by decide) _ _

  · rw [dv_masked x0 x1 x4 x5 0 j d (by omega)]
    dsimp only [run]
    frame_open
    refine (View.read_writes_cons_unit_of_not_mem _ _ _ _ _ _ rfl 0 (Or.inr ((Nat.zero_add _).trans_le (Nat.le_of_not_lt hj)))).trans ?_
    refine (View.read_writes_cons_unit_of_mem _ _ _ _ _ _ (ix2 j d) rfl (Fin.forall_fin_two.mpr ⟨by exact (Nat.zero_add _).symm, by exact (Nat.zero_add _).symm⟩)).trans ?_
    open_payloads
    pointwise

end Cert.AttnIdeal.Hand

end
-- ==== Proof.Attn.Blocks.lean ====
/- The attention's backward, block by block: what a grid point computes in terms of the problem's arrays, and the running
   blocks as sums over the query tiles so far. -/
module

public import proofs.«01_k».proof.Proof.Attn.Reads
public import proofs.«01_k».proof.Proof.Attn.TileDq
public import proofs.«01_k».proof.Proof.Attn.TileDk
public import proofs.«01_k».proof.Proof.Attn.TileDv

@[expose] public section

set_option maxRecDepth 16384

noncomputable section

namespace Cert.AttnIdeal.Hand

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- The kernel's weight of key `j` for query `i`, not yet masked. -/
def kP (c : Dev nD) (h : Fin 8) (i j : Fin 2048) : EReal :=
  Ideal.exp ((∑ e, padz (aQ m c) i h e * padz (aK m c) j h e) * sc - eZ m c h i)

/-- The kernel's gradient of the score. -/
def kDs (c : Dev nD) (h : Fin 8) (i j : Fin 2048) : EReal :=
  kP m c h i j * (∑ d, aD m c i h d * aV m c j h d - ∑ d, aD m c i h d * eO m c i h d) * sc

/-- What query `i` gives to the three gradients' entries at key `j`. -/
def tDq (c : Dev nD) (i : Fin 2048) (h : Fin 8) (k : Fin 128) (j : Fin 2048) : EReal :=
  if j.val ≤ i.val then kDs m c h i j * padz (aK m c) j h k else 0
def tDk (c : Dev nD) (j : Fin 2048) (h : Fin 8) (k : Fin 128) (i : Fin 2048) : EReal :=
  if j.val ≤ i.val then kDs m c h i j * padz (aQ m c) i h k else 0
def tDv (c : Dev nD) (j : Fin 2048) (h : Fin 8) (d : Fin 64) (i : Fin 2048) : EReal :=
  if j.val ≤ i.val then kP m c h i j * aD m c i h d else 0

/-- A sum over the lanes of one head's half. -/
theorem sum_half (f : Fin 128 → EReal) (h : Fin 2) :
    ∑ d : Fin 128, (if d.val / 64 = h.val then f d else 0) = ∑ d : Fin 64, f (half h d) := by
  have hinj : Function.Injective (half h) := fun a b e => by
    have := congrArg Fin.val e
    simp only [half] at this
    exact Fin.ext (by omega)
  rw [← Finset.sum_filter, ← Finset.sum_image (f := f) (g := half h) (s := Finset.univ) (fun a _ b _ e => hinj e)]
  refine Finset.sum_congr (Finset.ext fun d => ?_) fun _ _ => rfl
  simp only [Finset.mem_filter, Finset.mem_univ, true_and, Finset.mem_image]
  constructor
  · intro e
    exact ⟨⟨d.val - 64 * h.val, by omega⟩, Fin.ext (by simp only [half]; omega)⟩
  · rintro ⟨x, rfl⟩
    simp only [half]
    omega

theorem pE_at (c : Dev nD) (t : Fin cfg0.N) (h : Fin 2) (r : Fin 256) (j : Fin 2048) :
    pE (iblk m c 0 t) (iblk m c 1 t) (iblk m c 5 t) h r j = kP m c (head t h) (row t r) j := by
  unfold pE kP
  exact congrArg Ideal.exp (congrArg₂ (fun x y => x * sc - y)
    (Finset.sum_congr rfl fun e _ => congrArg₂ (· * ·) (rd0 m c t r h e) (rd1 m c t j h e)) (rd5 m c t h r))

theorem dsE_at (c : Dev nD) (t : Fin cfg0.N) (h : Fin 2) (r : Fin 256) (j : Fin 2048) :
    dsE (iblk m c 0 t) (iblk m c 1 t) (iblk m c 2 t) (iblk m c 3 t) (iblk m c 4 t) (iblk m c 5 t) h r j
      = kDs m c (head t h) (row t r) j := by
  unfold dsE kDs
  rw [pE_at, sum_half, sum_half]
  exact congrArg (fun z => kP m c (head t h) (row t r) j * z * sc) (congrArg₂ (· - ·)
    (Finset.sum_congr rfl fun d _ => congrArg₂ (· * ·) (rd4 m c t r h d) (rd2 m c t j h d))
    (Finset.sum_congr rfl fun d _ => congrArg₂ (· * ·) (rd4 m c t r h d) (rd3 m c t r h d)))

theorem dqE_at (c : Dev nD) (t : Fin cfg0.N) (h : Fin 2) (r : Fin 256) (k : Fin 128) :
    dqE (iblk m c 0 t) (iblk m c 1 t) (iblk m c 2 t) (iblk m c 3 t) (iblk m c 4 t) (iblk m c 5 t) (t.val % 8) h r k
      = ∑ j, tDq m c (row t r) (head t h) k j := by
  unfold dqE tDq
  exact Finset.sum_congr rfl fun j _ => if_congr Iff.rfl (congrArg₂ (· * ·) (dsE_at m c t h r j) (rd1 m c t j h k)) rfl

theorem dkE_at (c : Dev nD) (t : Fin cfg0.N) (h : Fin 2) (j : Fin 2048) (k : Fin 128) :
    dkE (iblk m c 0 t) (iblk m c 1 t) (iblk m c 2 t) (iblk m c 3 t) (iblk m c 4 t) (iblk m c 5 t) (t.val % 8) h j k
      = ∑ r, tDk m c j (head t h) k (row t r) := by
  unfold dkE tDk
  exact Finset.sum_congr rfl fun r _ => if_congr Iff.rfl (congrArg₂ (· * ·) (dsE_at m c t h r j) (rd0 m c t r h k)) rfl

theorem dvE_at (c : Dev nD) (t : Fin cfg0.N) (h : Fin 2) (j : Fin 2048) (d : Fin 64) :
    dvE (iblk m c 0 t) (iblk m c 1 t) (iblk m c 4 t) (iblk m c 5 t) (t.val % 8) j (half h d)
      = ∑ r, tDv m c j (head t h) d (row t r) := by
  unfold dvE tDv
  have e : (half h d).val / 64 = h.val := by simp only [half]; omega
  simp only [e]
  match h with
  | 0 =>
    simp only [Fin.val_zero, if_true, zero_ne_one, if_false, Finset.sum_const_zero, add_zero]
    exact Finset.sum_congr rfl fun r _ => if_congr Iff.rfl (congrArg₂ (· * ·) (pE_at m c t 0 r j) (rd4 m c t r 0 d)) rfl
  | 1 =>
    simp only [Fin.val_one, if_true, one_ne_zero, if_false, Finset.sum_const_zero, zero_add]
    exact Finset.sum_congr rfl fun r _ => if_congr Iff.rfl (congrArg₂ (· * ·) (pE_at m c t 1 r j) (rd4 m c t r 1 d)) rfl

/-! ## A point's three blocks -/

theorem step_dq (c : Dev nD) (t : Fin cfg0.N) (y : Vec Ideal S2048x256 .f32 × Vec Ideal S2048x128 .f32) (r : Fin 256) (h : Fin 2) (k : Fin 128) :
    ((step m c t y).1 (ix2 r (lane h k)) : EReal) = ∑ j, tDq m c (row t r) (head t h) k j := by
  refine Eq.trans ?_ (dqE_at m c t h r k)
  match h with
  | 0 => exact tile_dq0 _ _ _ _ _ _ _ _ _ _ _ _ _ _ _ _ _ _ _ _ _ _ _ _ _ _ _ _ _ _ _ _ r k
  | 1 => exact tile_dq1 _ _ _ _ _ _ _ _ _ _ _ _ _ _ _ _ _ _ _ _ _ _ _ _ _ _ _ _ _ _ _ _ r k

theorem step_dk (c : Dev nD) (t : Fin cfg0.N) (y : Vec Ideal S2048x256 .f32 × Vec Ideal S2048x128 .f32) (h0 : ¬t.val % 8 = 0)
    (j : Fin 2048) (h : Fin 2) (k : Fin 128) :
    ((step m c t y).2.1 (ix2 j (lane h k)) : EReal) = y.1 (ix2 j (lane h k)) + ∑ r, tDk m c j (head t h) k (row t r) := by
  rw [← dkE_at]
  match h with
  | 0 => exact tile_dk0 _ _ _ _ _ _ _ _ _ _ _ _ _ _ _ _ _ _ _ _ _ _ _ _ _ _ _ _ _ _ _ (Nat.pos_of_ne_zero h0) j k
  | 1 => exact tile_dk1 _ _ _ _ _ _ _ _ _ _ _ _ _ _ _ _ _ _ _ _ _ _ _ _ _ _ _ _ _ _ _ (Nat.pos_of_ne_zero h0) j k

theorem first_dk (c : Dev nD) (t : Fin cfg0.N) (y : Vec Ideal S2048x256 .f32 × Vec Ideal S2048x128 .f32) (h0 : t.val % 8 = 0)
    (j : Fin 2048) (h : Fin 2) (k : Fin 128) :
    ((step m c t y).2.1 (ix2 j (lane h k)) : EReal) = ∑ r, tDk m c j (head t h) k (row t r) := by
  rw [← dkE_at]
  match h with
  | 0 => exact first_dk0 _ _ _ _ _ _ _ _ _ _ _ _ _ _ _ _ _ _ _ _ _ _ _ _ _ _ _ _ _ h0 _ _ j k
  | 1 => exact first_dk1 _ _ _ _ _ _ _ _ _ _ _ _ _ _ _ _ _ _ _ _ _ _ _ _ _ _ _ _ _ h0 _ _ j k

theorem step_dv (c : Dev nD) (t : Fin cfg0.N) (y : Vec Ideal S2048x256 .f32 × Vec Ideal S2048x128 .f32) (h0 : ¬t.val % 8 = 0)
    (j : Fin 2048) (h : Fin 2) (d : Fin 64) :
    ((step m c t y).2.2 (ix2 j (half h d)) : EReal) = y.2 (ix2 j (half h d)) + ∑ r, tDv m c j (head t h) d (row t r) := by
  rw [← dvE_at]
  exact tile_dv _ _ _ _ _ _ _ _ _ _ _ _ _ _ _ _ _ _ _ _ _ _ _ _ _ _ _ _ _ _ _ (Nat.pos_of_ne_zero h0) j (half h d)

theorem start_dv (c : Dev nD) (t : Fin cfg0.N) (y : Vec Ideal S2048x256 .f32 × Vec Ideal S2048x128 .f32) (h0 : t.val % 8 = 0)
    (j : Fin 2048) (h : Fin 2) (d : Fin 64) :
    ((step m c t y).2.2 (ix2 j (half h d)) : EReal) = ∑ r, tDv m c j (head t h) d (row t r) := by
  rw [← dvE_at]
  exact first_dv _ _ _ _ _ _ _ _ _ _ _ _ _ _ _ _ _ _ _ _ _ _ _ _ _ _ _ _ _ h0 _ _ j (half h d)

/-! ## The blocks written back -/

/-- A grid point: the pair of heads and the tile. -/
def pt (p : Fin 4) (n : ℕ) (hn : n < 8) : Fin cfg0.N :=
  ⟨8 * p.val + n, lt_of_lt_of_eq (by omega) (show cfg0.N = 32 from N_0).symm⟩

theorem blocks_dq (c : Dev nD) (t : Fin cfg0.N) (r : Fin 256) (h : Fin 2) (k : Fin 128) :
    ((blocks m c t.val t.isLt).1 (ix2 r (lane h k)) : EReal) = ∑ j, tDq m c (row t r) (head t h) k j := by
  by_cases h0 : t.val % 8 = 0
  · rw [blocks_first m c t h0 (k0_pay1 (F := Ideal), k0_pay2 (F := Ideal))]
    exact step_dq m c t _ r h k
  · rw [blocks_next m c t h0]
    exact step_dq m c t _ r h k

/-- A quantity that starts at the first tile's sum and takes each further tile's ends at the sum over all rows. -/
theorem sum_tiles (f : (n : ℕ) → n < 8 → EReal) (g : Fin 2048 → EReal)
    (h0 : f 0 (by decide) = ∑ r : Fin 256, g ⟨256 * 0 + r.val, by omega⟩)
    (hs : ∀ n (hn : n + 1 < 8), f (n + 1) hn = f n (Nat.lt_of_succ_lt hn) + ∑ r : Fin 256, g ⟨256 * (n + 1) + r.val, by omega⟩) :
    f 7 (by decide) = ∑ i, g i := by
  have key : ∀ n (hn : n < 8), f n hn = ∑ t : Fin (n + 1), ∑ r : Fin 256, g ⟨t.val * 256 + r.val, by omega⟩ := by
    intro n
    induction n with
    | zero =>
      intro hn
      rw [Fin.sum_univ_one]
      exact h0
    | succ n ih =>
      intro hn
      rw [hs n hn, ih, Fin.sum_univ_castSucc (n := n + 1)]
      exact congrArg₂ (· + ·) rfl (Finset.sum_congr rfl fun r _ => congrArg g (Fin.ext (by
        simp only [Fin.val_last]; omega)))
  rw [key 7 (by decide)]
  exact Fin.sum_mul_add_fin 8 256 g rfl

theorem blocks_dk (c : Dev nD) (p : Fin 4) (j : Fin 2048) (h : Fin 2) (k : Fin 128) :
    ((blocks m c (pt p 7 (by decide)).val (pt p 7 (by decide)).isLt).2.1 (ix2 j (lane h k)) : EReal)
      = ∑ i, tDk m c j ⟨2 * p.val + h.val, by omega⟩ k i := by
  refine sum_tiles (fun n hn => ((blocks m c (pt p n hn).val (pt p n hn).isLt).2.1 (ix2 j (lane h k)) : EReal)) _ ?_ fun n hn => ?_
  · have hd : (pt p 0 (by decide)).val / 8 = p.val := by simp only [pt]; omega
    have hm : (pt p 0 (by decide)).val % 8 = 0 := by simp only [pt]; omega
    rw [blocks_first m c _ hm (k0_pay1 (F := Ideal), k0_pay2 (F := Ideal)), first_dk m c _ _ hm]
    exact Finset.sum_congr rfl fun r _ => congrArg₂ (fun a b => tDk m c j a k b)
      (Fin.ext (by simp only [head, hd])) (Fin.ext (by simp only [row, hm]))
  · have hd : (pt p (n + 1) hn).val / 8 = p.val := by simp only [pt]; omega
    have hm : (pt p (n + 1) hn).val % 8 = n + 1 := by simp only [pt]; omega
    have h0 : ¬(pt p (n + 1) hn).val % 8 = 0 := by omega
    rw [blocks_next m c _ h0, step_dk m c _ _ h0]
    exact congrArg₂ (· + ·) rfl (Finset.sum_congr rfl fun r _ => congrArg₂ (fun a b => tDk m c j a k b)
      (Fin.ext (by simp only [head, hd])) (Fin.ext (by simp only [row, hm])))

theorem blocks_dv (c : Dev nD) (p : Fin 4) (j : Fin 2048) (h : Fin 2) (d : Fin 64) :
    ((blocks m c (pt p 7 (by decide)).val (pt p 7 (by decide)).isLt).2.2 (ix2 j (half h d)) : EReal)
      = ∑ i, tDv m c j ⟨2 * p.val + h.val, by omega⟩ d i := by
  refine sum_tiles (fun n hn => ((blocks m c (pt p n hn).val (pt p n hn).isLt).2.2 (ix2 j (half h d)) : EReal)) _ ?_ fun n hn => ?_
  · have hd : (pt p 0 (by decide)).val / 8 = p.val := by simp only [pt]; omega
    have hm : (pt p 0 (by decide)).val % 8 = 0 := by simp only [pt]; omega
    rw [blocks_first m c _ hm (k0_pay1 (F := Ideal), k0_pay2 (F := Ideal)), start_dv m c _ _ hm]
    exact Finset.sum_congr rfl fun r _ => congrArg₂ (fun a b => tDv m c j a d b)
      (Fin.ext (by simp only [head, hd])) (Fin.ext (by simp only [row, hm]))
  · have hd : (pt p (n + 1) hn).val / 8 = p.val := by simp only [pt]; omega
    have hm : (pt p (n + 1) hn).val % 8 = n + 1 := by simp only [pt]; omega
    have h0 : ¬(pt p (n + 1) hn).val % 8 = 0 := by omega
    rw [blocks_next m c _ h0, step_dv m c _ _ h0]
    exact congrArg₂ (· + ·) rfl (Finset.sum_congr rfl fun r _ => congrArg₂ (fun a b => tDv m c j a d b)
      (Fin.ext (by simp only [head, hd])) (Fin.ext (by simp only [row, hm])))

/-! ## The three result arrays -/

def kDq (c : Dev nD) (i : Fin 2048) (n : Fin 1024) : EReal := ∑ j, tDq m c i ⟨n.val / 128, by omega⟩ ⟨n.val % 128, by omega⟩ j
def kDk (c : Dev nD) (j : Fin 2048) (n : Fin 1024) : EReal := ∑ i, tDk m c j ⟨n.val / 128, by omega⟩ ⟨n.val % 128, by omega⟩ i
def kDv (c : Dev nD) (j : Fin 2048) (n : Fin 512) : EReal := ∑ i, tDv m c j ⟨n.val / 64, by omega⟩ ⟨n.val % 64, by omega⟩ i

theorem after_6 (c : Dev nD) (t : Fin cfg0.N) : (dats m 0 c).after 6 t = (blocks m c t.val t.isLt).1 := rfl
theorem after_7 (c : Dev nD) (t : Fin cfg0.N) : (dats m 0 c).after 7 t = (blocks m c t.val t.isLt).2.1 := rfl
theorem after_8 (c : Dev nD) (t : Fin cfg0.N) : (dats m 0 c).after 8 t = (blocks m c t.val t.isLt).2.2 := rfl

/-- Each of the 256 lanes is one head's; each of the 128 too. -/
theorem lane_split (y : Fin 256) : ∃ h k, y = lane h k ∧ h.val = y.val / 128 ∧ k.val = y.val % 128 :=
  ⟨⟨y.val / 128, by omega⟩, ⟨y.val % 128, by omega⟩, Fin.ext (by rw [lane_val]; dsimp only; omega), rfl, rfl⟩
theorem half_split (y : Fin 128) : ∃ h d, y = half h d ∧ h.val = y.val / 64 ∧ d.val = y.val % 64 :=
  ⟨⟨y.val / 64, by omega⟩, ⟨y.val % 64, by omega⟩, Fin.ext (by simp only [half]; omega), rfl, rfl⟩

theorem kDq_at (c : Dev nD) (a i : Fin 2048) (n : Fin 1024) (h : Fin 8) (k : Fin 128)
    (hi : a.val = i.val) (hh : n.val / 128 = h.val) (hx : n.val % 128 = k.val) :
    ∑ j, tDq m c a h k j = kDq m c i n := by
  unfold kDq
  refine Finset.sum_congr rfl fun j _ => ?_
  obtain rfl : a = i := Fin.ext hi
  obtain rfl : h = ⟨n.val / 128, Nat.div_lt_of_lt_mul n.isLt⟩ := Fin.ext hh.symm
  obtain rfl : k = ⟨n.val % 128, Nat.mod_lt _ (by decide)⟩ := Fin.ext hx.symm
  rfl

theorem kDk_at (c : Dev nD) (a i : Fin 2048) (n : Fin 1024) (h : Fin 8) (k : Fin 128)
    (hi : a.val = i.val) (hh : n.val / 128 = h.val) (hx : n.val % 128 = k.val) :
    ∑ j, tDk m c a h k j = kDk m c i n := by
  unfold kDk
  refine Finset.sum_congr rfl fun j _ => ?_
  obtain rfl : a = i := Fin.ext hi
  obtain rfl : h = ⟨n.val / 128, Nat.div_lt_of_lt_mul n.isLt⟩ := Fin.ext hh.symm
  obtain rfl : k = ⟨n.val % 128, Nat.mod_lt _ (by decide)⟩ := Fin.ext hx.symm
  rfl

theorem kDv_at (c : Dev nD) (a i : Fin 2048) (n : Fin 512) (h : Fin 8) (d : Fin 64)
    (hi : a.val = i.val) (hh : n.val / 64 = h.val) (hx : n.val % 64 = d.val) :
    ∑ j, tDv m c a h d j = kDv m c i n := by
  unfold kDv
  refine Finset.sum_congr rfl fun j _ => ?_
  obtain rfl : a = i := Fin.ext hi
  obtain rfl : h = ⟨n.val / 64, Nat.div_lt_of_lt_mul n.isLt⟩ := Fin.ext hh.symm
  obtain rfl : d = ⟨n.val % 64, Nat.mod_lt _ (by decide)⟩ := Fin.ext hx.symm
  rfl

theorem arr_dq (c : Dev nD) :
    (dats m 0 c).arrAt 6 cfg0.N = fun i : S2048x1024.Idx => (kDq m c (i 0) (i 1) : EReal) := by
  refine (dats m 0 c).arrAt_eq_of_covers 6 _ (by decide +kernel) fun t hf y => ?_
  blk_simp
  rw [after_6]
  idx_vars y
  have e0 : (((View.whole main_v34_0).slice (win0_6.rect t)).emb (ix2 y0 y1) 0).val = t.val % 8 * 256 + y0.val := by
    blk_simp [idx t]
  have e1 : (((View.whole main_v34_0).slice (win0_6.rect t)).emb (ix2 y0 y1) 1).val = t.val / 8 * 256 + y1.val := by
    blk_simp [idx t]
  obtain ⟨h, k, rfl, hh, hk⟩ := lane_split y1
  rw [lane_val] at e1
  exact (blocks_dq m c t y0 h k).trans (kDq_at m c _ _ _ _ _ (by rw [e0]; simp only [row]; omega)
    (by simp only [head, e1]; omega) (by rw [e1]; omega))

/-- A point on the last tile. -/
theorem eq_pt (t : Fin cfg0.N) (h : t.val % 8 = 7) : ∃ p : Fin 4, t = pt p 7 (by decide) := by
  have hN : t.val < 32 := lt_of_lt_of_eq t.isLt (show cfg0.N = 32 from N_0)
  exact ⟨⟨t.val / 8, by omega⟩, Fin.ext (by simp only [pt]; omega)⟩

theorem arr_dk (c : Dev nD) :
    (dats m 0 c).arrAt 7 cfg0.N = fun i : S2048x1024.Idx => (kDk m c (i 0) (i 1) : EReal) := by
  refine (dats m 0 c).arrAt_eq_of_covers 7 _ (by decide +kernel) fun t hf y => ?_
  obtain ⟨p, ht⟩ := eq_pt t ((flush0_7 t).mp hf)
  have hp : t.val / 8 = p.val := by rw [ht]; simp only [pt]; omega
  blk_simp
  rw [after_7]
  idx_vars y
  have e0 : (((View.whole main_v34_1).slice (win0_7.rect t)).emb (ix2 y0 y1) 0).val = y0.val := by
    blk_simp [idx t]
  have e1 : (((View.whole main_v34_1).slice (win0_7.rect t)).emb (ix2 y0 y1) 1).val = p.val * 256 + y1.val := by
    blk_simp [idx t, hp]
  obtain ⟨h, k, rfl, hh, hk⟩ := lane_split y1
  subst ht
  rw [lane_val] at e1
  exact (blocks_dk m c p y0 h k).trans (kDk_at m c _ _ _ _ _ (by rw [e0])
    (by rw [e1]; simp only; omega) (by rw [e1]; omega))

theorem arr_dv (c : Dev nD) :
    (dats m 0 c).arrAt 8 cfg0.N = fun i : S2048x512.Idx => (kDv m c (i 0) (i 1) : EReal) := by
  refine (dats m 0 c).arrAt_eq_of_covers 8 _ (by decide +kernel) fun t hf y => ?_
  obtain ⟨p, ht⟩ := eq_pt t ((flush0_8 t).mp hf)
  have hp : t.val / 8 = p.val := by rw [ht]; simp only [pt]; omega
  blk_simp
  rw [after_8]
  idx_vars y
  have e0 : (((View.whole main_v34_2).slice (win0_8.rect t)).emb (ix2 y0 y1) 0).val = y0.val := by
    blk_simp [idx t]
  have e1 : (((View.whole main_v34_2).slice (win0_8.rect t)).emb (ix2 y0 y1) 1).val = p.val * 128 + y1.val := by
    blk_simp [idx t, hp]
  obtain ⟨h, d, rfl, hh, hk⟩ := half_split y1
  subst ht
  have e2 : (half h d).val = 64 * h.val + d.val := rfl
  rw [e2] at e1
  exact (blocks_dv m c p y0 h d).trans (kDv_at m c _ _ _ _ _ (by rw [e0])
    (by rw [e1]; simp only; omega) (by rw [e1]; omega))

end Cert.AttnIdeal.Hand

end
-- ==== Proof.Attn.Reference.lean ====
/- The reference's attention gradient, stage by stage, entry by entry, as the problem's own arrays. -/
module

public import proofs.«01_k».proof.Proof.Attn.Reads

@[expose] public section

set_option maxRecDepth 16384

noncomputable section

namespace Cert.AttnIdeal.Hand

open Cert.AttnIdeal Cert.AttnIdeal.Gen Idealize.ShloMosaic Idealize.ShloMosaic.TcCoe Idealize.SL.Sem
open Cert.AttnRefIdeal.Read

variable (m : (ℓ : Loc nD τ sig) → Buf (Elt Ideal) ℓ)

/-- The arguments, as arrays. -/
abbrev arrQ (c : Dev nD) : FVec Ideal S2048x8x96 .f32 := m ((c : Thread nD τ).loc main_arg0)
abbrev arrK (c : Dev nD) : FVec Ideal S2048x8x96 .f32 := m ((c : Thread nD τ).loc main_arg1)
abbrev arrV (c : Dev nD) : FVec Ideal S2048x8x64 .f32 := m ((c : Thread nD τ).loc main_arg2)
abbrev arrD (c : Dev nD) : FVec Ideal S2048x8x64 .f32 := m ((c : Thread nD τ).loc main_arg3)

set_option maxHeartbeats 4000000 in
theorem ref_S (c : Dev nD) (h : Fin 8) (i j : Fin 2048) :
    (val_main_v9_0 (F := Ideal) (arrQ m c) (arrK m c) (ix3 h i j) : EReal) = eS m c h i j := by
  pointwise [val_main_v9_0, val_main_v9_1, val_main_call0_v2, val_main_call0_v0, val_main_cst_0, val_main_v8, val_main_v7, val_main_v6,
    val_main_v5, val_main_v4, val_main_v3, val_main_v2, val_main_v1, val_main_v0, val_main_cst]
  simp only [select_causal]
  rfl

theorem max_eM (c : Dev nD) (h : Fin 8) (i : Fin 2048) :
    max (Ideal.ofBits .f32 0xFF800000#32) (eM m c h i) = eM m c h i :=
  max_eq_right ((Finset.le_fold_max _).mpr (Or.inl le_rfl))

/-- The greatest entry of each row. -/
def rowMax (A : FVec Ideal S8x2048x2048 .f32) : FVec Ideal S8x2048 .f32 :=
  Host.reduce FloatOps.maximumf A (constant (F := Ideal) S_ .f32 0xFF800000#32) reducesTo_S8x2048x2048_S8x2048_d2 h_S_

theorem rowMax_at (A : FVec Ideal S8x2048x2048 .f32) (h : Fin 8) (i : Fin 2048) :
    (rowMax A (ix2 h i) : EReal)
      = Finset.fold max (Ideal.ofBits .f32 0xFF800000#32) (fun j => (A (ix3 h i j) : EReal)) Finset.univ := by
  unfold rowMax
  pointwise

theorem ref_max (c : Dev nD) (h : Fin 8) (i : Fin 2048) :
    (val_main_v10 (F := Ideal) (arrQ m c) (arrK m c) (ix2 h i) : EReal) = eM m c h i := by
  refine (rowMax_at (val_main_v9_0 (F := Ideal) (arrQ m c) (arrK m c)) h i).trans ?_
  unfold eM
  exact congrArg (fun f => Finset.fold max (Ideal.ofBits .f32 0xFF800000#32) f Finset.univ) (funext fun j => ref_S m c h i j)

theorem ref_M (c : Dev nD) (h : Fin 8) (i : Fin 2048) :
    (val_main_v17 (F := Ideal) (arrQ m c) (arrK m c) (ix2 h i) : EReal) = eM m c h i := by
  refine (val_main_v17_apply _ _ _).trans (Eq.trans ?_ (max_eM m c h i))
  exact congrArg₂ max rfl (ref_max m c h i)

set_option maxHeartbeats 4000000 in
theorem ref_E (c : Dev nD) (h : Fin 8) (i j : Fin 2048) :
    (val_main_v30 (F := Ideal) (arrQ m c) (arrK m c) (ix3 h i j) : EReal) = eE m c h i j := by
  pointwise [val_main_v30, val_main_v29, val_main_v28, val_main_v27]
  exact congrArg Ideal.exp (congrArg₂ (· - ·) (ref_S m c h i j) (ref_M m c h i))

set_option maxHeartbeats 4000000 in
theorem ref_L (c : Dev nD) (h : Fin 8) (i : Fin 2048) :
    (val_main_v31 (F := Ideal) (arrQ m c) (arrK m c) (ix2 h i) : EReal) = eL m c h i := by
  pointwise [val_main_v31, val_main_cst_9]
  exact Finset.sum_congr rfl fun j _ => ref_E m c h i j

/-- The gradient of the weights. -/
def eDp (c : Dev nD) (h : Fin 8) (i j : Fin 2048) : EReal := ∑ d, aD m c i h d * aV m c j h d

set_option maxHeartbeats 4000000 in
theorem ref_Dp (c : Dev nD) (h : Fin 8) (i j : Fin 2048) :
    (val_main_v41 (F := Ideal) (arrV m c) (arrD m c) (ix3 h i j) : EReal) = eDp m c h i j := by
  pointwise [val_main_v41, val_main_v40]
  rfl

set_option maxHeartbeats 4000000 in
theorem ref_P (c : Dev nD) (h : Fin 8) (i j : Fin 2048) :
    (val_main_v34 (F := Ideal) (arrQ m c) (arrK m c) (ix3 h i j) : EReal) = Ideal.div (eE m c h i j) (eL m c h i) := by
  pointwise [val_main_v34, val_main_v33, val_main_v32]
  exact congrArg₂ Ideal.div (ref_E m c h i j) (ref_L m c h i)

set_option maxHeartbeats 4000000 in
theorem ref_v46 (c : Dev nD) (h : Fin 8) (i j : Fin 2048) :
    (val_main_v46 (F := Ideal) (arrQ m c) (arrK m c) (arrV m c) (arrD m c) (ix3 h i j) : EReal)
      = eDp m c h i j * Ideal.div 1 (eL m c h i * eL m c h i) * eE m c h i j := by
  pointwise [val_main_v46, val_main_v45, val_main_v44, val_main_v37, val_main_v36, val_main_v35, val_main_v32, val_main_cst_10]
  exact congrArg₂ (· * ·) (congrArg₂ (· * ·) (ref_Dp m c h i j)
    (congrArg (fun x => Ideal.div 1 (x * x)) (ref_L m c h i))) (ref_E m c h i j)

set_option maxHeartbeats 4000000 in
theorem ref_v52 (c : Dev nD) (h : Fin 8) (i : Fin 2048) :
    (val_main_v52 (F := Ideal) (arrQ m c) (arrK m c) (arrV m c) (arrD m c) (ix2 h i) : EReal)
      = -∑ j, eDp m c h i j * Ideal.div 1 (eL m c h i * eL m c h i) * eE m c h i j := by
  pointwise [val_main_v52, val_main_cst_12, val_main_v49, val_main_v48, val_main_v47, val_main_cst_11]
  refine (Finset.sum_const _).trans ((one_nsmul _).trans (congrArg Neg.neg ?_))
  exact Finset.sum_congr rfl fun j _ => ref_v46 m c h i j

/-- The reference's gradient of the scores. -/
def rDs (c : Dev nD) (h : Fin 8) (i j : Fin 2048) : EReal :=
  if j.val ≤ i.val then (Ideal.div (eDp m c h i j) (eL m c h i)
      + -∑ j, eDp m c h i j * Ideal.div 1 (eL m c h i * eL m c h i) * eE m c h i j) * eE m c h i j * sc else 0

set_option maxHeartbeats 4000000 in
theorem ref_v55 (c : Dev nD) (h : Fin 8) (i j : Fin 2048) :
    (val_main_v55 (F := Ideal) (arrQ m c) (arrK m c) (arrV m c) (arrD m c) (ix3 h i j) : EReal)
      = (Ideal.div (eDp m c h i j) (eL m c h i)
      + -∑ j, eDp m c h i j * Ideal.div 1 (eL m c h i * eL m c h i) * eE m c h i j) * eE m c h i j := by
  pointwise [val_main_v55, val_main_v54, val_main_v53, val_main_v51, val_main_v50, val_main_v32]
  exact congrArg₂ (· * ·) (congrArg₂ (· + ·) (congrArg₂ Ideal.div (ref_Dp m c h i j) (ref_L m c h i)) (ref_v52 m c h i))
    (ref_E m c h i j)

set_option maxHeartbeats 4000000 in
theorem ref_Ds (c : Dev nD) (h : Fin 8) (i j : Fin 2048) :
    (val_main_v58 (F := Ideal) (arrQ m c) (arrK m c) (arrV m c) (arrD m c) (ix3 h i j) : EReal) = rDs m c h i j := by
  pointwise [val_main_v58, val_main_v57, val_main_cst_13, val_main_v56, val_main_call1_v0, val_main_call1_cst, val_main_v9_1, val_main_v8,
    val_main_v7, val_main_v6, val_main_v5, val_main_v4, val_main_v3]
  simp only [select_causal, ref_v55]
  rfl

/-- The three results, entry by entry. -/
def rDq (c : Dev nD) (i : Fin 2048) (h : Fin 8) (k : Fin 96) : EReal := ∑ j, rDs m c h i j * aK m c j h k
def rDk (c : Dev nD) (j : Fin 2048) (h : Fin 8) (k : Fin 96) : EReal := ∑ i, rDs m c h i j * aQ m c i h k
def rDv (c : Dev nD) (j : Fin 2048) (h : Fin 8) (d : Fin 64) : EReal := ∑ i, aD m c i h d * Ideal.div (eE m c h i j) (eL m c h i)

set_option maxHeartbeats 4000000 in
theorem ref_v62 (c : Dev nD) (i : Fin 2048) (h : Fin 8) (k : Fin 96) :
    (val_main_v62 (F := Ideal) (arrQ m c) (arrK m c) (arrV m c) (arrD m c) (ix3 i h k) : EReal) = rDq m c i h k := by
  pointwise [val_main_v62, val_main_v61]
  exact Finset.sum_congr rfl fun j _ => congrArg₂ (· * ·) (ref_Ds m c h i j) rfl

set_option maxHeartbeats 4000000 in
theorem ref_v60 (c : Dev nD) (j : Fin 2048) (h : Fin 8) (k : Fin 96) :
    (val_main_v60 (F := Ideal) (arrQ m c) (arrK m c) (arrV m c) (arrD m c) (ix3 j h k) : EReal) = rDk m c j h k := by
  pointwise [val_main_v60, val_main_v59]
  exact Finset.sum_congr rfl fun i _ => congrArg₂ (· * ·) (ref_Ds m c h i j) rfl

set_option maxHeartbeats 4000000 in
theorem ref_v43 (c : Dev nD) (j : Fin 2048) (h : Fin 8) (d : Fin 64) :
    (val_main_v43 (F := Ideal) (arrQ m c) (arrK m c) (arrD m c) (ix3 j h d) : EReal) = rDv m c j h d := by
  pointwise [val_main_v43, val_main_v42, val_main_v40]
  exact Finset.sum_congr rfl fun i _ => congrArg₂ (· * ·) rfl (ref_P m c h i j)

set_option maxHeartbeats 4000000 in
theorem ref_dq (c : Dev nD) (i : Fin 2048) (h : Fin 8) (k : Fin 128) :
    (val_main_v65 (F := Ideal) (arrQ m c) (arrK m c) (arrV m c) (arrD m c) (ix2 i ⟨128 * h.val + k.val, col_lt h k⟩) : EReal)
      = padz (rDq m c) i h k := by
  pointwise [val_main_v65, val_main_v64, val_main_v63, val_main_call2_v0, val_main_c]
  unfold padz
  by_cases h96 : k.val < 96
  · rw [dif_pos h96, dif_pos h96]
    exact ref_v62 m c i h ⟨k.val, h96⟩
  · rw [dif_neg h96, dif_neg h96]
    exact sitofp_zero

set_option maxHeartbeats 4000000 in
theorem ref_dk (c : Dev nD) (i : Fin 2048) (h : Fin 8) (k : Fin 128) :
    (val_main_v67 (F := Ideal) (arrQ m c) (arrK m c) (arrV m c) (arrD m c) (ix2 i ⟨128 * h.val + k.val, col_lt h k⟩) : EReal)
      = padz (rDk m c) i h k := by
  pointwise [val_main_v67, val_main_v66, val_main_call3_v0, val_main_c_14]
  unfold padz
  by_cases h96 : k.val < 96
  · rw [dif_pos h96, dif_pos h96]
    exact ref_v60 m c i h ⟨k.val, h96⟩
  · rw [dif_neg h96, dif_neg h96]
    exact sitofp_zero

set_option maxHeartbeats 4000000 in
theorem ref_dv (c : Dev nD) (j : Fin 2048) (h : Fin 8) (d : Fin 64) :
    (val_main_v68 (F := Ideal) (arrQ m c) (arrK m c) (arrD m c) (ix2 j ⟨64 * h.val + d.val, col_lt' h d⟩) : EReal) = rDv m c j h d := by
  pointwise [val_main_v68]
  exact ref_v43 m c j h d

end Cert.AttnIdeal.Hand

end
-- ==== Proof.Real.Softmax.lean ====
/- A softmax row whose entries are reals or −∞: its greatest entry, its weights and their sum are reals; and the identity between
   the two ways of writing the gradient through it. -/
module

public import proofs.«01_k».proof.Proof.Real.Basic

@[expose] public section

noncomputable section

namespace Cert.Real

open Idealize.ShloMosaic

/-- The written minus infinity. -/
theorem cbot : Ideal.ofBits .f32 0xFF800000#32 = ⊥ := by
  simp [Ideal.ofBits, Ideal.ieee]

/-- The scores' scale is a real. -/
theorem cscale : ∃ r : ℝ, Ideal.ofBits .f32 1037108716#32 = (r : EReal) := by
  refine ⟨(13698540 : ℝ) * 2 ^ (-27 : ℤ), ?_⟩
  simp [Ideal.ofBits, Ideal.ieee, -EReal.coe_mul]

variable {ι : Type*} [Fintype ι] [DecidableEq ι]

/-- The greatest of reals and −∞s, one a real, is a real. -/
theorem max_real (f : ι → EReal) (hf : ∀ j, f j = ⊥ ∨ ∃ r : ℝ, f j = r) (i : ι) (r : ℝ) (hi : f i = r) :
    ∃ M : ℝ, Finset.fold max ⊥ f Finset.univ = M := by
  have hs : Finset.fold max ⊥ f Finset.univ = Finset.univ.sup f := rfl
  rw [hs]
  obtain ⟨j, _, hj⟩ := Finset.exists_mem_eq_sup Finset.univ ⟨i, Finset.mem_univ i⟩ f
  rw [hj]
  rcases hf j with h | ⟨M, hM⟩
  · have hle : f i ≤ Finset.univ.sup f := Finset.le_sup (Finset.mem_univ i)
    rw [hj, h, hi, le_bot_iff] at hle
    exact absurd hle (EReal.coe_ne_bot r)
  · exact ⟨M, hM⟩

/-- The weight of a real score, and of −∞. -/
theorem weight (s M : ℝ) : Ideal.exp ((s : EReal) - (M : EReal)) = ((Real.exp (s - M) : ℝ) : EReal) := by
  rw [← EReal.coe_sub]
  exact Ideal.exp_coe _

theorem weight_bot (M : ℝ) : Ideal.exp ((⊥ : EReal) - (M : EReal)) = ((0 : ℝ) : EReal) := by
  rw [EReal.bot_sub, Ideal.exp_bot, EReal.coe_zero]

/-- The weight after division, from the logarithm of the sum. -/
theorem weight_log (s M L : ℝ) (hL : 0 < L) :
    Ideal.exp ((s : EReal) - ((M : EReal) + Ideal.log (L : EReal))) = ((Real.exp (s - M) / L : ℝ) : EReal) := by
  rw [Ideal.log_coe, if_neg (not_le.mpr hL), ← EReal.coe_add, ← EReal.coe_sub, Ideal.exp_coe, ← sub_sub, Real.exp_sub (s - M), Real.exp_log hL]

/-- The gradient through a softmax row: with the output's cotangent `D`, values `V`, weights `e` of sum `L`, subtracting the
    product of `D` with the output is subtracting the weighted mean of the weights' gradients. -/
theorem softmax_grad {κ : Type*} [Fintype κ] (D : κ → ℝ) (V : ι → κ → ℝ) (e : ι → ℝ) (L sc : ℝ) (hL : L ≠ 0) (j : ι) :
    e j / L * (∑ d, D d * V j d - ∑ d, D d * ∑ k, V k d * (e k / L)) * sc
      = ((∑ d, D d * V j d) / L + -∑ k, (∑ d, D d * V k d) * (1 / (L * L)) * e k) * e j * sc := by
  have h1 : ∑ d, D d * ∑ k, V k d * (e k / L) = (∑ k, (∑ d, D d * V k d) * e k) / L := by
    simp only [Finset.mul_sum, Finset.sum_mul, Finset.sum_div]
    rw [Finset.sum_comm]
    exact Finset.sum_congr rfl fun k _ => Finset.sum_congr rfl fun d _ => by ring
  have h2 : ∑ k, (∑ d, D d * V k d) * (1 / (L * L)) * e k = (∑ k, (∑ d, D d * V k d) * e k) / (L * L) := by
    rw [Finset.sum_div]
    exact Finset.sum_congr rfl fun k _ => by ring
  rw [h1, h2]
  field_simp
  ring

end Cert.Real

end
-- ==== Proof.Attn.Equation.lean ====
/- The attention's backward and the reference's gradient are the same numbers when the arguments are reals. -/
module

public import proofs.«01_k».proof.Proof.Attn.Blocks
public import proofs.«01_k».proof.Proof.Attn.Reference
public import proofs.«01_k».proof.Proof.Real.Softmax

@[expose] public section

set_option maxRecDepth 16384

noncomputable section

namespace Cert.AttnIdeal.Hand

open Cert.AttnIdeal Cert.AttnIdeal.Gen Idealize.ShloMosaic Idealize.ShloMosaic.TcCoe Idealize.SL.Sem

variable (m : (ℓ : Loc nD τ sig) → Buf (Elt Ideal) ℓ)

/-- Every entry of the four arguments is a real. -/
structure Reals (c : Dev nD) : Prop where
  q : ∀ i h k, ∃ x : ℝ, aQ m c i h k = x
  k : ∀ i h k, ∃ x : ℝ, aK m c i h k = x
  v : ∀ i h d, ∃ x : ℝ, aV m c i h d = x
  d : ∀ i h d, ∃ x : ℝ, aD m c i h d = x

/-- The product of two padded rows is the product of the rows. -/
theorem padz_dot (A B : Fin 2048 → Fin 8 → Fin 96 → EReal) (i j : Fin 2048) (h : Fin 8) :
    ∑ e, padz A i h e * padz B j h e = ∑ k, A i h k * B j h k := by
  refine (Fin.sum_univ_add (a := 96) (b := 32) (fun e => padz A i h e * padz B j h e)).trans ?_
  have hz : ∀ e : Fin 32, padz A i h (Fin.natAdd 96 e) * padz B j h (Fin.natAdd 96 e) = 0 := fun e => by
    have : ¬(Fin.natAdd 96 e).val < 96 := by simp
    unfold padz
    rw [dif_neg this, zero_mul]
  rw [Finset.sum_congr rfl fun e _ => hz e, Finset.sum_const_zero, add_zero]
  refine Finset.sum_congr rfl fun e _ => ?_
  have : (Fin.castAdd 32 e).val < 96 := e.isLt
  unfold padz
  rw [dif_pos this, dif_pos this]
  rfl

/-- A query's row of scores: its weights before division, their sum, and the kernel's weights. -/
theorem row_real (c : Dev nD) (H : Reals m c) (h : Fin 8) (i : Fin 2048) :
    ∃ (L : ℝ) (e : Fin 2048 → ℝ), 0 < L ∧ (∀ j, eE m c h i j = ((e j : ℝ) : EReal)) ∧ eL m c h i = (L : EReal)
      ∧ (∀ j, ¬j.val ≤ i.val → e j = 0) ∧ ∀ j, j.val ≤ i.val → kP m c h i j = ((e j / L : ℝ) : EReal) := by
  obtain ⟨scr, hsc⟩ := Cert.Real.cscale
  choose q hq using H.q
  choose k hk using H.k
  have hs : ∀ j, (∑ d, aQ m c i h d * aK m c j h d) * sc = (((∑ d, q i h d * k j h d) * scr : ℝ) : EReal) := fun j => by
    simp only [hq, hk, sc, hsc, ← EReal.coe_mul, ← Cert.Real.coe_sum]
  have hS : ∀ j, j.val ≤ i.val → eS m c h i j = (((∑ d, q i h d * k j h d) * scr : ℝ) : EReal) := fun j hj => by
    unfold eS; rw [if_pos hj, hs]
  have hB : ∀ j, ¬j.val ≤ i.val → eS m c h i j = ⊥ := fun j hj => by
    unfold eS; rw [if_neg hj, Cert.Real.cbot]
  obtain ⟨M, hM⟩ : ∃ M : ℝ, eM m c h i = (M : EReal) := by
    unfold eM
    rw [Cert.Real.cbot]
    refine Cert.Real.max_real _ (fun j => ?_) i _ (hS i le_rfl)
    by_cases hj : j.val ≤ i.val
    · exact Or.inr ⟨_, hS j hj⟩
    · exact Or.inl (hB j hj)
  have hE : ∀ j, eE m c h i j = (((if j.val ≤ i.val then Real.exp ((∑ d, q i h d * k j h d) * scr - M) else 0 : ℝ)) : EReal) := fun j => by
    unfold eE
    by_cases hj : j.val ≤ i.val
    · rw [if_pos hj, hS j hj, hM, Cert.Real.weight]
    · rw [if_neg hj, hB j hj, hM, Cert.Real.weight_bot]
  have hpos : 0 < ∑ j : Fin 2048, (if j.val ≤ i.val then Real.exp ((∑ d, q i h d * k j h d) * scr - M) else 0 : ℝ) := by
    refine Finset.sum_pos' (fun j _ => ?_) ⟨i, Finset.mem_univ i, ?_⟩
    · split
      · exact (Real.exp_pos _).le
      · exact le_rfl
    · rw [if_pos le_rfl]
      exact Real.exp_pos _
  have hL : eL m c h i = ((∑ j : Fin 2048, (if j.val ≤ i.val then Real.exp ((∑ d, q i h d * k j h d) * scr - M) else 0 : ℝ) : ℝ) : EReal) := by
    unfold eL
    rw [Cert.Real.coe_sum]
    exact Finset.sum_congr rfl fun j _ => hE j
  refine ⟨_, _, hpos, hE, hL, fun j hj => if_neg hj, fun j hj => ?_⟩
  unfold kP eZ
  rw [padz_dot, hs, hM, hL, Cert.Real.weight_log _ _ _ hpos, if_pos hj]

/-- The gradient of a score, where the score is not masked. -/
theorem ds_eq (c : Dev nD) (H : Reals m c) (h : Fin 8) (i j : Fin 2048) (hj : j.val ≤ i.val) : kDs m c h i j = rDs m c h i j := by
  obtain ⟨scr, hsc⟩ := Cert.Real.cscale
  obtain ⟨L, e, hL, hE, hS, hz, hP⟩ := row_real m c H h i
  choose v hv using H.v
  choose d hd using H.d
  unfold kDs rDs eO eDp
  rw [if_pos hj, hP j hj]
  simp only [hE, hS, hv, hd, sc, hsc, Cert.Real.div_real _ _ hL.ne', ← EReal.coe_mul, ← Cert.Real.coe_sum, ← EReal.coe_sub]
  have h1 : Ideal.div (1 : EReal) ((L * L : ℝ) : EReal) = ((1 / (L * L) : ℝ) : EReal) :=
    Cert.Real.div_real 1 (L * L) (mul_ne_zero hL.ne' hL.ne')
  simp only [h1, ← EReal.coe_mul, ← Cert.Real.coe_sum, ← EReal.coe_neg, ← EReal.coe_add]
  exact congrArg _ (Cert.Real.softmax_grad (fun x => d i h x) (fun x y => v x h y) e L scr hL.ne' j)

theorem ds_masked (c : Dev nD) (h : Fin 8) (i j : Fin 2048) (hj : ¬j.val ≤ i.val) : rDs m c h i j = 0 := by
  unfold rDs
  rw [if_neg hj]

theorem dq_eq (c : Dev nD) (H : Reals m c) (i : Fin 2048) (h : Fin 8) (k : Fin 128) :
    ∑ j, tDq m c i h k j = padz (rDq m c) i h k := by
  unfold tDq padz rDq
  by_cases hk : k.val < 96
  · rw [dif_pos hk]
    refine Finset.sum_congr rfl fun j _ => ?_
    by_cases hj : j.val ≤ i.val
    · rw [if_pos hj, dif_pos hk, ds_eq m c H h i j hj]
    · rw [if_neg hj, ds_masked m c h i j hj, zero_mul]
  · rw [dif_neg hk]
    refine Finset.sum_eq_zero fun j _ => ?_
    rw [dif_neg hk, mul_zero, ite_self]

theorem dk_eq (c : Dev nD) (H : Reals m c) (j : Fin 2048) (h : Fin 8) (k : Fin 128) :
    ∑ i, tDk m c j h k i = padz (rDk m c) j h k := by
  unfold tDk padz rDk
  by_cases hk : k.val < 96
  · rw [dif_pos hk]
    refine Finset.sum_congr rfl fun i _ => ?_
    by_cases hj : j.val ≤ i.val
    · rw [if_pos hj, dif_pos hk, ds_eq m c H h i j hj]
    · rw [if_neg hj, ds_masked m c h i j hj, zero_mul]
  · rw [dif_neg hk]
    refine Finset.sum_eq_zero fun i _ => ?_
    rw [dif_neg hk, mul_zero, ite_self]

theorem dv_eq (c : Dev nD) (H : Reals m c) (j : Fin 2048) (h : Fin 8) (d : Fin 64) :
    ∑ i, tDv m c j h d i = rDv m c j h d := by
  unfold tDv rDv
  refine Finset.sum_congr rfl fun i _ => ?_
  obtain ⟨L, e, hL, hE, hS, hz, hP⟩ := row_real m c H h i
  rw [hE, hS, Cert.Real.div_real _ _ hL.ne']
  by_cases hj : j.val ≤ i.val
  · rw [if_pos hj, hP j hj, mul_comm]
  · rw [if_neg hj, hz j hj, zero_div, EReal.coe_zero, mul_zero]

end Cert.AttnIdeal.Hand

end
-- ==== Proof.Attn.Claim.lean ====
/- The attention's backward: the frames, and the two runs end with the same three arrays. -/
module

public import proofs.«01_k».proof.Proof.Attn.Equation
public import proofs.«01_k».proof.Proof.Gen.AttnRefIdeal.Run
public import proofs.«01_k».proof.Proof.Gen.Pre_finite_attn
public import proofs.«01_k».proof.Proof.Gen.Attn
public import proofs.«01_k».proof.Defs

@[expose] public section

set_option maxRecDepth 16384

noncomputable section

namespace Cert.AttnIdeal.Hand

open Cert.AttnIdeal Cert.AttnIdeal.Gen Idealize.ShloMosaic Idealize.ShloMosaic.TcCoe Idealize.SL.Sem

variable (m : (ℓ : Loc nD τ sig) → Buf (Elt Ideal) ℓ)

/-- The precondition, entry by entry. -/
theorem reals (h : Cert.Pre_AttnIdeal_finite_attn m) (c : Dev nD) : Reals m c := by
  obtain ⟨h0, h1, h2, h3⟩ := h c
  refine ⟨fun i j k => ?_, fun i j k => ?_, fun i j k => ?_, fun i j k => ?_⟩
  · have e := congrFun h0 (ix3 i j k)
    pointwise [Cert.Pre_finite_attn.fn] at e
    exact Cert.Real.real_of_finite e
  · have e := congrFun h1 (ix3 i j k)
    pointwise [Cert.Pre_finite_attn.fn] at e
    exact Cert.Real.real_of_finite e
  · have e := congrFun h2 (ix3 i j k)
    pointwise [Cert.Pre_finite_attn.fn] at e
    exact Cert.Real.real_of_finite e
  · have e := congrFun h3 (ix3 i j k)
    pointwise [Cert.Pre_finite_attn.fn] at e
    exact Cert.Real.real_of_finite e

/-- The kernel's run: its three results are the arrays its points write, its arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v34_0) = (dats m 0 c).arrAt 6 cfg0.N
      ∧ r.2.mem ((c.tc : Thread nD τ).loc main_v34_1) = (dats m 0 c).arrAt 7 cfg0.N
      ∧ r.2.mem ((c.tc : Thread nD τ).loc main_v34_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.1 c).1 6, (h.1.1 c).1 7, (h.1.1 c).1 8, h.2.1 c⟩)
    (θ_run_and (run_quiescent m ρ) (frame m ρ))

theorem bits_frame : Cert.quiescent_Attn := fun m ρ _ => Eq.mp (by sl_kernel_rfl) (frame (F := Bits) m ρ)

theorem ideal_frame : Cert.quiescent_AttnIdeal := fun m ρ _ => frame m ρ

/-- The reference's frame, from its run. -/
theorem ref_frame : Cert.quiescent_AttnRefIdeal := fun m ρ _ =>
  (θ_run _ _ _).mono (fun r h => ⟨fun c => (h c).2.2.2, sem_eq_zero_of_no_sems (by decide) r.2⟩)
    (Cert.AttnRefIdeal.Value.run m ρ)

/-- A column of the padded arrays is one head's lane; of the narrow one too. -/
theorem col_split (n : Fin 1024) : ∃ (h : Fin 8) (k : Fin 128), n = ⟨128 * h.val + k.val, col_lt h k⟩ :=
  ⟨⟨n.val / 128, by omega⟩, ⟨n.val % 128, by omega⟩, Fin.ext (by dsimp only; omega)⟩
theorem col_split' (n : Fin 512) : ∃ (h : Fin 8) (d : Fin 64), n = ⟨64 * h.val + d.val, col_lt' h d⟩ :=
  ⟨⟨n.val / 64, by omega⟩, ⟨n.val % 64, by omega⟩, Fin.ext (by dsimp only; omega)⟩

theorem algebraic : Cert.algebraic_AttnIdeal_AttnRefIdeal_pre_finite_attn := by
  intro m g m' g' hpre hag
  refine ⟨fun c => (dats m 0 c).arrAt 6 cfg0.N, fun c => (dats m 0 c).arrAt 7 cfg0.N, fun c => (dats m 0 c).arrAt 8 cfg0.N,
    kernel_run m g, ?_⟩
  refine (θ_run _ _ _).mono (fun r h c => ?_) (Cert.AttnRefIdeal.Value.run m' g')
  obtain ⟨h65, h67, h68, hr⟩ := h c
  obtain ⟨a0, a1, a2, a3⟩ := hag c
  have H := reals m hpre c
  refine ⟨h65.trans ?_, h67.trans ?_, h68.trans ?_, hr⟩
  · rw [Cert.AttnRefIdeal.Read.val_main_v65_eq, a0, a1, a2, a3]
    refine Eq.trans ?_ (arr_dq m c).symm
    funext i
    idx_vars i
    obtain ⟨h, k, rfl⟩ := col_split i1
    exact (ref_dq m c i0 h k).trans ((dq_eq m c H i0 h k).symm.trans
      (kDq_at m c i0 i0 _ h k rfl (by dsimp only; omega) (by dsimp only; omega)))
  · rw [Cert.AttnRefIdeal.Read.val_main_v67_eq, a0, a1, a2, a3]
    refine Eq.trans ?_ (arr_dk m c).symm
    funext i
    idx_vars i
    obtain ⟨h, k, rfl⟩ := col_split i1
    exact (ref_dk m c i0 h k).trans ((dk_eq m c H i0 h k).symm.trans
      (kDk_at m c i0 i0 _ h k rfl (by dsimp only; omega) (by dsimp only; omega)))
  · rw [Cert.AttnRefIdeal.Read.val_main_v68_eq, a0, a1, a3]
    refine Eq.trans ?_ (arr_dv m c).symm
    funext i
    idx_vars i
    obtain ⟨h, d, rfl⟩ := col_split' i1
    exact (ref_dv m c i0 h d).trans ((dv_eq m c H i0 h d).symm.trans
      (kDv_at m c i0 i0 _ h d rfl (by dsimp only; omega) (by dsimp only; omega)))

end Cert.AttnIdeal.Hand

end
-- ==== Proof.Fwd.Row.lean ====
/- A row's softmax over the keys it may see is the softmax over all keys with the others at −∞. -/
module

public import proofs.«01_k».proof.Proof.Attn.Tile
public import proofs.«01_k».proof.Proof.Real.Softmax

@[expose] public section

set_option maxRecDepth 16384

noncomputable section

namespace Cert.AttnFwdIdeal.Hand

open Idealize.ShloMosaic Idealize.ShloMosaic.TcCoe
open Cert.AttnIdeal.Hand (sum_keys)

/-- −∞, as the programs write it. -/
def bot : EReal := Ideal.ofBits .f32 4286578688#32

theorem bot_eq : bot = ⊥ := Real.cbot

/-- The greatest of a row of scores, the row's weights and their sum. -/
def top {K : ℕ} (s : Fin K → EReal) : EReal := Finset.univ.fold max bot s
def wt {K : ℕ} (s : Fin K → EReal) (j : Fin K) : EReal := Ideal.exp (s j - top s)
def tot {K : ℕ} (s : Fin K → EReal) : EReal := ∑ j, wt s j

section prefix_keys

variable {K : ℕ} (hK : K ≤ 2048) (f : Fin K → EReal) (g : Fin 2048 → EReal)
  (h : ∀ x : Fin K, f x = g ⟨x.val, lt_of_lt_of_le x.isLt hK⟩) (h0 : ∀ j : Fin 2048, K ≤ j.val → g j = bot)

include h h0

theorem top_keys : top f = top g := by
  unfold top
  rw [bot_eq]
  show Finset.univ.sup f = Finset.univ.sup g
  refine le_antisymm (Finset.sup_le fun x _ => ?_) (Finset.sup_le fun j _ => ?_)
  · rw [h x]
    exact Finset.le_sup (f := g) (Finset.mem_univ _)
  · rcases Nat.lt_or_ge j.val K with hj | hj
    · exact le_of_eq_of_le (h ⟨j.val, hj⟩).symm (Finset.le_sup (f := f) (Finset.mem_univ _))
    · rw [h0 j hj, bot_eq]
      exact bot_le

theorem wt_keys (x : Fin K) : wt f x = wt g ⟨x.val, lt_of_lt_of_le x.isLt hK⟩ := by
  unfold wt
  rw [h x, top_keys hK f g h h0]

omit h in
theorem wt_masked (j : Fin 2048) (hj : K ≤ j.val) : wt g j = 0 := by
  unfold wt
  rw [h0 j hj, bot_eq, EReal.bot_sub]
  rfl

theorem tot_keys : tot f = tot g :=
  sum_keys hK _ _ (wt_keys hK f g h h0) (wt_masked g h0)

theorem mix_keys (v : Fin 2048 → EReal) :
    ∑ x, wt f x * v ⟨x.val, lt_of_lt_of_le x.isLt hK⟩ = ∑ j, wt g j * v j :=
  sum_keys hK _ _ (fun x => by rw [wt_keys hK f g h h0 x]) (fun j hj => by rw [wt_masked g h0 j hj, zero_mul])

end prefix_keys

end Cert.AttnFwdIdeal.Hand

end
-- ==== Proof.Fwd.Tile.lean ====
/- What one grid point of the attention's forward leaves in its two results' blocks, entry by entry: the softmax of the
   tile's scores over the keys it may see, written over all keys with the others at −∞. -/
module

public import proofs.«01_k».proof.Proof.Attn.Reads
public import proofs.«01_k».proof.Proof.Fwd.Row
public import proofs.«01_k».proof.Proof.Gen.AttnFwdIdeal.Value

@[expose] public section

set_option maxRecDepth 16384

noncomputable section

namespace Cert.AttnFwdIdeal.Hand

open Idealize.ShloMosaic Idealize.ShloMosaic.TcCoe Cert.AttnFwdIdeal.Gen
open Cert.AttnIdeal.Hand (sc lane select_keep select_lane0 select_lane1)

variable (x0 : Vec Ideal S256x256 .bf16) (x1 : Vec Ideal S2048x256 .bf16) (x2 : Vec Ideal S2048x128 .bf16)

/-- The score of key `j` for query `r` of tile `n`, head `h`. -/
def sE (n : ℕ) (h : Fin 2) (r : Fin 256) (j : Fin 2048) : EReal :=
  if j.val ≤ 256 * n + r.val then (∑ e : Fin 128, x0 (ix2 r (lane h e)) * x1 (ix2 j (lane h e))) * sc else bot

def lseE (n : ℕ) (h : Fin 2) (r : Fin 256) : EReal := top (sE x0 x1 n h r) + Ideal.log (tot (sE x0 x1 n h r))

def oE (n : ℕ) (h : Fin 2) (r : Fin 256) (d : Fin 128) : EReal :=
  Ideal.div (∑ j : Fin 2048, wt (sE x0 x1 n h r) j * x2 (ix2 j d)) (tot (sE x0 x1 n h r))

theorem lse_keys {K : ℕ} (hK : K ≤ 2048) (f : Fin K → EReal) (n : ℕ) (h : Fin 2) (r : Fin 256)
    (hf : ∀ x : Fin K, f x = sE x0 x1 n h r ⟨x.val, lt_of_lt_of_le x.isLt hK⟩) (hn : 256 * n + 256 ≤ K) :
    top f + Ideal.log (tot f) = lseE x0 x1 n h r := by
  have h0 : ∀ j : Fin 2048, K ≤ j.val → sE x0 x1 n h r j = bot := fun j hj => if_neg (by have := r.isLt; omega)
  unfold lseE
  rw [top_keys hK f _ hf h0, tot_keys hK f _ hf h0]

theorem o_keys {K : ℕ} (hK : K ≤ 2048) (f : Fin K → EReal) (n : ℕ) (h : Fin 2) (r : Fin 256) (d : Fin 128)
    (hf : ∀ x : Fin K, f x = sE x0 x1 n h r ⟨x.val, lt_of_lt_of_le x.isLt hK⟩) (hn : 256 * n + 256 ≤ K) :
    Ideal.div (∑ x : Fin K, wt f x * x2 (ix2 ⟨x.val, lt_of_lt_of_le x.isLt hK⟩ d)) (tot f) = oE x0 x1 x2 n h r d := by
  have h0 : ∀ j : Fin 2048, K ≤ j.val → sE x0 x1 n h r j = bot := fun j hj => if_neg (by have := r.isLt; omega)
  unfold oE
  rw [tot_keys hK f _ hf h0, mix_keys hK f _ hf h0 fun j => x2 (ix2 j d)]

/-- The tile a grid point works on is one of eight. -/
theorem tiles (t : ℕ) : t % 8 = 0 ∨ t % 8 = 1 ∨ t % 8 = 2 ∨ t % 8 = 3 ∨ t % 8 = 4 ∨ t % 8 = 5 ∨ t % 8 = 6 ∨ t % 8 = 7 := by omega

end Cert.AttnFwdIdeal.Hand

end
-- ==== Proof.Fwd.TileLse.lean ====
/- The logarithms of the rows' sums a grid point of the attention's forward leaves, head by head. -/
module

public import proofs.«01_k».proof.Proof.Fwd.Tile

@[expose] public section

set_option maxRecDepth 16384

noncomputable section

namespace Cert.AttnFwdIdeal.Hand

open Idealize.ShloMosaic Idealize.ShloMosaic.TcCoe Cert.AttnFwdIdeal.Gen
open Cert.AttnIdeal.Hand (sc lane select_keep select_lane0 select_lane1)

variable (m : (ℓ : Loc nD τ sig) → Buf (Elt Ideal) ℓ)

set_option maxHeartbeats 8000000 in
theorem tile_lse0 (c : Dev nD) (t : Fin cfg0.N) (r : Fin 256) :
    (outsAt0 m c t.val t.isLt).2 (ix3 0 r 0) = lseE (iblk m c 0 t) (iblk m c 1 t) (t.val % 8) 0 r := by
  rcases tiles t.val with hk | hk | hk | hk | hk | hk | hk | hk <;> rw [hk]
  all_goals first
    | rw [outsAt0_A m c t hk (by omega) (by omega) (by omega) (by omega) (by omega) (by omega) (by omega)]
    | rw [outsAt0_B m c t (by omega) hk (by omega) (by omega) (by omega) (by omega) (by omega) (by omega)]
    | rw [outsAt0_C m c t (by omega) (by omega) hk (by omega) (by omega) (by omega) (by omega) (by omega)]
    | rw [outsAt0_D m c t (by omega) (by omega) (by omega) hk (by omega) (by omega) (by omega) (by omega)]
    | rw [outsAt0_E m c t (by omega) (by omega) (by omega) (by omega) hk (by omega) (by omega) (by omega)]
    | rw [outsAt0_F m c t (by omega) (by omega) (by omega) (by omega) (by omega) hk (by omega) (by omega)]
    | rw [outsAt0_G m c t (by omega) (by omega) (by omega) (by omega) (by omega) (by omega) hk (by omega)]
    | rw [outsAt0_H m c t (by omega) (by omega) (by omega) (by omega) (by omega) (by omega) (by omega) hk]
  all_goals
    generalize iblk m c 0 t = x0
    generalize iblk m c 1 t = x1
    generalize iblk m c 2 t = x2
    dsimp only [out0_A_4, out0_B_4, out0_C_4, out0_D_4, out0_E_4, out0_F_4, out0_G_4, out0_H_4]
    frame_open
    refine (View.read_writes_cons_unit_of_not_mem _ _ _ _ _ _ rfl 0 (Or.inl (by exact Nat.zero_lt_one))).trans ?_
    refine (View.read_writes_cons_unit_of_mem _ _ _ _ _ _ (ix3 0 r 0) rfl (fun a => by fin_cases a; rfl; exact (Nat.zero_add _).symm; rfl)).trans ?_
    open_payloads
    pointwise
    simp only [(hs0_0 t).read_unread, (hs0_1 t).read_unread, (hs0_2 t).read_unread]
    exact lse_keys x0 x1 (by decide) _ _ _ _ (fun x => select_keep x _ r (by decide) (by decide) (by decide) _ _) (by decide)

set_option maxHeartbeats 8000000 in
theorem tile_lse1 (c : Dev nD) (t : Fin cfg0.N) (r : Fin 256) :
    (outsAt0 m c t.val t.isLt).2 (ix3 1 r 0) = lseE (iblk m c 0 t) (iblk m c 1 t) (t.val % 8) 1 r := by
  rcases tiles t.val with hk | hk | hk | hk | hk | hk | hk | hk <;> rw [hk]
  all_goals first
    | rw [outsAt0_A m c t hk (by omega) (by omega) (by omega) (by omega) (by omega) (by omega) (by omega)]
    | rw [outsAt0_B m c t (by omega) hk (by omega) (by omega) (by omega) (by omega) (by omega) (by omega)]
    | rw [outsAt0_C m c t (by omega) (by omega) hk (by omega) (by omega) (by omega) (by omega) (by omega)]
    | rw [outsAt0_D m c t (by omega) (by omega) (by omega) hk (by omega) (by omega) (by omega) (by omega)]
    | rw [outsAt0_E m c t (by omega) (by omega) (by omega) (by omega) hk (by omega) (by omega) (by omega)]
    | rw [outsAt0_F m c t (by omega) (by omega) (by omega) (by omega) (by omega) hk (by omega) (by omega)]
    | rw [outsAt0_G m c t (by omega) (by omega) (by omega) (by omega) (by omega) (by omega) hk (by omega)]
    | rw [outsAt0_H m c t (by omega) (by omega) (by omega) (by omega) (by omega) (by omega) (by omega) hk]
  all_goals
    generalize iblk m c 0 t = x0
    generalize iblk m c 1 t = x1
    generalize iblk m c 2 t = x2
    dsimp only [out0_A_4, out0_B_4, out0_C_4, out0_D_4, out0_E_4, out0_F_4, out0_G_4, out0_H_4]
    frame_open
    refine (View.read_writes_cons_unit_of_mem _ _ _ _ _ _ (ix3 0 r 0) rfl (fun a => by fin_cases a; rfl; exact (Nat.zero_add _).symm; rfl)).trans ?_
    open_payloads
    pointwise
    simp only [(hs0_0 t).read_unread, (hs0_1 t).read_unread, (hs0_2 t).read_unread]
    exact lse_keys x0 x1 (by decide) _ _ _ _ (fun x => select_keep x _ r (by decide) (by decide) (by decide) _ _) (by decide)

end Cert.AttnFwdIdeal.Hand

end
-- ==== Proof.Fwd.TileO.lean ====
/- The outputs a grid point of the attention's forward leaves, lane by lane. -/
module

public import proofs.«01_k».proof.Proof.Fwd.Tile

@[expose] public section

set_option maxRecDepth 16384

noncomputable section

namespace Cert.AttnFwdIdeal.Hand

open Idealize.ShloMosaic Idealize.ShloMosaic.TcCoe Cert.AttnFwdIdeal.Gen
open Cert.AttnIdeal.Hand (sc lane select_keep select_lane0 select_lane1)

variable (m : (ℓ : Loc nD τ sig) → Buf (Elt Ideal) ℓ)

set_option maxHeartbeats 8000000 in
theorem tile_o (c : Dev nD) (t : Fin cfg0.N) (r : Fin 256) (d : Fin 128) :
    (outsAt0 m c t.val t.isLt).1 (ix2 r d)
      = if d.val / 64 = 1 then oE (iblk m c 0 t) (iblk m c 1 t) (iblk m c 2 t) (t.val % 8) 1 r d
        else if d.val / 64 = 0 then oE (iblk m c 0 t) (iblk m c 1 t) (iblk m c 2 t) (t.val % 8) 0 r d else 0 := by
  rcases tiles t.val with hk | hk | hk | hk | hk | hk | hk | hk <;> rw [hk]
  all_goals first
    | rw [outsAt0_A m c t hk (by omega) (by omega) (by omega) (by omega) (by omega) (by omega) (by omega)]
    | rw [outsAt0_B m c t (by omega) hk (by omega) (by omega) (by omega) (by omega) (by omega) (by omega)]
    | rw [outsAt0_C m c t (by omega) (by omega) hk (by omega) (by omega) (by omega) (by omega) (by omega)]
    | rw [outsAt0_D m c t (by omega) (by omega) (by omega) hk (by omega) (by omega) (by omega) (by omega)]
    | rw [outsAt0_E m c t (by omega) (by omega) (by omega) (by omega) hk (by omega) (by omega) (by omega)]
    | rw [outsAt0_F m c t (by omega) (by omega) (by omega) (by omega) (by omega) hk (by omega) (by omega)]
    | rw [outsAt0_G m c t (by omega) (by omega) (by omega) (by omega) (by omega) (by omega) hk (by omega)]
    | rw [outsAt0_H m c t (by omega) (by omega) (by omega) (by omega) (by omega) (by omega) (by omega) hk]
  all_goals
    generalize iblk m c 0 t = x0
    generalize iblk m c 1 t = x1
    generalize iblk m c 2 t = x2
    dsimp only [out0_A_3, out0_B_3, out0_C_3, out0_D_3, out0_E_3, out0_F_3, out0_G_3, out0_H_3]
    frame_open
    refine (View.read_writes_cons_unit_of_mem _ _ _ _ _ _ (ix2 r d) rfl (Fin.forall_fin_two.mpr ⟨(Nat.zero_add _).symm, (Nat.zero_add _).symm⟩)).trans ?_
    open_payloads
    pointwise
    simp only [(hs0_0 t).read_unread, (hs0_1 t).read_unread, (hs0_2 t).read_unread]
    refine (select_lane1 d _ _).trans (if_congr Iff.rfl ?_ ((select_lane0 d _ _).trans (if_congr Iff.rfl ?_ rfl)))
    · exact o_keys x0 x1 x2 (by decide) _ _ _ _ _ (fun x => select_keep x _ r (by decide) (by decide) (by decide) _ _) (by decide)
    · exact o_keys x0 x1 x2 (by decide) _ _ _ _ _ (fun x => select_keep x _ r (by decide) (by decide) (by decide) _ _) (by decide)

end Cert.AttnFwdIdeal.Hand

end
-- ==== Proof.Fwd.Reads.lean ====
/- The blocks the attention's forward is given at a grid point, entry by entry, as the problem's own arrays. -/
module

public import proofs.«01_k».proof.Proof.Attn.Equation
public import proofs.«01_k».proof.Proof.Gen.AttnFwdIdeal.Value
public import Idealize.ShloMosaic.Lib.StableHlo.ReadAt

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Idealize.ShloMosaic.Pipeline (Dat)
open Cert.AttnIdeal.Hand (sc lane lane_val half padz col_lt col_lt' sitofp_zero)

variable (m : (ℓ : Loc nD τ sig) → Buf (Elt Ideal) ℓ)

theorem idx : ∀ t : Fin cfg0.N, win0_0.index t = ![t.val % 8, t.val / 8] ∧ win0_1.index t = ![0, t.val / 8]
    ∧ win0_2.index t = ![0, t.val / 8] ∧ win0_3.index t = ![t.val % 8, t.val / 8] ∧ win0_4.index t = ![t.val / 8, t.val % 8, 0] :=
  (by decide +kernel : ∀ t : Fin grid0.N, win0_0.index t = ![t.val % 8, t.val / 8] ∧ win0_1.index t = ![0, t.val / 8]
    ∧ win0_2.index t = ![0, t.val / 8] ∧ win0_3.index t = ![t.val % 8, t.val / 8] ∧ win0_4.index t = ![t.val / 8, t.val % 8, 0])

/-- The arguments, entry by entry: the queries, the keys, the values. -/
def aQ (c : Dev nD) (i : Fin 2048) (h : Fin 8) (k : Fin 96) : EReal := m ((c : Thread nD τ).loc main_arg0) (ix3 i h k)
def aK (c : Dev nD) (i : Fin 2048) (h : Fin 8) (k : Fin 96) : EReal := m ((c : Thread nD τ).loc main_arg1) (ix3 i h k)
def aV (c : Dev nD) (i : Fin 2048) (h : Fin 8) (d : Fin 64) : EReal := m ((c : Thread nD τ).loc main_arg2) (ix3 i h d)

/-- The row, and the head, that a grid point's row and head are. -/
def row (t : Fin cfg0.N) (r : Fin 256) : Fin 2048 := ⟨256 * (t.val % 8) + r.val, by omega⟩
def head (t : Fin cfg0.N) (h : Fin 2) : Fin 8 := ⟨2 * (t.val / 8) + h.val, by
  have hN : t.val < 32 := lt_of_lt_of_eq t.isLt (show cfg0.N = 32 from N_0)
  omega⟩

set_option maxHeartbeats 4000000 in
theorem v2 (c : Dev nD) (i : Fin 2048) (h : Fin 8) (k : Fin 128) :
    (V m c main_v2 (ix2 i ⟨128 * h.val + k.val, col_lt h k⟩) : EReal) = padz (aQ m c) i h k := by
  have hk := k.isLt
  have e1 : (128 * h.val + k.val) / 128 = h.val := by omega
  have e2 : (128 * h.val + k.val) % 128 = k.val := by omega
  unfold V
  after_reads_simp
  simp only [StableHlo.TRef.toBuf, StableHlo.TRef.ofBuf, cast_eq]
  pointwise
  unfold padz
  by_cases h96 : k.val < 96
  · rw [dif_pos h96, dif_pos ⟨by rw [e1]; exact h.isLt, by rw [e2]; exact h96⟩]
    exact congrArg₂ (aQ m c i) (Fin.ext e1) (Fin.ext e2)
  · rw [dif_neg h96, dif_neg fun hh => h96 (by rw [← e2]; exact hh.2)]
    exact sitofp_zero

set_option maxHeartbeats 4000000 in
theorem v5 (c : Dev nD) (i : Fin 2048) (h : Fin 8) (k : Fin 128) :
    (V m c main_v5 (ix2 i ⟨128 * h.val + k.val, col_lt h k⟩) : EReal) = padz (aK m c) i h k := by
  have hk := k.isLt
  have e1 : (128 * h.val + k.val) / 128 = h.val := by omega
  have e2 : (128 * h.val + k.val) % 128 = k.val := by omega
  unfold V
  after_reads_simp
  simp only [StableHlo.TRef.toBuf, StableHlo.TRef.ofBuf, cast_eq]
  pointwise
  unfold padz
  by_cases h96 : k.val < 96
  · rw [dif_pos h96, dif_pos ⟨by rw [e1]; exact h.isLt, by rw [e2]; exact h96⟩]
    exact congrArg₂ (aK m c i) (Fin.ext e1) (Fin.ext e2)
  · rw [dif_neg h96, dif_neg fun hh => h96 (by rw [← e2]; exact hh.2)]
    exact sitofp_zero

set_option maxHeartbeats 4000000 in
theorem v7 (c : Dev nD) (i : Fin 2048) (h : Fin 8) (d : Fin 64) :
    (V m c main_v7 (ix2 i ⟨64 * h.val + d.val, col_lt' h d⟩) : EReal) = aV m c i h d := by
  unfold V
  after_reads_simp
  pointwise
  exact congrArg₂ (aV m c i) (Fin.ext (by show (64 * h.val + d.val) / 64 = h.val; omega))
    (Fin.ext (by show (64 * h.val + d.val) % 64 = d.val; omega))

theorem rd0 (c : Dev nD) (t : Fin cfg0.N) (r : Fin 256) (h : Fin 2) (k : Fin 128) :
    (iblk m c 0 t (ix2 r (lane h k)) : EReal) = padz (aQ m c) (row t r) (head t h) k := by
  refine Eq.trans ?_ (v2 m c _ _ _)
  blk_ext [iblk, idx t]
  · simp only [row]; omega
  · simp only [head, lane_val]; omega

theorem rd1 (c : Dev nD) (t : Fin cfg0.N) (j : Fin 2048) (h : Fin 2) (k : Fin 128) :
    (iblk m c 1 t (ix2 j (lane h k)) : EReal) = padz (aK m c) j (head t h) k := by
  refine Eq.trans ?_ (v5 m c _ _ _)
  blk_ext [iblk, idx t]
  · simp only [head, lane_val]; omega

theorem rd2 (c : Dev nD) (t : Fin cfg0.N) (j : Fin 2048) (h : Fin 2) (d : Fin 64) :
    (iblk m c 2 t (ix2 j (half h d)) : EReal) = aV m c j (head t h) d := by
  refine Eq.trans ?_ (v7 m c _ _ _)
  blk_ext [iblk, idx t]
  · simp only [head, half]; omega

end Cert.AttnFwdIdeal.Hand

end
-- ==== Proof.Fwd.Reference.lean ====
/- The reference's attention, stage by stage, entry by entry, as the problem's own arrays. -/
module

public import proofs.«01_k».proof.Proof.Fwd.Row
public import proofs.«01_k».proof.Proof.Fwd.Reads
public import proofs.«01_k».proof.Proof.Gen.AttnFwdRefIdeal.Read

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Cert.AttnFwdRefIdeal.Read
open Cert.AttnIdeal.Hand (sc select_causal rowMax rowMax_at col_lt')

variable (m : (ℓ : Loc nD τ sig) → Buf (Elt Ideal) ℓ)

/-- The arguments, as arrays. -/
abbrev arrQ (c : Dev nD) : FVec Ideal S2048x8x96 .f32 := m ((c : Thread nD τ).loc main_arg0)
abbrev arrK (c : Dev nD) : FVec Ideal S2048x8x96 .f32 := m ((c : Thread nD τ).loc main_arg1)
abbrev arrV (c : Dev nD) : FVec Ideal S2048x8x64 .f32 := m ((c : Thread nD τ).loc main_arg2)

/-- The score of key `j` for query `i` of head `h`, the future at −∞. -/
def fS (c : Dev nD) (h : Fin 8) (i j : Fin 2048) : EReal :=
  if j.val ≤ i.val then (∑ d, aQ m c i h d * aK m c j h d) * sc else bot

set_option maxHeartbeats 4000000 in
theorem ref_S (c : Dev nD) (h : Fin 8) (i j : Fin 2048) :
    (val_main_v9 (F := Ideal) (arrQ m c) (arrK m c) (ix3 h i j) : EReal) = fS m c h i j := by
  pointwise [val_main_v9, val_main_call0_v2, val_main_call0_v1, val_main_call0_v0, val_main_cst_0, val_main_v8, val_main_v7, val_main_v6,
    val_main_v5, val_main_v4, val_main_v3, val_main_v2, val_main_v1, val_main_v0, val_main_cst]
  simp only [select_causal]
  rfl

set_option maxHeartbeats 4000000 in
theorem ref_S' (c : Dev nD) (h : Fin 8) (i j : Fin 2048) :
    (val_main_v33 (F := Ideal) (arrQ m c) (arrK m c) (ix3 h i j) : EReal) = fS m c h i j := by
  pointwise [val_main_v33, val_main_call1_v2, val_main_call1_v1, val_main_call1_v0, val_main_cst_5, val_main_v32, val_main_v31, val_main_v30,
    val_main_v29, val_main_v28, val_main_v27, val_main_v26, val_main_v25, val_main_v24, val_main_cst_4]
  simp only [select_causal]
  rfl

theorem max_top (s : Fin 2048 → EReal) : max (Ideal.ofBits .f32 0xFF800000#32) (top s) = top s :=
  max_eq_right ((Finset.le_fold_max _).mpr (Or.inl le_rfl))

theorem ref_max (c : Dev nD) (h : Fin 8) (i : Fin 2048) :
    (val_main_v10 (F := Ideal) (arrQ m c) (arrK m c) (ix2 h i) : EReal) = top (fS m c h i) := by
  refine (rowMax_at (val_main_v9 (F := Ideal) (arrQ m c) (arrK m c)) h i).trans ?_
  unfold top
  exact congrArg (fun f => Finset.fold max (Ideal.ofBits .f32 0xFF800000#32) f Finset.univ) (funext fun j => ref_S m c h i j)

theorem ref_M (c : Dev nD) (h : Fin 8) (i : Fin 2048) :
    (val_main_v12 (F := Ideal) (arrQ m c) (arrK m c) (ix2 h i) : EReal) = top (fS m c h i) := by
  refine (val_main_v12_apply _ _ _).trans (Eq.trans ?_ (max_top (fS m c h i)))
  exact congrArg₂ max rfl (ref_max m c h i)

set_option maxHeartbeats 4000000 in
theorem ref_E (c : Dev nD) (h : Fin 8) (i j : Fin 2048) :
    (val_main_v16 (F := Ideal) (arrQ m c) (arrK m c) (ix3 h i j) : EReal) = wt (fS m c h i) j := by
  pointwise [val_main_v16, val_main_v15, val_main_v14, val_main_v13]
  exact congrArg Ideal.exp (congrArg₂ (· - ·) (ref_S m c h i j) (ref_M m c h i))

set_option maxHeartbeats 4000000 in
theorem ref_L (c : Dev nD) (h : Fin 8) (i : Fin 2048) :
    (val_main_v17 (F := Ideal) (arrQ m c) (arrK m c) (ix2 h i) : EReal) = tot (fS m c h i) := by
  pointwise [val_main_v17, val_main_cst_3]
  exact Finset.sum_congr rfl fun j _ => ref_E m c h i j

set_option maxHeartbeats 4000000 in
theorem ref_P (c : Dev nD) (h : Fin 8) (i j : Fin 2048) :
    (val_main_v20 (F := Ideal) (arrQ m c) (arrK m c) (ix3 h i j) : EReal) = Ideal.div (wt (fS m c h i) j) (tot (fS m c h i)) := by
  pointwise [val_main_v20, val_main_v19, val_main_v18]
  exact congrArg₂ Ideal.div (ref_E m c h i j) (ref_L m c h i)

/-- The two results, entry by entry. -/
def rO (c : Dev nD) (i : Fin 2048) (h : Fin 8) (d : Fin 64) : EReal :=
  ∑ j, aV m c j h d * Ideal.div (wt (fS m c h i) j) (tot (fS m c h i))
def rLse (c : Dev nD) (h : Fin 8) (i : Fin 2048) : EReal := Ideal.log (∑ j, Ideal.exp (fS m c h i j))

set_option maxHeartbeats 4000000 in
theorem ref_o (c : Dev nD) (i : Fin 2048) (h : Fin 8) (d : Fin 64) :
    (val_main_v23 (F := Ideal) (arrQ m c) (arrK m c) (arrV m c) (ix2 i ⟨64 * h.val + d.val, col_lt' h d⟩) : EReal) = rO m c i h d := by
  pointwise [val_main_v23, val_main_v22, val_main_v21]
  exact Finset.sum_congr rfl fun j _ => congrArg₂ (· * ·) rfl (ref_P m c h i j)

set_option maxHeartbeats 4000000 in
theorem ref_lse (c : Dev nD) (h : Fin 8) (i : Fin 2048) :
    (val_main_v37 (F := Ideal) (arrQ m c) (arrK m c) (ix3 h i 0) : EReal) = rLse m c h i := by
  pointwise [val_main_v37, val_main_v36, val_main_v35, val_main_v34, val_main_cst_6]
  exact congrArg Ideal.log (Finset.sum_congr rfl fun j _ => congrArg Ideal.exp (ref_S' m c h i j))

end Cert.AttnFwdIdeal.Hand

end
-- ==== Proof.Fwd.Blocks.lean ====
/- The attention's forward, block by block: what a grid point computes in terms of the problem's arrays, and the two result
   arrays. -/
module

public import proofs.«01_k».proof.Proof.Fwd.TileLse
public import proofs.«01_k».proof.Proof.Fwd.TileO
public import proofs.«01_k».proof.Proof.Fwd.Reference

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Idealize.ShloMosaic.Pipeline (Dat)
open Cert.AttnIdeal.Hand (sc lane half half_split padz_dot)

variable (m : (ℓ : Loc nD τ sig) → Buf (Elt Ideal) ℓ)

/-- A tile's row of scores is the problem's. -/
theorem sE_at (c : Dev nD) (t : Fin cfg0.N) (h : Fin 2) (r : Fin 256) :
    sE (iblk m c 0 t) (iblk m c 1 t) (t.val % 8) h r = fS m c (head t h) (row t r) :=
  funext fun j => if_congr Iff.rfl (congrArg (· * sc) ((Finset.sum_congr rfl fun e _ =>
    congrArg₂ (fun a b : EReal => a * b) (rd0 m c t r h e) (rd1 m c t j h e)).trans (padz_dot (aQ m c) (aK m c) (row t r) j (head t h)))) rfl

/-- The kernel's two results, entry by entry. -/
def kO (c : Dev nD) (i : Fin 2048) (h : Fin 8) (d : Fin 64) : EReal :=
  Ideal.div (∑ j, wt (fS m c h i) j * aV m c j h d) (tot (fS m c h i))
def kLse (c : Dev nD) (h : Fin 8) (i : Fin 2048) : EReal := top (fS m c h i) + Ideal.log (tot (fS m c h i))

theorem oE_at (c : Dev nD) (t : Fin cfg0.N) (h : Fin 2) (r : Fin 256) (d : Fin 64) :
    oE (iblk m c 0 t) (iblk m c 1 t) (iblk m c 2 t) (t.val % 8) h r (half h d) = kO m c (row t r) (head t h) d := by
  unfold oE kO
  rw [sE_at]
  exact congrArg (Ideal.div · (tot (fS m c (head t h) (row t r))))
    (Finset.sum_congr rfl fun j _ => congrArg (wt (fS m c (head t h) (row t r)) j * ·) (rd2 m c t j h d))

theorem block_o (c : Dev nD) (t : Fin cfg0.N) (r : Fin 256) (h : Fin 2) (d : Fin 64) :
    ((outsAt0 m c t.val t.isLt).1 (ix2 r (half h d)) : EReal) = kO m c (row t r) (head t h) d := by
  refine (tile_o m c t r (half h d)).trans (Eq.trans ?_ (oE_at m c t h r d))
  have e : (half h d).val / 64 = h.val := by simp only [half]; omega
  rw [e]
  match h with
  | 0 => rfl
  | 1 => rfl

theorem block_lse (c : Dev nD) (t : Fin cfg0.N) (h : Fin 2) (r : Fin 256) :
    ((outsAt0 m c t.val t.isLt).2 (ix3 h r 0) : EReal) = kLse m c (head t h) (row t r) := by
  have e : lseE (iblk m c 0 t) (iblk m c 1 t) (t.val % 8) h r = kLse m c (head t h) (row t r) := by
    unfold lseE kLse
    rw [sE_at]
  have hh : h = 0 ∨ h = 1 := by omega
  rcases hh with rfl | rfl
  · exact (tile_lse0 m c t r).trans e
  · exact (tile_lse1 m c t r).trans e

theorem after_3 (c : Dev nD) (t : Fin cfg0.N) : (dats m 0 c).after 3 t = (outsAt0 m c t.val t.isLt).1 := rfl
theorem after_4 (c : Dev nD) (t : Fin cfg0.N) : (dats m 0 c).after 4 t = (outsAt0 m c t.val t.isLt).2 := rfl

/-- The output as an array: a column is one head's entry. -/
def arrO (c : Dev nD) (i : Fin 2048) (n : Fin 512) : EReal := kO m c i ⟨n.val / 64, by omega⟩ ⟨n.val % 64, by omega⟩

theorem arrO_at (c : Dev nD) (a i : Fin 2048) (n : Fin 512) (h : Fin 8) (d : Fin 64)
    (hi : a.val = i.val) (hh : n.val / 64 = h.val) (hx : n.val % 64 = d.val) : kO m c a h d = arrO m c i n := by
  obtain rfl : a = i := Fin.ext hi
  obtain rfl : h = ⟨n.val / 64, Nat.div_lt_of_lt_mul n.isLt⟩ := Fin.ext hh.symm
  obtain rfl : d = ⟨n.val % 64, Nat.mod_lt _ (by decide)⟩ := Fin.ext hx.symm
  rfl

theorem arr_o (c : Dev nD) :
    (dats m 0 c).arrAt 3 cfg0.N = fun i : S2048x512.Idx => (arrO m c (i 0) (i 1) : EReal) := by
  refine (dats m 0 c).arrAt_eq_of_covers 3 _ (by decide +kernel) fun t hf y => ?_
  blk_simp
  rw [after_3]
  idx_vars y
  have e0 : (((View.whole main_v8_0).slice (win0_3.rect t)).emb (ix2 y0 y1) 0).val = t.val % 8 * 256 + y0.val := by
    blk_simp [idx t]
  have e1 : (((View.whole main_v8_0).slice (win0_3.rect t)).emb (ix2 y0 y1) 1).val = t.val / 8 * 128 + y1.val := by
    blk_simp [idx t]
  obtain ⟨h, d, rfl, hh, hd⟩ := half_split y1
  have e2 : (half h d).val = 64 * h.val + d.val := rfl
  rw [e2] at e1
  exact (block_o m c t y0 h d).trans (arrO_at m c _ _ _ _ _ (by rw [e0]; simp only [row]; omega)
    (by simp only [head, e1]; omega) (by rw [e1]; omega))

theorem kLse_at (c : Dev nD) (h h' : Fin 8) (i i' : Fin 2048) (hh : h.val = h'.val) (hi : i.val = i'.val) :
    kLse m c h i = kLse m c h' i' := by
  obtain rfl : h = h' := Fin.ext hh
  obtain rfl : i = i' := Fin.ext hi
  rfl

theorem arr_lse (c : Dev nD) :
    (dats m 0 c).arrAt 4 cfg0.N = fun i : S8x2048x1.Idx => (kLse m c (i 0) (i 1) : EReal) := by
  refine (dats m 0 c).arrAt_eq_of_covers 4 _ (by decide +kernel) fun t hf y => ?_
  blk_simp
  rw [after_4]
  idx_vars y
  obtain rfl : y2 = 0 := Fin.ext (by omega)
  have e0 : (((View.whole main_v8_1).slice (win0_4.rect t)).emb (ix3 y0 y1 0) 0).val = t.val / 8 * 2 + y0.val := by
    blk_simp [idx t]
  have e1 : (((View.whole main_v8_1).slice (win0_4.rect t)).emb (ix3 y0 y1 0) 1).val = t.val % 8 * 256 + y1.val := by
    blk_simp [idx t]
  exact (block_lse m c t y0 y1).trans (kLse_at m c _ _ _ _ (by rw [e0]; simp only [head]; omega)
    (by rw [e1]; simp only [row]; omega))

end Cert.AttnFwdIdeal.Hand

end
-- ==== Proof.Fwd.Equation.lean ====
/- The attention's forward and the reference's are the same numbers when the queries and the keys are reals. -/
module

public import proofs.«01_k».proof.Proof.Fwd.Reference
public import proofs.«01_k».proof.Proof.Real.Norm

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Cert.AttnIdeal.Hand (sc)

variable (m : (ℓ : Loc nD τ sig) → Buf (Elt Ideal) ℓ)

/-- Every entry of the queries and the keys is a real. -/
structure Reals (c : Dev nD) : Prop where
  q : ∀ i h k, ∃ x : ℝ, aQ m c i h k = x
  k : ∀ i h k, ∃ x : ℝ, aK m c i h k = x

/-- A row of scores, one of them a real and the others reals or −∞: its weights and their sum are reals, the sum positive, and
    taking the greatest score away before the exponentials does not change the logarithm of their sum. -/
theorem row_facts (s : Fin 2048 → EReal) (hs : ∀ j, s j = ⊥ ∨ ∃ r : ℝ, s j = r) (i : Fin 2048) (r : ℝ) (hi : s i = r) :
    ∃ (L : ℝ) (e : Fin 2048 → ℝ), 0 < L ∧ (∀ j, wt s j = ((e j : ℝ) : EReal)) ∧ tot s = (L : EReal)
      ∧ top s + Ideal.log (tot s) = Ideal.log (∑ j, Ideal.exp (s j)) := by
  obtain ⟨M, hM⟩ : ∃ M : ℝ, top s = (M : EReal) := by
    unfold top
    rw [bot_eq]
    exact Cert.Real.max_real s hs i r hi
  have hw : ∀ j, ∃ e : ℝ, 0 ≤ e ∧ wt s j = (e : EReal) ∧ Ideal.exp (s j) = ((Real.exp M * e : ℝ) : EReal) := fun j => by
    unfold wt
    rw [hM]
    rcases hs j with h | ⟨x, h⟩ <;> rw [h]
    · exact ⟨0, le_rfl, Cert.Real.weight_bot M, by rw [Ideal.exp_bot, mul_zero, EReal.coe_zero]⟩
    · refine ⟨Real.exp (x - M), (Real.exp_pos _).le, Cert.Real.weight x M, ?_⟩
      rw [Ideal.exp_coe, ← Real.exp_add, add_sub_cancel]
  choose e h0 he hx using hw
  have hi' : 0 < e i := by
    have h1 := he i
    unfold wt at h1
    rw [hM, hi, Cert.Real.weight] at h1
    rw [← EReal.coe_eq_coe_iff.mp h1]
    exact Real.exp_pos _
  have hpos : 0 < ∑ j, e j := Finset.sum_pos' (fun j _ => h0 j) ⟨i, Finset.mem_univ i, hi'⟩
  have hL : tot s = ((∑ j, e j : ℝ) : EReal) := by
    unfold tot
    rw [Cert.Real.coe_sum]
    exact Finset.sum_congr rfl fun j _ => he j
  refine ⟨∑ j, e j, e, hpos, he, hL, ?_⟩
  have hX : ∑ j, Ideal.exp (s j) = ((Real.exp M * ∑ j, e j : ℝ) : EReal) := by
    rw [Finset.mul_sum, Cert.Real.coe_sum]
    exact Finset.sum_congr rfl fun j _ => hx j
  rw [hX, hL, hM, Ideal.log_coe, if_neg (not_le.mpr hpos), Ideal.log_coe, if_neg (not_le.mpr (mul_pos (Real.exp_pos M) hpos)),
    Real.log_mul (Real.exp_pos M).ne' hpos.ne', Real.log_exp, EReal.coe_add]

theorem row_real (c : Dev nD) (H : Reals m c) (h : Fin 8) (i : Fin 2048) :
    ∃ (L : ℝ) (e : Fin 2048 → ℝ), 0 < L ∧ (∀ j, wt (fS m c h i) j = ((e j : ℝ) : EReal)) ∧ tot (fS m c h i) = (L : EReal)
      ∧ top (fS m c h i) + Ideal.log (tot (fS m c h i)) = rLse m c h i := by
  obtain ⟨scr, hsc⟩ := Cert.Real.cscale
  choose q hq using H.q
  choose k hk using H.k
  have hs : ∀ j, (∑ d, aQ m c i h d * aK m c j h d) * sc = (((∑ d, q i h d * k j h d) * scr : ℝ) : EReal) := fun j => by
    simp only [hq, hk, sc, hsc, ← EReal.coe_mul, ← Cert.Real.coe_sum]
  refine row_facts _ (fun j => ?_) i _ ((if_pos le_rfl).trans (hs i))
  by_cases hj : j.val ≤ i.val
  · exact Or.inr ⟨_, (if_pos hj).trans (hs j)⟩
  · exact Or.inl ((if_neg hj).trans bot_eq)

/-- The weighted sum divided by the weights' sum is the sum of the divided weights. -/
theorem o_eq (c : Dev nD) (H : Reals m c) (i : Fin 2048) (h : Fin 8) (d : Fin 64) :
    Ideal.div (∑ j, wt (fS m c h i) j * aV m c j h d) (tot (fS m c h i)) = rO m c i h d := by
  obtain ⟨L, e, hL, hE, hS, -⟩ := row_real m c H h i
  unfold rO
  rw [hS, Ideal.div_coe hL.ne', mul_comm, Cert.Real.pos_mul_sum (one_div_pos.mpr hL)]
  exact Finset.sum_congr rfl fun j _ => by rw [Ideal.div_coe hL.ne', mul_comm, mul_comm (wt _ _), mul_assoc]

theorem lse_eq (c : Dev nD) (H : Reals m c) (h : Fin 8) (i : Fin 2048) :
    top (fS m c h i) + Ideal.log (tot (fS m c h i)) = rLse m c h i := by
  obtain ⟨L, e, hL, hE, hS, h4⟩ := row_real m c H h i
  exact h4

end Cert.AttnFwdIdeal.Hand

end
-- ==== Proof.Fwd.Claim.lean ====
/- The attention's forward: the frames, and the two runs end with the same two arrays. -/
module

public import proofs.«01_k».proof.Proof.Fwd.Blocks
public import proofs.«01_k».proof.Proof.Fwd.Equation
public import proofs.«01_k».proof.Proof.Attn.Claim
public import proofs.«01_k».proof.Proof.Gen.AttnFwdRefIdeal.Run
public import proofs.«01_k».proof.Proof.Gen.Pre_finite_fwd
public import proofs.«01_k».proof.Proof.Gen.AttnFwd
public import proofs.«01_k».proof.Defs

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Cert.AttnIdeal.Hand (col_split')

variable (m : (ℓ : Loc nD τ sig) → Buf (Elt Ideal) ℓ)

/-- The precondition, entry by entry. -/
theorem reals (h : Cert.Pre_AttnFwdIdeal_finite_fwd m) (c : Dev nD) : Reals m c := by
  obtain ⟨h0, h1⟩ := h c
  refine ⟨fun i j k => ?_, fun i j k => ?_⟩
  · have e := congrFun h0 (ix3 i j k)
    pointwise [Cert.Pre_finite_fwd.fn] at e
    exact Cert.Real.real_of_finite e
  · have e := congrFun h1 (ix3 i j k)
    pointwise [Cert.Pre_finite_fwd.fn] at e
    exact Cert.Real.real_of_finite e

theorem bits_frame : Cert.quiescent_AttnFwd := fun m ρ _ => Eq.mp (by sl_kernel_rfl) (frame (F := Bits) m ρ)

theorem ideal_frame : Cert.quiescent_AttnFwdIdeal := fun m ρ _ => frame m ρ

/-- The reference's frame, from its run. -/
theorem ref_frame : Cert.quiescent_AttnFwdRefIdeal := fun m ρ _ =>
  (θ_run _ _ _).mono (fun r h => ⟨fun c => (h c).2.2, sem_eq_zero_of_no_sems (by decide) r.2⟩)
    (Cert.AttnFwdRefIdeal.Value.run m ρ)

theorem algebraic : Cert.algebraic_AttnFwdIdeal_AttnFwdRefIdeal_pre_finite_fwd := by
  intro m g m' g' hpre hag
  refine ⟨fun c => (dats m 0 c).arrAt 3 cfg0.N, fun c => (dats m 0 c).arrAt 4 cfg0.N, Cert.AttnFwdIdeal.Value.run_blocks m g, ?_⟩
  refine (θ_run _ _ _).mono (fun r h c => ?_) (Cert.AttnFwdRefIdeal.Value.run m' g')
  obtain ⟨ho, hl, hr⟩ := h c
  obtain ⟨a0, a1, a2⟩ := hag c
  have H := reals m hpre c
  refine ⟨ho.trans ?_, hl.trans ?_, hr⟩
  · rw [Cert.AttnFwdRefIdeal.Read.val_main_v23_eq, a0, a1, a2]
    refine Eq.trans ?_ (arr_o m c).symm
    funext i
    idx_vars i
    obtain ⟨h, d, rfl⟩ := col_split' i1
    exact (ref_o m c i0 h d).trans ((o_eq m c H i0 h d).symm.trans
      (arrO_at m c i0 i0 _ h d rfl (by dsimp only; omega) (by dsimp only; omega)))
  · rw [Cert.AttnFwdRefIdeal.Read.val_main_v37_eq, a0, a1]
    refine Eq.trans ?_ (arr_lse m c).symm
    funext i
    idx_vars i
    obtain rfl : i2 = 0 := Fin.ext (by omega)
    exact (ref_lse m c i0 i1).trans (lse_eq m c H i0 i1).symm

end Cert.AttnFwdIdeal.Hand

end
-- ==== Proof.Gla.Frames.lean ====
/- The recurrence's backward call: one run gives its frame over the bits and over the ideal numbers. -/
module

public import proofs.«01_k».proof.Defs
public import proofs.«01_k».proof.Proof.Gen.Gla
public import proofs.«01_k».proof.Proof.Gen.GlaIdeal
public import proofs.«01_k».proof.Proof.Gen.GlaIdeal.Frame

@[expose] public section

noncomputable section

namespace Cert.GlaIdeal.Hand

open Cert.GlaIdeal.Gen Idealize.ShloMosaic Idealize.SL.Sem

theorem bits_frame : Cert.quiescent_Gla := fun m ρ _ => Eq.mp (by sl_kernel_rfl) (frame (F := Bits) m ρ)

theorem ideal_frame : Cert.quiescent_GlaIdeal := fun m ρ _ => frame m ρ

end Cert.GlaIdeal.Hand
-- ==== Proof.Latents.Value.lean ====
/- The input norm and the latents' projection: the kernel's three result arrays, entry by entry, and the reference's. -/
module

public import proofs.«01_k».proof.Proof.Inproj.Reads
public import proofs.«01_k».proof.Proof.Gen.LatentsIdeal.Value
public import proofs.«01_k».proof.Proof.Gen.LatentsRefIdeal.Read

@[expose] public section

set_option maxRecDepth 16384

noncomputable section

namespace Cert.LatentsIdeal.Hand

open Cert.LatentsIdeal Cert.LatentsIdeal.Gen Idealize.ShloMosaic Idealize.ShloMosaic.TcCoe Idealize.SL.Sem
open Idealize.ShloMosaic.Pipeline (Dat)
open Cert.InprojIdeal.Hand (col2)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0])

/-- The row of the whole array that row `r` of block `t` is. -/
theorem row_lt (t : Fin cfg0.N) (r : Fin 512) : t.val * 512 + r.val < 2048 := by
  have hN : cfg0.N = 4 := N_0; have := t.isLt; have := r.isLt; omega

/-- The arguments, entry by entry: the rows, the gain, the weights. -/
def aX (c : Dev nD) (i : Fin 2048) (j : Fin 1024) : EReal := m ((c : Thread nD τ).loc main_arg0) (ix2 i j)
def aG (c : Dev nD) (j : Fin 1024) : EReal := m ((c : Thread nD τ).loc main_arg1) (ix1 j)
def aW (c : Dev nD) (j : Fin 1024) (k : Fin 6320) : EReal := m ((c : Thread nD τ).loc main_arg2) (ix2 j k)

/-- The reciprocal root of row `i`'s mean square. -/
def rs (c : Dev nD) (i : Fin 2048) : EReal :=
  Ideal.rsqrt (Ideal.div (∑ x : Fin 1024, aX m c i x * aX m c i x) (Ideal.ofBits .f32 0x44800000#32)
    + Ideal.ofBits .f32 0x358637BD#32)

/-- An entry of the normed rows. -/
def nH (c : Dev nD) (i : Fin 2048) (j : Fin 1024) : EReal := aX m c i j * rs m c i * aG m c j

/-- Column `n` of row `j` of the weights, zero past the last column. -/
def wCol (c : Dev nD) (j : Fin 1024) (n : ℕ) : EReal := if h : n < 6320 then aW m c j ⟨n, h⟩ else 0

theorem wCol_of (c : Dev nD) (j : Fin 1024) (i : Fin 6320) (n : ℕ) (h : n = i.val) :
    (m ((c : Thread nD τ).loc main_arg2) (ix2 j i) : EReal) = wCol m c j n := by
  subst h
  simp only [wCol, i.isLt, dif_pos, aW]

theorem wCol_zero (c : Dev nD) (j : Fin 1024) (n : ℕ) (h : n = 6320) : (0 : EReal) = wCol m c j n := by
  subst h
  simp [wCol]

/-- An entry of the latents: place `k` of row `i`. -/
def lat (c : Dev nD) (i : Fin 2048) (k : Fin 896) : EReal := ∑ x : Fin 1024, nH m c i x * wCol m c x (col2 k)

theorem rd0 (c : Dev nD) (t : Fin cfg0.N) (r : Fin 512) (j : Fin 1024) :
    iblk m c 0 t (ix2 r j) = aX m c ⟨t.val * 512 + r.val, row_lt t r⟩ j := by
  unfold aX
  blk_ext [iblk, V, idx t]

set_option maxHeartbeats 4000000 in
theorem rd1 (c : Dev nD) (t : Fin cfg0.N) (j : Fin 1024) : (iblk m c 1 t (ix2 0 j) : EReal) = aG m c j := by
  unfold aG
  have e : iblk m c 1 t (ix2 0 j) = V m c main_v0 (ix2 0 j) := by
    blk_ext [iblk, idx t]
  rw [e]
  unfold V
  after_reads_simp
  pointwise

set_option maxHeartbeats 4000000 in
theorem rd2 (c : Dev nD) (t : Fin cfg0.N) (k : Fin 896) (j : Fin 1024) :
    (iblk m c 2 t (ix2 k j) : EReal) = wCol m c j (col2 k) := by
  have e : iblk m c 2 t (ix2 k j) = V m c main_v10 (ix2 k j) := by
    blk_ext [iblk, idx t]
  rw [e]
  unfold V
  after_reads_simp
  pointwise
  after_reads_simp
  pointwise
  have hk := k.isLt
  unfold col2
  split_ifs <;> first | exact wCol_of m c _ _ _ rfl | exact wCol_zero m c _ _ rfl

/-! ## The blocks a grid point writes -/

theorem out3_eq (x0 : Vec Ideal S512x1024 .f32) (x1 : Vec Ideal S1x1024 .f32) (x2 : Vec Ideal S896x1024 .bf16) :
    out0_3 x0 x1 x2 = k0_pay3 x0 x1 x2 := by
  unfold out0_3
  frame_out

theorem out4_eq (x0 : Vec Ideal S512x1024 .f32) (x1 : Vec Ideal S1x1024 .f32) (x2 : Vec Ideal S896x1024 .bf16) :
    out0_4 x0 x1 x2 = k0_pay2 x0 x1 := by
  unfold out0_4
  frame_out

theorem out5_eq (x0 : Vec Ideal S512x1024 .f32) (x1 : Vec Ideal S1x1024 .f32) (x2 : Vec Ideal S896x1024 .bf16) :
    out0_5 x0 x1 x2 = k0_pay1 x0 := by
  unfold out0_5
  frame_out

theorem blk_rs (c : Dev nD) (t : Fin cfg0.N) (r : Fin 512) :
    (k0_pay1 (F := Ideal) (iblk m c 0 t) (ix2 r 0) : EReal) = rs m c ⟨t.val * 512 + r.val, row_lt t r⟩ := by
  pointwise [k0_pay1]
  simp only [rd0 m c t r]
  rfl

theorem blk_h (c : Dev nD) (t : Fin cfg0.N) (r : Fin 512) (j : Fin 1024) :
    (k0_pay2 (F := Ideal) (iblk m c 0 t) (iblk m c 1 t) (ix2 r j) : EReal)
      = nH m c ⟨t.val * 512 + r.val, row_lt t r⟩ j := by
  pointwise [k0_pay2, k0_pay1]
  simp only [rd0 m c t r, rd1]
  rfl

theorem blk_lat (c : Dev nD) (t : Fin cfg0.N) (r : Fin 512) (k : Fin 896) :
    (k0_pay3 (F := Ideal) (iblk m c 0 t) (iblk m c 1 t) (iblk m c 2 t) (ix2 r k) : EReal)
      = lat m c ⟨t.val * 512 + r.val, row_lt t r⟩ k := by
  pointwise [k0_pay3]
  exact Finset.sum_congr rfl fun x _ => congrArg₂ (· * ·) (blk_h m c t r x) (rd2 m c t k x)

/-! ## The arrays after the run -/

theorem arr_lat (c : Dev nD) :
    (dats m 0 c).arrAt 3 cfg0.N = fun i : S2048x896.Idx => (lat m c (i 0) (i 1) : EReal) := by
  refine (dats m 0 c).arrAt_eq_of_covers 3 _ (by decide +kernel) fun t hf y => ?_
  blk_simp
  rw [after0_3, out3_eq]
  idx_vars y
  rw [blk_lat m c t y0 y1]
  have e0 : (((View.whole main_v11_0).slice (win0_3.rect t)).emb (ix2 y0 y1) 0).val = t.val * 512 + y0.val := by
    blk_simp [idx t]
  have e1 : (((View.whole main_v11_0).slice (win0_3.rect t)).emb (ix2 y0 y1) 1).val = y1.val := by
    blk_simp [idx t]
  exact congrArg₂ (lat m c) (Fin.ext e0.symm) (Fin.ext e1.symm)

theorem arr_h (c : Dev nD) :
    (dats m 0 c).arrAt 4 cfg0.N = fun i : S2048x1024.Idx => (nH m c (i 0) (i 1) : EReal) := by
  refine (dats m 0 c).arrAt_eq_of_covers 4 _ (by decide +kernel) fun t hf y => ?_
  blk_simp
  rw [after0_4, out4_eq]
  idx_vars y
  rw [blk_h m c t y0 y1]
  have e0 : (((View.whole main_v11_1).slice (win0_4.rect t)).emb (ix2 y0 y1) 0).val = t.val * 512 + y0.val := by
    blk_simp [idx t]
  have e1 : (((View.whole main_v11_1).slice (win0_4.rect t)).emb (ix2 y0 y1) 1).val = y1.val := by
    blk_simp [idx t]
  exact congrArg₂ (nH m c) (Fin.ext e0.symm) (Fin.ext e1.symm)

theorem arr_rs (c : Dev nD) :
    (dats m 0 c).arrAt 5 cfg0.N = fun i : S2048x1.Idx => (rs m c (i 0) : EReal) := by
  refine (dats m 0 c).arrAt_eq_of_covers 5 _ (by decide +kernel) fun t hf y => ?_
  blk_simp
  rw [after0_5, out5_eq]
  idx_vars y
  obtain rfl : y1 = 0 := Subsingleton.elim _ _
  rw [blk_rs m c t y0]
  have e0 : (((View.whole main_v11_2).slice (win0_5.rect t)).emb (ix2 y0 0) 0).val = t.val * 512 + y0.val := by
    blk_simp [idx t]
  exact congrArg (rs m c) (Fin.ext e0.symm)

/-! ## The reference -/

open Cert.LatentsRefIdeal.Read in
theorem ref_rs (c : Dev nD) (i : Fin 2048) :
    (val_main_v30 (F := Ideal) (m ((c : Thread nD τ).loc main_arg0)) (ix2 i 0) : EReal) = rs m c i := by
  pointwise [val_main_v30, val_main_v29, val_main_v28, val_main_v27, val_main_v26, val_main_v25, val_main_v24, val_main_v23,
    val_main_cst_5, val_main_cst_6, val_main_cst_7]
  rfl

open Cert.LatentsRefIdeal.Read in
theorem ref_h (c : Dev nD) (i : Fin 2048) (j : Fin 1024) :
    (val_main_v12 (F := Ideal) (m ((c : Thread nD τ).loc main_arg0)) (m ((c : Thread nD τ).loc main_arg1)) (ix2 i j) : EReal)
      = nH m c i j := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

open Cert.LatentsRefIdeal.Read in
theorem ref_h16 (c : Dev nD) (i : Fin 2048) (j : Fin 1024) :
    (val_main_v22 (F := Ideal) (m ((c : Thread nD τ).loc main_arg0)) (m ((c : Thread nD τ).loc main_arg1)) (ix2 i j) : EReal)
      = nH m c i j := by
  rw [← ref_h m c i j]
  pointwise [val_main_v22]

open Cert.LatentsRefIdeal.Read in
theorem ref_proj (c : Dev nD) (i : Fin 2048) (k : Fin 6320) (n : ℕ) (h : n = k.val) :
    (val_main_v13 (F := Ideal) (m ((c : Thread nD τ).loc main_arg0)) (m ((c : Thread nD τ).loc main_arg1))
      (m ((c : Thread nD τ).loc main_arg2)) (ix2 i k) : EReal) = ∑ x : Fin 1024, nH m c i x * wCol m c x n := by
  pointwise [val_main_v13]
  exact Finset.sum_congr rfl fun x _ => congrArg₂ (· * ·) (ref_h m c i x) (wCol_of m c x k n h)

theorem zero_proj (c : Dev nD) (i : Fin 2048) (n : ℕ) (h : n = 6320) :
    (0 : EReal) = ∑ x : Fin 1024, nH m c i x * wCol m c x n := by
  simp only [← wCol_zero m c _ n h, mul_zero, Finset.sum_const_zero]

open Cert.LatentsRefIdeal.Read in
set_option maxHeartbeats 1000000 in
theorem ref_lat (c : Dev nD) (i : Fin 2048) (k : Fin 896) :
    (val_main_v21 (F := Ideal) (m ((c : Thread nD τ).loc main_arg0)) (m ((c : Thread nD τ).loc main_arg1))
      (m ((c : Thread nD τ).loc main_arg2)) (ix2 i k) : EReal) = lat m c i k := by
  pointwise [val_main_v21, val_main_v14, val_main_v15, val_main_v16, val_main_v17, val_main_v18, val_main_v19, val_main_v20,
    val_main_cst_2, val_main_cst_3, val_main_cst_4]
  have hk := k.isLt
  unfold lat col2
  split_ifs <;> first | exact ref_proj m c i _ _ rfl | exact zero_proj m c i _ rfl

end Cert.LatentsIdeal.Hand

end
-- ==== Proof.Latents.Claim.lean ====
/- The input norm and the latents' projection: the frames, and that the two runs end with the same three arrays. -/
module

public import proofs.«01_k».proof.Proof.Latents.Value
public import proofs.«01_k».proof.Proof.Gen.Latents
public import proofs.«01_k».proof.Defs

@[expose] public section

set_option maxRecDepth 16384

noncomputable section

namespace Cert.LatentsIdeal.Hand

open Cert.LatentsIdeal Cert.LatentsIdeal.Gen Idealize.ShloMosaic Idealize.ShloMosaic.TcCoe Idealize.SL.Sem

theorem bits_frame : Cert.quiescent_Latents := fun m ρ _ => Eq.mp (by sl_kernel_rfl) (frame (F := Bits) m ρ)

theorem ideal_frame : Cert.quiescent_LatentsIdeal := fun m ρ _ => frame m ρ

/-- The reference's frame, from its run. -/
theorem ref_frame : Cert.quiescent_LatentsRefIdeal := fun m ρ _ =>
  (θ_run _ _ _).mono (fun r h => ⟨fun c => (h c).2.2.2, sem_eq_zero_of_no_sems (by decide) r.2⟩)
    (Cert.LatentsRefIdeal.Value.run m ρ)

theorem algebraic : Cert.algebraic_LatentsIdeal_LatentsRefIdeal := by
  intro m g m' g' _ hag
  refine ⟨fun c => (dats m 0 c).arrAt 3 cfg0.N, fun c => (dats m 0 c).arrAt 4 cfg0.N, fun c => (dats m 0 c).arrAt 5 cfg0.N, ?_, ?_⟩
  · exact Cert.LatentsIdeal.Value.run_blocks m g
  · refine (θ_run _ _ _).mono (fun r h c => ?_) (Cert.LatentsRefIdeal.Value.run m' g')
    obtain ⟨h21, h22, h30, hr⟩ := h c
    obtain ⟨a0, a1, a2⟩ := hag c
    refine ⟨h21.trans ?_, h22.trans ?_, h30.trans ?_, hr⟩
    · rw [Cert.LatentsRefIdeal.Read.val_main_v21_eq, a0, a1, a2]
      refine Eq.trans ?_ (arr_lat m c).symm
      funext i
      idx_vars i
      exact ref_lat m c i0 i1
    · rw [Cert.LatentsRefIdeal.Read.val_main_v22_eq, a0, a1]
      refine Eq.trans ?_ (arr_h m c).symm
      funext i
      idx_vars i
      exact ref_h16 m c i0 i1
    · rw [Cert.LatentsRefIdeal.Read.val_main_v30_eq, a0]
      refine Eq.trans ?_ (arr_rs m c).symm
      funext i
      idx_vars i
      obtain rfl : i1 = 0 := Subsingleton.elim _ _
      exact ref_rs m c i0

end Cert.LatentsIdeal.Hand

end
-- ==== Proof.Prep.Run.lean ====
/- The backward call of the rotary embedding, the low-rank norms and the decay gate: its body on one block of 256 rows. -/
module

public import proofs.«01_k».proof.Proof.Gen.PrepIdeal.Frame.Runs

@[expose] public section

set_option maxRecDepth 16384

noncomputable section

namespace Cert.PrepIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.PrepIdeal.Gen

variable {F : FTy → Type} [FloatOps F]

local notation "𝕄" => MT nD τ sig Unit (Elt F) ℕ (UR sig nD τ) ℕ

set_option maxHeartbeats 0 in
/-- One grid point, the first or a later one: from the eighteen inputs' blocks at their contents and the six results'
    blocks at anything, the body ends with the inputs' blocks as they were and the results' at something. -/
theorem run (c : Dev nD) (i : grid0.Coords)
    (b0 : Memref sig .tc .vmem S256x1024 .bf16) (e0 : b0.IsWhole)
    (b1 : Memref sig .tc .vmem S256x1024 .f32) (e1 : b1.IsWhole)
    (b2 : Memref sig .tc .vmem S256x512 .f32) (e2 : b2.IsWhole)
    (b3 : Memref sig .tc .vmem S256x512 .f32) (e3 : b3.IsWhole)
    (b4 : Memref sig .tc .vmem S256x512 .f32) (e4 : b4.IsWhole)
    (b5 : Memref sig .tc .vmem S256x512 .f32) (e5 : b5.IsWhole)
    (b6 : Memref sig .tc .vmem S256x256 .f32) (e6 : b6.IsWhole)
    (b7 : Memref sig .tc .vmem S256x1 .f32) (e7 : b7.IsWhole)
    (b8 : Memref sig .tc .vmem S256x1 .f32) (e8 : b8.IsWhole)
    (b9 : Memref sig .tc .vmem S1x384 .f32) (e9 : b9.IsWhole)
    (b10 : Memref sig .tc .vmem S1x256 .f32) (e10 : b10.IsWhole)
    (b11 : Memref sig .tc .vmem S384x1024 .bf16) (e11 : b11.IsWhole)
    (b12 : Memref sig .tc .vmem S256x1024 .bf16) (e12 : b12.IsWhole)
    (b13 : Memref sig .tc .vmem S256x512 .bf16) (e13 : b13.IsWhole)
    (b14 : Memref sig .tc .vmem S128x512 .bf16) (e14 : b14.IsWhole)
    (b15 : Memref sig .tc .vmem S256x128 .f32) (e15 : b15.IsWhole)
    (b16 : Memref sig .tc .vmem S256x128 .f32) (e16 : b16.IsWhole)
    (b17 : Memref sig .tc .vmem S256x128 .f32) (e17 : b17.IsWhole)
    (b18 : Memref sig .tc .vmem S256x896 .bf16) (e18 : b18.IsWhole)
    (b19 : Memref sig .tc .vmem S256x1024 .bf16) (e19 : b19.IsWhole)
    (b20 : Memref sig .tc .vmem S256x512 .bf16) (e20 : b20.IsWhole)
    (b21 : Memref sig .tc .vmem S1x384 .f32) (e21 : b21.IsWhole)
    (b22 : Memref sig .tc .vmem S1x256 .f32) (e22 : b22.IsWhole)
    (b23 : Memref sig .tc .vmem S1x512 .f32) (e23 : b23.IsWhole)
    (x0 : Vec F S256x1024 .bf16) (x1 : Vec F S256x1024 .f32) (x2 : Vec F S256x512 .f32) (x3 : Vec F S256x512 .f32)
    (x4 : Vec F S256x512 .f32) (x5 : Vec F S256x512 .f32) (x6 : Vec F S256x256 .f32) (x7 : Vec F S256x1 .f32)
    (x8 : Vec F S256x1 .f32) (x9 : Vec F S1x384 .f32) (x10 : Vec F S1x256 .f32) (x11 : Vec F S384x1024 .bf16)
    (x12 : Vec F S256x1024 .bf16) (x13 : Vec F S256x512 .bf16) (x14 : Vec F S128x512 .bf16)
    (x15 : Vec F S256x128 .f32) (x16 : Vec F S256x128 .f32) (x17 : Vec F S256x128 .f32) (E : Set ℕ) (K : PUnit → sProp 𝕄) :
    iprop(owns (c : Thread nD τ) b0 fullShare x0 ∗ owns (c : Thread nD τ) b1 fullShare x1 ∗
        owns (c : Thread nD τ) b2 fullShare x2 ∗ owns (c : Thread nD τ) b3 fullShare x3 ∗
        owns (c : Thread nD τ) b4 fullShare x4 ∗ owns (c : Thread nD τ) b5 fullShare x5 ∗
        owns (c : Thread nD τ) b6 fullShare x6 ∗ owns (c : Thread nD τ) b7 fullShare x7 ∗
        owns (c : Thread nD τ) b8 fullShare x8 ∗ owns (c : Thread nD τ) b9 fullShare x9 ∗
        owns (c : Thread nD τ) b10 fullShare x10 ∗ owns (c : Thread nD τ) b11 fullShare x11 ∗
        owns (c : Thread nD τ) b12 fullShare x12 ∗ owns (c : Thread nD τ) b13 fullShare x13 ∗
        owns (c : Thread nD τ) b14 fullShare x14 ∗ owns (c : Thread nD τ) b15 fullShare x15 ∗
        owns (c : Thread nD τ) b16 fullShare x16 ∗ owns (c : Thread nD τ) b17 fullShare x17 ∗
        (∃ d, owns (c : Thread nD τ) b18 fullShare d) ∗ (∃ d, owns (c : Thread nD τ) b19 fullShare d) ∗
        (∃ d, owns (c : Thread nD τ) b20 fullShare d) ∗ (∃ d, owns (c : Thread nD τ) b21 fullShare d) ∗
        (∃ d, owns (c : Thread nD τ) b22 fullShare d) ∗ (∃ d, owns (c : Thread nD τ) b23 fullShare d)
        ∗ (iprop(owns (c : Thread nD τ) b0 fullShare x0 ∗ owns (c : Thread nD τ) b1 fullShare x1 ∗
        owns (c : Thread nD τ) b2 fullShare x2 ∗ owns (c : Thread nD τ) b3 fullShare x3 ∗
        owns (c : Thread nD τ) b4 fullShare x4 ∗ owns (c : Thread nD τ) b5 fullShare x5 ∗
        owns (c : Thread nD τ) b6 fullShare x6 ∗ owns (c : Thread nD τ) b7 fullShare x7 ∗
        owns (c : Thread nD τ) b8 fullShare x8 ∗ owns (c : Thread nD τ) b9 fullShare x9 ∗
        owns (c : Thread nD τ) b10 fullShare x10 ∗ owns (c : Thread nD τ) b11 fullShare x11 ∗
        owns (c : Thread nD τ) b12 fullShare x12 ∗ owns (c : Thread nD τ) b13 fullShare x13 ∗
        owns (c : Thread nD τ) b14 fullShare x14 ∗ owns (c : Thread nD τ) b15 fullShare x15 ∗
        owns (c : Thread nD τ) b16 fullShare x16 ∗ owns (c : Thread nD τ) b17 fullShare x17 ∗
        (∃ d, owns (c : Thread nD τ) b18 fullShare d) ∗ (∃ d, owns (c : Thread nD τ) b19 fullShare d) ∗
        (∃ d, owns (c : Thread nD τ) b20 fullShare d) ∗ (∃ d, owns (c : Thread nD τ) b21 fullShare d) ∗
        (∃ d, owns (c : Thread nD τ) b22 fullShare d) ∗ (∃ d, owns (c : Thread nD τ) b23 fullShare d)) -∗ K ⟨⟩))
      ⊢ wp frame (wpE (defs₀ (F := F)) Variants.none c none) E
        (cc0_mla_prep_bwd i b0 e0 b1 e1 b2 e2 b3 e3 b4 e4 b5 e5 b6 e6 b7 e7 b8 e8 b9 e9 b10 e10 b11 e11 b12 e12 b13 e13 b14 e14 b15 e15 b16 e16 b17 e17 b18 e18 b19 e19 b20 e20 b21 e21 b22 e22 b23 e23) K := by
  by_cases hc : cond0_0 i
  all_goals
    simp only [cc0_mla_prep_bwd_eq_skeleton]
    unfold cc0_mla_prep_bwd_skel
    simp only [k0_part1_eq_skeleton, k0_part2_eq_skeleton, k0_part3_eq_skeleton, k0_part4_eq_skeleton,
      k0_part5_eq_skeleton, k0_part6_eq_skeleton, k0_part7_eq_skeleton, k0_part8_eq_skeleton]
    unfold owns
    iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
    obtain rfl := e0.eq_unread h0; obtain rfl := e1.eq_unread h1; obtain rfl := e2.eq_unread h2;
    obtain rfl := e3.eq_unread h3; obtain rfl := e4.eq_unread h4; obtain rfl := e5.eq_unread h5;
    obtain rfl := e6.eq_unread h6; obtain rfl := e7.eq_unread h7; obtain rfl := e8.eq_unread h8;
    obtain rfl := e9.eq_unread h9; obtain rfl := e10.eq_unread h10; obtain rfl := e11.eq_unread h11;
    obtain rfl := e12.eq_unread h12; obtain rfl := e13.eq_unread h13; obtain rfl := e14.eq_unread h14;
    obtain rfl := e15.eq_unread h15; obtain rfl := e16.eq_unread h16; obtain rfl := e17.eq_unread h17
    sl_exec (disch := first | sl_exact hc)
    sl_step
    iapply Hk
    isplitl [H0]
    · iexists _; isplitr
      · ipureintro; exact e0.read_unread _
      iexact H0
    isplitl [H1]
    · iexists _; isplitr
      · ipureintro; exact e1.read_unread _
      iexact H1
    isplitl [H2]
    · iexists _; isplitr
      · ipureintro; exact e2.read_unread _
      iexact H2
    isplitl [H3]
    · iexists _; isplitr
      · ipureintro; exact e3.read_unread _
      iexact H3
    isplitl [H4]
    · iexists _; isplitr
      · ipureintro; exact e4.read_unread _
      iexact H4
    isplitl [H5]
    · iexists _; isplitr
      · ipureintro; exact e5.read_unread _
      iexact H5
    isplitl [H6]
    · iexists _; isplitr
      · ipureintro; exact e6.read_unread _
      iexact H6
    isplitl [H7]
    · iexists _; isplitr
      · ipureintro; exact e7.read_unread _
      iexact H7
    isplitl [H8]
    · iexists _; isplitr
      · ipureintro; exact e8.read_unread _
      iexact H8
    isplitl [H9]
    · iexists _; isplitr
      · ipureintro; exact e9.read_unread _
      iexact H9
    isplitl [H10]
    · iexists _; isplitr
      · ipureintro; exact e10.read_unread _
      iexact H10
    isplitl [H11]
    · iexists _; isplitr
      · ipureintro; exact e11.read_unread _
      iexact H11
    isplitl [H12]
    · iexists _; isplitr
      · ipureintro; exact e12.read_unread _
      iexact H12
    isplitl [H13]
    · iexists _; isplitr
      · ipureintro; exact e13.read_unread _
      iexact H13
    isplitl [H14]
    · iexists _; isplitr
      · ipureintro; exact e14.read_unread _
      iexact H14
    isplitl [H15]
    · iexists _; isplitr
      · ipureintro; exact e15.read_unread _
      iexact H15
    isplitl [H16]
    · iexists _; isplitr
      · ipureintro; exact e16.read_unread _
      iexact H16
    isplitl [H17]
    · iexists _; isplitr
      · ipureintro; exact e17.read_unread _
      iexact H17
    isplitl [H18]
    · iexists _, _; isplitr; swap
      · iexact H18
      ipureintro; rfl
    isplitl [H19]
    · iexists _, _; isplitr; swap
      · iexact H19
      ipureintro; rfl
    isplitl [H20]
    · iexists _, _; isplitr; swap
      · iexact H20
      ipureintro; rfl
    isplitl [H21]
    · iexists _, _; isplitr; swap
      · iexact H21
      ipureintro; rfl
    isplitl [H22]
    · iexists _, _; isplitr; swap
      · iexact H22
      ipureintro; rfl
    iexists _, _; isplitr; swap
    · iexact H23
    ipureintro; rfl

end Cert.PrepIdeal.Hand

end
-- ==== Proof.Prep.Frames.lean ====
/- The backward call of the rotary embedding, the low-rank norms and the decay gate: its frame, over the bits and over the
   ideal numbers, from one run. Nothing is said here of what the call writes. -/
module

public import proofs.«01_k».proof.Proof.Prep.Run
public import proofs.«01_k».proof.Proof.Gen.Prep
public import proofs.«01_k».proof.Proof.Gen.PrepIdeal
public import proofs.«01_k».proof.Defs
public import Idealize.ShloMosaic.Lib.Claim

@[expose] public section

set_option maxRecDepth 16384

noncomputable section

namespace Cert.PrepIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.PrepIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six results' windows, of whose contents nothing is said. -/
def results : Fin 24 → Bool := fun w => Nat.ble 18 w.val

/-- What each window's buffer holds after a point: an input its block, a result what it may. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => X0_5 m c t
    | ⟨6, _⟩ => X0_6 m c t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, h⟩ => Dat.unnamed (cfg := cfg0) ⟨18, h⟩ t
    | ⟨19, h⟩ => Dat.unnamed (cfg := cfg0) ⟨19, h⟩ t
    | ⟨20, h⟩ => Dat.unnamed (cfg := cfg0) ⟨20, h⟩ t
    | ⟨21, h⟩ => Dat.unnamed (cfg := cfg0) ⟨21, h⟩ t
    | ⟨22, h⟩ => Dat.unnamed (cfg := cfg0) ⟨22, h⟩ t
    | ⟨23, h⟩ => Dat.unnamed (cfg := cfg0) ⟨23, h⟩ t
    | ⟨_ + 24, h⟩ => absurd h (Nat.not_lt.2 (Nat.le_add_left _ _))
  Φ _ := Pipeline.ΦA spec0 c
  q w := Pipeline.shareOf spec0 w
  owed _ := 0

/-- Each window's array at the start: what the host lines left there. -/
theorem start (c : Dev nD) (w : Fin cfg0.W) : (dats m 0 c).A w = V m c (Pipeline.arrRef spec0 w) := by
  dsimp only [dats]

/-! The inputs' buffers after a point and before it: their blocks. -/

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = X0_5 m c t := by dsimp only [dats]
theorem left6 (c : Dev nD) (t : Fin cfg0.N) : (dats m 0 c).after 6 t = X0_6 m c t := by dsimp only [dats]
theorem left7 (c : Dev nD) (t : Fin cfg0.N) : (dats m 0 c).after 7 t = iblk m c 7 t := by dsimp only [dats]
theorem left8 (c : Dev nD) (t : Fin cfg0.N) : (dats m 0 c).after 8 t = iblk m c 8 t := by dsimp only [dats]
theorem left9 (c : Dev nD) (t : Fin cfg0.N) : (dats m 0 c).after 9 t = iblk m c 9 t := by dsimp only [dats]
theorem left10 (c : Dev nD) (t : Fin cfg0.N) : (dats m 0 c).after 10 t = iblk m c 10 t := by dsimp only [dats]
theorem left11 (c : Dev nD) (t : Fin cfg0.N) : (dats m 0 c).after 11 t = iblk m c 11 t := by dsimp only [dats]
theorem left12 (c : Dev nD) (t : Fin cfg0.N) : (dats m 0 c).after 12 t = iblk m c 12 t := by dsimp only [dats]
theorem left13 (c : Dev nD) (t : Fin cfg0.N) : (dats m 0 c).after 13 t = iblk m c 13 t := by dsimp only [dats]
theorem left14 (c : Dev nD) (t : Fin cfg0.N) : (dats m 0 c).after 14 t = iblk m c 14 t := by dsimp only [dats]
theorem left15 (c : Dev nD) (t : Fin cfg0.N) : (dats m 0 c).after 15 t = iblk m c 15 t := by dsimp only [dats]
theorem left16 (c : Dev nD) (t : Fin cfg0.N) : (dats m 0 c).after 16 t = iblk m c 16 t := by dsimp only [dats]
theorem left17 (c : Dev nD) (t : Fin cfg0.N) : (dats m 0 c).after 17 t = iblk m c 17 t := by dsimp only [dats]

theorem found0 (c : Dev nD) (t : Fin cfg0.N) (d) : (dats m 0 c).before 0 t d = iblk m c 0 t :=
  before0_0_of m (dats m 0 c) (start m c 0) (left0 m c) t d
theorem found1 (c : Dev nD) (t : Fin cfg0.N) (d) : (dats m 0 c).before 1 t d = iblk m c 1 t :=
  before0_1_of m (dats m 0 c) (start m c 1) (left1 m c) t d
theorem found2 (c : Dev nD) (t : Fin cfg0.N) (d) : (dats m 0 c).before 2 t d = iblk m c 2 t :=
  before0_2_of m (dats m 0 c) (start m c 2) (left2 m c) t d
theorem found3 (c : Dev nD) (t : Fin cfg0.N) (d) : (dats m 0 c).before 3 t d = iblk m c 3 t :=
  before0_3_of m (dats m 0 c) (start m c 3) (left3 m c) t d
theorem found4 (c : Dev nD) (t : Fin cfg0.N) (d) : (dats m 0 c).before 4 t d = iblk m c 4 t :=
  before0_4_of m (dats m 0 c) (start m c 4) (left4 m c) t d
theorem found5 (c : Dev nD) (t : Fin cfg0.N) (d) : (dats m 0 c).before 5 t d = X0_5 m c t :=
  before0_5_of m (dats m 0 c) (start m c 5) (left5 m c) t d
theorem found6 (c : Dev nD) (t : Fin cfg0.N) (d) : (dats m 0 c).before 6 t d = X0_6 m c t :=
  before0_6_of m (dats m 0 c) (start m c 6) (left6 m c) t d
theorem found7 (c : Dev nD) (t : Fin cfg0.N) (d) : (dats m 0 c).before 7 t d = iblk m c 7 t :=
  before0_7_of m (dats m 0 c) (start m c 7) (left7 m c) t d
theorem found8 (c : Dev nD) (t : Fin cfg0.N) (d) : (dats m 0 c).before 8 t d = iblk m c 8 t :=
  before0_8_of m (dats m 0 c) (start m c 8) (left8 m c) t d
theorem found9 (c : Dev nD) (t : Fin cfg0.N) (d) : (dats m 0 c).before 9 t d = iblk m c 9 t :=
  before0_9_of m (dats m 0 c) (start m c 9) (left9 m c) t d
theorem found10 (c : Dev nD) (t : Fin cfg0.N) (d) : (dats m 0 c).before 10 t d = iblk m c 10 t :=
  before0_10_of m (dats m 0 c) (start m c 10) (left10 m c) t d
theorem found11 (c : Dev nD) (t : Fin cfg0.N) (d) : (dats m 0 c).before 11 t d = iblk m c 11 t :=
  before0_11_of m (dats m 0 c) (start m c 11) (left11 m c) t d
theorem found12 (c : Dev nD) (t : Fin cfg0.N) (d) : (dats m 0 c).before 12 t d = iblk m c 12 t :=
  before0_12_of m (dats m 0 c) (start m c 12) (left12 m c) t d
theorem found13 (c : Dev nD) (t : Fin cfg0.N) (d) : (dats m 0 c).before 13 t d = iblk m c 13 t :=
  before0_13_of m (dats m 0 c) (start m c 13) (left13 m c) t d
theorem found14 (c : Dev nD) (t : Fin cfg0.N) (d) : (dats m 0 c).before 14 t d = iblk m c 14 t :=
  before0_14_of m (dats m 0 c) (start m c 14) (left14 m c) t d
theorem found15 (c : Dev nD) (t : Fin cfg0.N) (d) : (dats m 0 c).before 15 t d = iblk m c 15 t :=
  before0_15_of m (dats m 0 c) (start m c 15) (left15 m c) t d
theorem found16 (c : Dev nD) (t : Fin cfg0.N) (d) : (dats m 0 c).before 16 t d = iblk m c 16 t :=
  before0_16_of m (dats m 0 c) (start m c 16) (left16 m c) t d
theorem found17 (c : Dev nD) (t : Fin cfg0.N) (d) : (dats m 0 c).before 17 t d = iblk m c 17 t :=
  before0_17_of m (dats m 0 c) (start m c 17) (left17 m c) t d

set_option maxHeartbeats 4000000 in
/-- The body at a point: the inputs' blocks go in and come back, the results' buffers come back at something. -/
theorem at_point (c : Dev nD) (t : Fin cfg0.N) :
    iprop((dats m 0 c).Φ t.castSucc ∗ (dats m 0 c).owesAt () t.castSucc ∗
      (∃ d, owns (c : Thread nD τ) (ms0_0 t) fullShare ((dats m 0 c).before 0 t d)) ∗
      (∃ d, owns (c : Thread nD τ) (ms0_1 t) fullShare ((dats m 0 c).before 1 t d)) ∗
      (∃ d, owns (c : Thread nD τ) (ms0_2 t) fullShare ((dats m 0 c).before 2 t d)) ∗
      (∃ d, owns (c : Thread nD τ) (ms0_3 t) fullShare ((dats m 0 c).before 3 t d)) ∗
      (∃ d, owns (c : Thread nD τ) (ms0_4 t) fullShare ((dats m 0 c).before 4 t d)) ∗
      (∃ d, owns (c : Thread nD τ) (ms0_5 t) fullShare ((dats m 0 c).before 5 t d)) ∗
      (∃ d, owns (c : Thread nD τ) (ms0_6 t) fullShare ((dats m 0 c).before 6 t d)) ∗
      (∃ d, owns (c : Thread nD τ) (ms0_7 t) fullShare ((dats m 0 c).before 7 t d)) ∗
      (∃ d, owns (c : Thread nD τ) (ms0_8 t) fullShare ((dats m 0 c).before 8 t d)) ∗
      (∃ d, owns (c : Thread nD τ) (ms0_9 t) fullShare ((dats m 0 c).before 9 t d)) ∗
      (∃ d, owns (c : Thread nD τ) (ms0_10 t) fullShare ((dats m 0 c).before 10 t d)) ∗
      (∃ d, owns (c : Thread nD τ) (ms0_11 t) fullShare ((dats m 0 c).before 11 t d)) ∗
      (∃ d, owns (c : Thread nD τ) (ms0_12 t) fullShare ((dats m 0 c).before 12 t d)) ∗
      (∃ d, owns (c : Thread nD τ) (ms0_13 t) fullShare ((dats m 0 c).before 13 t d)) ∗
      (∃ d, owns (c : Thread nD τ) (ms0_14 t) fullShare ((dats m 0 c).before 14 t d)) ∗
      (∃ d, owns (c : Thread nD τ) (ms0_15 t) fullShare ((dats m 0 c).before 15 t d)) ∗
      (∃ d, owns (c : Thread nD τ) (ms0_16 t) fullShare ((dats m 0 c).before 16 t d)) ∗
      (∃ d, owns (c : Thread nD τ) (ms0_17 t) fullShare ((dats m 0 c).before 17 t d)) ∗
      (∃ d, owns (c : Thread nD τ) (ms0_18 t) fullShare d) ∗ (∃ d, owns (c : Thread nD τ) (ms0_19 t) fullShare d) ∗
      (∃ d, owns (c : Thread nD τ) (ms0_20 t) fullShare d) ∗ (∃ d, owns (c : Thread nD τ) (ms0_21 t) fullShare d) ∗
      (∃ d, owns (c : Thread nD τ) (ms0_22 t) fullShare d) ∗ (∃ d, owns (c : Thread nD τ) (ms0_23 t) fullShare d))
      ⊢ wp frame (wpE (defs₀ (F := F)) Variants.none c none) Set.univ (bodyAt0 t) (fun _ =>
        iprop((dats m 0 c).Φ t.succ ∗ (dats m 0 c).owesAt () t.succ ∗
        owns (c : Thread nD τ) (ms0_0 t) fullShare ((dats m 0 c).after 0 t) ∗
        owns (c : Thread nD τ) (ms0_1 t) fullShare ((dats m 0 c).after 1 t) ∗
        owns (c : Thread nD τ) (ms0_2 t) fullShare ((dats m 0 c).after 2 t) ∗
        owns (c : Thread nD τ) (ms0_3 t) fullShare ((dats m 0 c).after 3 t) ∗
        owns (c : Thread nD τ) (ms0_4 t) fullShare ((dats m 0 c).after 4 t) ∗
        owns (c : Thread nD τ) (ms0_5 t) fullShare ((dats m 0 c).after 5 t) ∗
        owns (c : Thread nD τ) (ms0_6 t) fullShare ((dats m 0 c).after 6 t) ∗
        owns (c : Thread nD τ) (ms0_7 t) fullShare ((dats m 0 c).after 7 t) ∗
        owns (c : Thread nD τ) (ms0_8 t) fullShare ((dats m 0 c).after 8 t) ∗
        owns (c : Thread nD τ) (ms0_9 t) fullShare ((dats m 0 c).after 9 t) ∗
        owns (c : Thread nD τ) (ms0_10 t) fullShare ((dats m 0 c).after 10 t) ∗
        owns (c : Thread nD τ) (ms0_11 t) fullShare ((dats m 0 c).after 11 t) ∗
        owns (c : Thread nD τ) (ms0_12 t) fullShare ((dats m 0 c).after 12 t) ∗
        owns (c : Thread nD τ) (ms0_13 t) fullShare ((dats m 0 c).after 13 t) ∗
        owns (c : Thread nD τ) (ms0_14 t) fullShare ((dats m 0 c).after 14 t) ∗
        owns (c : Thread nD τ) (ms0_15 t) fullShare ((dats m 0 c).after 15 t) ∗
        owns (c : Thread nD τ) (ms0_16 t) fullShare ((dats m 0 c).after 16 t) ∗
        owns (c : Thread nD τ) (ms0_17 t) fullShare ((dats m 0 c).after 17 t) ∗
        (∃ d, owns (c : Thread nD τ) (ms0_18 t) fullShare d) ∗ (∃ d, owns (c : Thread nD τ) (ms0_19 t) fullShare d) ∗
        (∃ d, owns (c : Thread nD τ) (ms0_20 t) fullShare d) ∗ (∃ d, owns (c : Thread nD τ) (ms0_21 t) fullShare d) ∗
        (∃ d, owns (c : Thread nD τ) (ms0_22 t) fullShare d) ∗ (∃ d, owns (c : Thread nD τ) (ms0_23 t) fullShare d))) := by
  unfold bodyAt0
  simp only [found0, found1, found2, found3, found4, found5, found6, found7, found8, found9, found10, found11, found12, found13, found14, found15, found16, found17]
  rw [show (dats m 0 c).Φ t.succ = (dats m 0 c).Φ t.castSucc from rfl,
    show (dats m 0 c).owesAt () t.succ = (dats m 0 c).owesAt () t.castSucc from rfl,
    left0, left1, left2, left3, left4, left5, left6, left7, left8, left9, left10, left11, left12, left13, left14, left15, left16, left17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (run c (grid0.coords t) _ _ _ _ _ _ _ _ _ _ _ _ _ _ _ _ _ _ _ _ _ _ _ _ _ _ _ _ _ _ _ _ _ _ _ _ _ _ _ _ _ _ _ _ _ _ _ _ (iblk m c 0 t)
    (iblk m c 1 t) (iblk m c 2 t) (iblk m c 3 t) (iblk m c 4 t) (X0_5 m c t) (X0_6 m c t) (iblk m c 7 t)
    (iblk m c 8 t) (iblk m c 9 t) (iblk m c 10 t) (iblk m c 11 t) (iblk m c 12 t) (iblk m c 13 t) (iblk m c 14 t)
    (iblk m c 15 t) (iblk m c 16 t) (iblk m c 17 t) Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexists _; iexact H18
  isplitl [H19]
  · iexists _; iexact H19
  isplitl [H20]
  · iexists _; iexact H20
  isplitl [H21]
  · iexists _; iexact H21
  isplitl [H22]
  · iexists _; iexact H22
  isplitl [H23]
  · iexists _; iexact H23
  iintro ⟨H0, H1, H2, H3, H4, H5, H6, H7, H8, H9, H10, H11, H12, H13, H14, H15, H16, H17, H18, H19, H20, H21, H22, H23⟩
  isplitl [HΦ]
  · iexact HΦ
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  iexact H23

set_option maxHeartbeats 4000000 in
theorem obligation (c : Dev nD) :
    BodyObligation (dats (F := F) m 0 c) (defs₀ (F := F)) Variants.none () Set.univ results := fun t => by
  rw [bigSep_W0, bigSep_W0,
    show defs₀ (F := F) .tc cfg0.body (cfg0.bodyArgs t (cfg0.slots t)) = bodyAt0 t by unfold defs₀; rw [Defs.onTc_tc]]
  exact triple_restated (at_point m c t) rfl .rfl fun _ => .rfl

set_option maxHeartbeats 4000000 in
set_option backward.isDefEq.respectTransparency.types false in
/-- The whole program's run: it ends, with the arrays that no result writes as they were, and every counter at zero. -/
theorem ends : θ_run defs (onTc (τ := τ) (main (F := F))) (s₀ m ρ)
    (fun r => Pipeline.RDat.FramePost (cfgs 0) (fun c => (dats m 0 c).toRForget results) (V m) r ∧ r.2.sem = fun _ => 0) :=
  Pipeline.θ_run_frame_forget_shared (Q' := _) cfgs (dats m) (0 : Fin 1) launch₀0 defs₀ Variants.none results m ρ main
    (hbody := fun c => (obligation m c).loose) (hq := fun _ _ _ => rfl) (howed := fun _ _ => rfl) (V := V m)
    (hmain := hmain m Variants.none) (hA := start m) (hΦ := fun _ _ => rfl)

set_option maxHeartbeats 4000000 in
/-- The program ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ ⟨h, hs⟩ => ⟨fun c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((start m c 2).trans (V_main_arg2 m c)),
      (Pipeline.RDat.FramePost.arr_in h c 3 rfl).trans ((start m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩, hs⟩) (ends m ρ)

theorem bits_frame : Cert.quiescent_Prep := fun m ρ _ => Eq.mp (by sl_kernel_rfl) (frame (F := Bits) m ρ)

theorem ideal_frame : Cert.quiescent_PrepIdeal := fun m ρ _ => frame m ρ

end Cert.PrepIdeal.Hand

end
-- ==== Proof.Post.Block.lean ====
/- The output path's kernel, one grid point at a time: the body's values, as functions of the point's input blocks. -/
module

public import proofs.«01_k».proof.Proof.Gen.PostIdeal.Value
public import Idealize.ShloMosaic.Lib.Pipeline.ValueKit
public import Idealize.ShloMosaic.Lib.Tactic

@[expose] public section

set_option maxRecDepth 16384

noncomputable section

namespace Cert.PostIdeal.Hand

open Cert.PostIdeal Cert.PostIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The gate projections of the point's rows: the whole block, and its four slices as they are loaded back. -/
def tPj (c : Dev nD) (t : Fin cfg0.N) : FVec F S256x3584 .f32 := k0_pay4 (iblk m c 1 t) (iblk m c 2 t)
def tZm (c : Dev nD) (t : Fin cfg0.N) : Vec F S256x512 .f32 :=
  (View.whole cc0_scratch0).readCov [⟨Rect.unit ![0, 0] ![256, 3584] inb_S256x3584_S256x3584_0_0, tPj m c t⟩]
    (Rect.unit ![0, 3072] ![256, 512] inb_S256x3584_S256x512_0_3072).toLoadRect
def tZg (c : Dev nD) (t : Fin cfg0.N) : Vec F S256x1024 .f32 :=
  (View.whole cc0_scratch0).readCov [⟨Rect.unit ![0, 0] ![256, 3584] inb_S256x3584_S256x3584_0_0, tPj m c t⟩]
    (Rect.unit ![0, 0] ![256, 1024] inb_S256x3584_S256x1024_0_0).toLoadRect
def tGm (c : Dev nD) (t : Fin cfg0.N) : Vec F S256x1024 .f32 :=
  (View.whole cc0_scratch0).readCov [⟨Rect.unit ![0, 0] ![256, 3584] inb_S256x3584_S256x3584_0_0, tPj m c t⟩]
    (Rect.unit ![0, 1024] ![256, 1024] inb_S256x3584_S256x1024_0_1024).toLoadRect
def tGl (c : Dev nD) (t : Fin cfg0.N) : Vec F S256x1024 .f32 :=
  (View.whole cc0_scratch0).readCov [⟨Rect.unit ![0, 0] ![256, 3584] inb_S256x3584_S256x3584_0_0, tPj m c t⟩]
    (Rect.unit ![0, 2048] ![256, 1024] inb_S256x3584_S256x1024_0_2048).toLoadRect

/-- The four heads of the recurrence's output. -/
def tO0 (c : Dev nD) (t : Fin cfg0.N) : Vec F S256x256 .f32 :=
  View.ld (iblk m c 3 t) (Rect.unit ![0, 0] ![256, 256] inb_S256x1024_S256x256_0_0)
def tO1 (c : Dev nD) (t : Fin cfg0.N) : Vec F S256x256 .f32 :=
  View.ld (iblk m c 3 t) (Rect.unit ![0, 256] ![256, 256] inb_S256x1024_S256x256_0_256)
def tO2 (c : Dev nD) (t : Fin cfg0.N) : Vec F S256x256 .f32 :=
  View.ld (iblk m c 3 t) (Rect.unit ![0, 512] ![256, 256] inb_S256x1024_S256x256_0_512)
def tO3 (c : Dev nD) (t : Fin cfg0.N) : Vec F S256x256 .f32 :=
  View.ld (iblk m c 3 t) (Rect.unit ![0, 768] ![256, 256] inb_S256x1024_S256x256_0_768)

/-- The forward: the gated outputs, their projections, the merge, the residual, its norm and the error. -/
def tGg (c : Dev nD) (t : Fin cfg0.N) : FVec F S1x256 .f32 := k0_pay9 (iblk m c 6 t)
def tUm (c : Dev nD) (t : Fin cfg0.N) : FVec F S256x512 .bf16 := k0_pay7 (iblk m c 0 t) (tZm m c t)
def tYm (c : Dev nD) (t : Fin cfg0.N) : FVec F S256x1024 .f32 := k0_pay8 (iblk m c 0 t) (tZm m c t) (iblk m c 8 t)
def tSg (c : Dev nD) (t : Fin cfg0.N) : FVec F S256x1024 .f32 := k0_pay10 (tZg m c t) (FloatOps.ofBits .f32 0#32)
def tZs (c : Dev nD) (t : Fin cfg0.N) : FVec F S256x1024 .f32 := k0_pay11 (tZg m c t) (FloatOps.ofBits .f32 0#32)
def tOn (c : Dev nD) (t : Fin cfg0.N) : FVec F S256x1024 .f32 :=
  k0_pay22 (tGg m c t) (k0_pay14 (tGg m c t) (tO0 m c t)) (k0_pay17 (tGg m c t) (tO1 m c t)) (tO2 m c t)
    (k0_pay18 (tO2 m c t)) (tO3 m c t)
def tUg (c : Dev nD) (t : Fin cfg0.N) : FVec F S256x1024 .bf16 :=
  k0_pay23 (tGg m c t) (tZs m c t) (k0_pay14 (tGg m c t) (tO0 m c t)) (k0_pay17 (tGg m c t) (tO1 m c t)) (tO2 m c t)
    (k0_pay18 (tO2 m c t)) (tO3 m c t)
def tYg (c : Dev nD) (t : Fin cfg0.N) : FVec F S256x1024 .f32 :=
  k0_pay24 (tGg m c t) (tZs m c t) (k0_pay14 (tGg m c t) (tO0 m c t)) (k0_pay17 (tGg m c t) (tO1 m c t)) (tO2 m c t)
    (k0_pay18 (tO2 m c t)) (tO3 m c t) (iblk m c 9 t)
def tSm (c : Dev nD) (t : Fin cfg0.N) : FVec F S256x1024 .f32 := k0_pay25 (tGm m c t)
def tE (c : Dev nD) (t : Fin cfg0.N) : FVec F S256x1024 .f32 := k0_pay26 (tGl m c t)
def tSl (c : Dev nD) (t : Fin cfg0.N) : FVec F S256x1024 .f32 := k0_pay28 (tE m c t) k0_pay27
def tMg (c : Dev nD) (t : Fin cfg0.N) : FVec F S256x1024 .bf16 :=
  k0_pay29 (tYm m c t) (tYg m c t) (tSm m c t) (tE m c t) k0_pay27
def tX2 (c : Dev nD) (t : Fin cfg0.N) : FVec F S256x1024 .f32 :=
  k0_pay30 (tYm m c t) (tYg m c t) (tSm m c t) (tE m c t) k0_pay27 (iblk m c 4 t) (iblk m c 10 t)
def tGf (c : Dev nD) (t : Fin cfg0.N) : FVec F S1x1024 .f32 := k0_pay31 (iblk m c 7 t)
def tRf (c : Dev nD) (t : Fin cfg0.N) : FVec F S256x1 .f32 :=
  k0_pay32 (tYm m c t) (tYg m c t) (tSm m c t) (tE m c t) k0_pay27 (iblk m c 4 t) (iblk m c 10 t)
def tXf (c : Dev nD) (t : Fin cfg0.N) : FVec F S256x1024 .f32 :=
  k0_pay33 (tYm m c t) (tYg m c t) (tSm m c t) (tE m c t) k0_pay27 (iblk m c 4 t) (iblk m c 10 t)
def tEr (c : Dev nD) (t : Fin cfg0.N) : FVec F S256x1024 .f32 :=
  k0_pay34 (tYm m c t) (tYg m c t) (tSm m c t) (tE m c t) k0_pay27 (iblk m c 4 t) (iblk m c 10 t) (iblk m c 7 t) (iblk m c 5 t)
def tLs (c : Dev nD) (t : Fin cfg0.N) : F .f32 :=
  k0_pay36 (tYm m c t) (tYg m c t) (tSm m c t) (tE m c t) k0_pay27 (iblk m c 4 t) (iblk m c 10 t) (iblk m c 7 t) (iblk m c 5 t)

/-- The backward. -/
def tDx (c : Dev nD) (t : Fin cfg0.N) : FVec F S256x1024 .f32 := k0_pay40 (tGf m c t) (tRf m c t) (tXf m c t) (tEr m c t)
def tDm (c : Dev nD) (t : Fin cfg0.N) : FVec F S256x1024 .f32 :=
  k0_pay41 (tGf m c t) (tRf m c t) (tXf m c t) (tEr m c t) (iblk m c 10 t)
def tDym (c : Dev nD) (t : Fin cfg0.N) : FVec F S256x1024 .bf16 :=
  k0_pay42 (tSm m c t) (tGf m c t) (tRf m c t) (tXf m c t) (tEr m c t) (iblk m c 10 t)
def tDyg (c : Dev nD) (t : Fin cfg0.N) : FVec F S256x1024 .bf16 :=
  k0_pay43 (tSl m c t) (tGf m c t) (tRf m c t) (tXf m c t) (tEr m c t) (iblk m c 10 t)
def tDgm (c : Dev nD) (t : Fin cfg0.N) : FVec F S256x1024 .bf16 :=
  k0_pay45 (tSm m c t) (k0_pay44 (tYm m c t) (tGf m c t) (tRf m c t) (tXf m c t) (tEr m c t) (iblk m c 10 t))
def tDgl (c : Dev nD) (t : Fin cfg0.N) : FVec F S256x1024 .bf16 := k0_pay46 (tYg m c t) (tSl m c t) (tDm m c t)
def tDum (c : Dev nD) (t : Fin cfg0.N) : FVec F S256x512 .f32 := k0_pay47 (tDym m c t) (iblk m c 8 t)
def tDom (c : Dev nD) (t : Fin cfg0.N) : FVec F S256x512 .f32 := k0_pay48 (k0_pay6 (tZm m c t)) (tDym m c t) (iblk m c 8 t)
def tDzm (c : Dev nD) (t : Fin cfg0.N) : FVec F S256x512 .bf16 :=
  k0_pay49 (iblk m c 0 t) (tZm m c t) (k0_pay5 (tZm m c t)) (tDym m c t) (iblk m c 8 t)
def tDug (c : Dev nD) (t : Fin cfg0.N) : FVec F S256x1024 .f32 := k0_pay50 (tDyg m c t) (iblk m c 9 t)
def tDzg (c : Dev nD) (t : Fin cfg0.N) : FVec F S256x1024 .bf16 :=
  k0_pay54 (tSg m c t) (k0_pay51 (tOn m c t) (tDyg m c t) (iblk m c 9 t)) (k0_pay52 (tZg m c t) (tSg m c t)) k0_pay53
def tDon (c : Dev nD) (t : Fin cfg0.N) : FVec F S256x1024 .f32 := k0_pay55 (tZs m c t) (tDug m c t)

/-- The four heads of the recurrence's output gradient. -/
def tD0 (c : Dev nD) (t : Fin cfg0.N) : FVec F S256x256 .bf16 :=
  k0_pay57 (tGg m c t) (tZs m c t) (k0_pay12 (tO0 m c t)) (k0_pay13 (tO0 m c t)) (tDug m c t)
def tD1 (c : Dev nD) (t : Fin cfg0.N) : FVec F S256x256 .bf16 :=
  k0_pay60 (tGg m c t) (tZs m c t) (k0_pay15 (tO1 m c t)) (k0_pay16 (tO1 m c t)) (tDug m c t)
def tD2 (c : Dev nD) (t : Fin cfg0.N) : FVec F S256x256 .bf16 :=
  k0_pay62 (tGg m c t) (k0_pay18 (tO2 m c t)) (k0_pay19 (tO2 m c t) (k0_pay18 (tO2 m c t))) (tDon m c t)
def tD3 (c : Dev nD) (t : Fin cfg0.N) : FVec F S256x256 .bf16 :=
  k0_pay64 (tGg m c t) (k0_pay20 (tO3 m c t)) (k0_pay21 (tO3 m c t)) (tDon m c t)

/-- What the body leaves in the three accumulators, over what it finds there. -/
def sLs (c : Dev nD) (t : Fin cfg0.N) (acc : Vec F S1x128 .f32) : FVec F S1x128 .f32 := k0_pay37 (k0_pay35 acc) (tLs m c t)
def sGf (c : Dev nD) (t : Fin cfg0.N) (acc : Vec F S1x1024 .f32) : FVec F S1x1024 .f32 := k0_pay39 (tXf m c t) (tEr m c t) acc
def sGg (c : Dev nD) (t : Fin cfg0.N) (acc : Vec F S1x256 .f32) : FVec F S1x256 .f32 :=
  k0_pay65 (k0_pay19 (tO2 m c t) (k0_pay18 (tO2 m c t))) (k0_pay21 (tO3 m c t)) (tDon m c t)
    (k0_pay59 (tZs m c t) (k0_pay13 (tO0 m c t)) (k0_pay16 (tO1 m c t)) (tDug m c t)) acc

theorem outs_dx (c : Dev nD) (t : Fin cfg0.N) : (outsAt0 m c t.val t.isLt).1 = tDx m c t := by
  by_cases h0 : t.val % 8 = 0
  · rw [outsAt0_A m c t h0]
    frame_out
    rfl
  · rw [outsAt0_B m c t h0]
    frame_out
    rfl

theorem outs_dom (c : Dev nD) (t : Fin cfg0.N) : (outsAt0 m c t.val t.isLt).2.1 = tDom m c t := by
  by_cases h0 : t.val % 8 = 0
  · rw [outsAt0_A m c t h0]
    frame_out
    rfl
  · rw [outsAt0_B m c t h0]
    frame_out
    rfl

theorem outs_mg (c : Dev nD) (t : Fin cfg0.N) : (outsAt0 m c t.val t.isLt).2.2.2.2.1 = tMg m c t := by
  by_cases h0 : t.val % 8 = 0
  · rw [outsAt0_A m c t h0]
    frame_out
    rfl
  · rw [outsAt0_B m c t h0]
    frame_out
    rfl

theorem outs_um (c : Dev nD) (t : Fin cfg0.N) : (outsAt0 m c t.val t.isLt).2.2.2.2.2.1 = tUm m c t := by
  by_cases h0 : t.val % 8 = 0
  · rw [outsAt0_A m c t h0]
    frame_out
    rfl
  · rw [outsAt0_B m c t h0]
    frame_out
    rfl

theorem outs_ug (c : Dev nD) (t : Fin cfg0.N) : (outsAt0 m c t.val t.isLt).2.2.2.2.2.2.1 = tUg m c t := by
  by_cases h0 : t.val % 8 = 0
  · rw [outsAt0_A m c t h0]
    frame_out
    rfl
  · rw [outsAt0_B m c t h0]
    frame_out
    rfl

theorem outs_dym (c : Dev nD) (t : Fin cfg0.N) : (outsAt0 m c t.val t.isLt).2.2.2.2.2.2.2.1 = tDym m c t := by
  by_cases h0 : t.val % 8 = 0
  · rw [outsAt0_A m c t h0]
    frame_out
    rfl
  · rw [outsAt0_B m c t h0]
    frame_out
    rfl

theorem outs_dyg (c : Dev nD) (t : Fin cfg0.N) : (outsAt0 m c t.val t.isLt).2.2.2.2.2.2.2.2.1 = tDyg m c t := by
  by_cases h0 : t.val % 8 = 0
  · rw [outsAt0_A m c t h0]
    frame_out
    rfl
  · rw [outsAt0_B m c t h0]
    frame_out
    rfl

theorem outs_ls_A (c : Dev nD) (t : Fin cfg0.N) (h0 : t.val % 8 = 0) :
    (outsAt0 m c t.val t.isLt).2.2.2.2.2.2.2.2.2.1 = sLs m c t k0_pay1 := by
  rw [outsAt0_A m c t h0]
  frame_out
  rfl

theorem outs_ls_B (c : Dev nD) (t : Fin cfg0.N) (h0 : ¬t.val % 8 = 0) :
    (outsAt0 m c t.val t.isLt).2.2.2.2.2.2.2.2.2.1
      = sLs m c t (outsAt0 m c (t.val - 1) (Nat.lt_of_le_of_lt (Nat.sub_le _ _) t.isLt)).2.2.2.2.2.2.2.2.2.1 := by
  rw [outsAt0_B m c t h0]
  frame_out
  rfl

theorem outs_gf_A (c : Dev nD) (t : Fin cfg0.N) (h0 : t.val % 8 = 0) :
    (outsAt0 m c t.val t.isLt).2.2.2.2.2.2.2.2.2.2.1 = sGf m c t k0_pay2 := by
  rw [outsAt0_A m c t h0]
  frame_out
  rfl

theorem outs_gf_B (c : Dev nD) (t : Fin cfg0.N) (h0 : ¬t.val % 8 = 0) :
    (outsAt0 m c t.val t.isLt).2.2.2.2.2.2.2.2.2.2.1
      = sGf m c t (outsAt0 m c (t.val - 1) (Nat.lt_of_le_of_lt (Nat.sub_le _ _) t.isLt)).2.2.2.2.2.2.2.2.2.2.1 := by
  rw [outsAt0_B m c t h0]
  frame_out
  rfl

theorem outs_gg_A (c : Dev nD) (t : Fin cfg0.N) (h0 : t.val % 8 = 0) :
    (outsAt0 m c t.val t.isLt).2.2.2.2.2.2.2.2.2.2.2 = sGg m c t k0_pay3 := by
  rw [outsAt0_A m c t h0]
  frame_out
  rfl

theorem outs_gg_B (c : Dev nD) (t : Fin cfg0.N) (h0 : ¬t.val % 8 = 0) :
    (outsAt0 m c t.val t.isLt).2.2.2.2.2.2.2.2.2.2.2
      = sGg m c t (outsAt0 m c (t.val - 1) (Nat.lt_of_le_of_lt (Nat.sub_le _ _) t.isLt)).2.2.2.2.2.2.2.2.2.2.2 := by
  rw [outsAt0_B m c t h0]
  frame_out
  rfl

end Cert.PostIdeal.Hand

end
-- ==== Proof.Post.Row.lean ====
/- The output path of the step, row by row: the quantities the fused kernel computes, as functions of the arguments. -/
module

public import proofs.«01_k».proof.Proof.Real.Basic

@[expose] public section

noncomputable section

namespace Cert.OutPath

open Idealize.ShloMosaic

/-- The arguments, entry by entry. -/
structure Data where
  om : Fin 2048 → Fin 512 → EReal
  og : Fin 2048 → Fin 1024 → EReal
  h : Fin 2048 → Fin 1024 → EReal
  x : Fin 2048 → Fin 1024 → EReal
  tg : Fin 2048 → Fin 1024 → EReal
  wi : Fin 1024 → Fin 6320 → EReal
  gg : Fin 256 → EReal
  gf : Fin 1024 → EReal
  wpm : Fin 512 → Fin 1024 → EReal
  wpg : Fin 1024 → Fin 1024 → EReal
  wo : Fin 1024 → Fin 1024 → EReal

/-- The constants 256, 1024, 1/1024 and the norms' small constant, as written. -/
def c256 : EReal := Ideal.ofBits .f32 0x43800000#32
def cD : EReal := Ideal.ofBits .f32 0x44800000#32
def cInv : EReal := Ideal.ofBits .f32 0x3A800000#32
def cE : EReal := Ideal.ofBits .f32 0x358637BD#32

/-- The logistic function. -/
def sg (v : EReal) : EReal := Ideal.div 1 (1 + Ideal.exp (-v))

/-- Column `k` of head `a`. -/
def col (a : Fin 4) (k : Fin 256) : Fin 1024 := ⟨a.val * 256 + k.val, by omega⟩

/-- The head a column lies in, and its place there. -/
def hd (j : Fin 1024) : Fin 4 := ⟨j.val / 256, by omega⟩
def lo (j : Fin 1024) : Fin 256 := ⟨j.val % 256, Nat.mod_lt _ (by decide)⟩

theorem col_hd_lo (j : Fin 1024) : col (hd j) (lo j) = j := Fin.ext (Nat.div_add_mod' j.val 256)

theorem hd_col (a : Fin 4) (k : Fin 256) : hd (col a k) = a := Fin.ext (by show (a.val * 256 + k.val) / 256 = a.val; omega)

theorem lo_col (a : Fin 4) (k : Fin 256) : lo (col a k) = k := Fin.ext (by show (a.val * 256 + k.val) % 256 = k.val; omega)

namespace Data

variable (D : Data) (i : Fin 2048)

/-- The input projection's column `n`. -/
def z (n : Fin 6320) : EReal := ∑ k, D.h i k * D.wi k n

def zm (j : Fin 512) : EReal := D.z i ⟨672 + j.val, by omega⟩
def zg (j : Fin 1024) : EReal := D.z i ⟨3248 + j.val, by omega⟩
def gm (j : Fin 1024) : EReal := D.z i ⟨4272 + j.val, by omega⟩
def gl (j : Fin 1024) : EReal := D.z i ⟨5296 + j.val, by omega⟩

/-- The two gated outputs, their projections, their merge, the residual. -/
def um (j : Fin 512) : EReal := D.om i j * (D.zm i j * sg (D.zm i j))
def ym (j : Fin 1024) : EReal := ∑ k, D.um i k * D.wpm k j
def rs (a : Fin 4) : EReal := Ideal.rsqrt (Ideal.div (∑ k, D.og i (col a k) * D.og i (col a k)) c256 + cE)
def xh (j : Fin 1024) : EReal := D.og i j * D.rs i (hd j)
def on (j : Fin 1024) : EReal := D.xh i j * D.gg (lo j)
def ug (j : Fin 1024) : EReal := D.on i j * (D.zg i j * sg (D.zg i j))
def yg (j : Fin 1024) : EReal := ∑ k, D.ug i k * D.wpg k j
def mg (j : Fin 1024) : EReal := sg (D.gm i j) * D.ym i j + sg (D.gl i j) * D.yg i j
def x2 (j : Fin 1024) : EReal := D.x i j + ∑ k, D.mg i k * D.wo k j

/-- The last norm, the error and the row's loss. -/
def rf : EReal := Ideal.rsqrt (Ideal.div (∑ k, D.x2 i k * D.x2 i k) cD + cE)
def xf (j : Fin 1024) : EReal := D.x2 i j * D.rf i
def er (j : Fin 1024) : EReal := D.xf i j * D.gf j - D.tg i j
def ls : EReal := Ideal.div (∑ k, D.er i k * D.er i k) cD

/-- The gradients, back to the residual, the merge, the projections and the gates. -/
def dy (j : Fin 1024) : EReal := D.er i j * cInv
def dx2 (j : Fin 1024) : EReal := D.rf i * (D.dy i j * D.gf j - D.xf i j * Ideal.div (∑ k, D.dy i k * D.gf k * D.xf i k) cD)
def dmg (j : Fin 1024) : EReal := ∑ k, D.dx2 i k * D.wo j k
def dym (j : Fin 1024) : EReal := D.dmg i j * sg (D.gm i j)
def dyg (j : Fin 1024) : EReal := D.dmg i j * sg (D.gl i j)
def dgm (j : Fin 1024) : EReal := D.dmg i j * D.ym i j * sg (D.gm i j) * (1 - sg (D.gm i j))
def dgl (j : Fin 1024) : EReal := D.dmg i j * D.yg i j * sg (D.gl i j) * (1 - sg (D.gl i j))
def dum (j : Fin 512) : EReal := ∑ k, D.dym i k * D.wpm j k
def dom (j : Fin 512) : EReal := D.dum i j * (D.zm i j * sg (D.zm i j))
def dzm (j : Fin 512) : EReal := D.dum i j * D.om i j * (sg (D.zm i j) * (1 + D.zm i j * (1 - sg (D.zm i j))))
def dug (j : Fin 1024) : EReal := ∑ k, D.dyg i k * D.wpg j k
def dzg (j : Fin 1024) : EReal := D.dug i j * D.on i j * (sg (D.zg i j) * (1 + D.zg i j * (1 - sg (D.zg i j))))
def don (j : Fin 1024) : EReal := D.dug i j * (D.zg i j * sg (D.zg i j))

/-- The recurrence's output gradient, through its head's norm. -/
def dog (a : Fin 4) (k : Fin 256) : EReal :=
  D.rs i a * (D.don i (col a k) * D.gg k
    - D.xh i (col a k) * Ideal.div (∑ l, D.don i (col a l) * D.gg l * D.xh i (col a l)) c256)

/-- The gradients of the packed gate columns, in the kernel's order. -/
def dgates (n : Fin 3584) : EReal :=
  if h : n.val < 1024 then D.dzg i ⟨n.val, h⟩
  else if h : n.val < 2048 then D.dgm i ⟨n.val - 1024, by omega⟩
  else if h : n.val < 3072 then D.dgl i ⟨n.val - 2048, by omega⟩
  else D.dzm i ⟨n.val - 3072, by omega⟩

end Data

end Cert.OutPath

end
-- ==== Proof.Post.Reads.lean ====
/- The output path's kernel: what each input block holds, in the arguments. -/
module

public import proofs.«01_k».proof.Proof.Post.Block
public import proofs.«01_k».proof.Proof.Post.Row
public import Idealize.ShloMosaic.Lib.Pointwise
public import Idealize.ShloMosaic.Lib.Claim
public import Idealize.ShloMosaic.Lib.StableHlo.ReadAt

@[expose] public section

set_option maxRecDepth 16384

noncomputable section

namespace Cert.PostIdeal.Hand

open Cert.PostIdeal Cert.PostIdeal.Gen Idealize.ShloMosaic Idealize.ShloMosaic.TcCoe Idealize.SL.Sem
open Idealize.ShloMosaic.Pipeline (Dat)
open Cert.OutPath (Data)

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] ∧ win0_7.index t = ![0, 0] ∧
    win0_8.index t = ![0, 0] ∧ win0_9.index t = ![0, 0] ∧ win0_10.index t = ![0, 0] ∧ win0_11.index t = ![t.val, 0] ∧
    win0_12.index t = ![t.val, 0] ∧ win0_13.index t = ![t.val, 0] ∧ win0_14.index t = ![t.val, 0] ∧ win0_15.index t =
    ![t.val, 0] ∧ win0_16.index t = ![t.val, 0] ∧ win0_17.index t = ![t.val, 0] ∧ win0_18.index t = ![t.val, 0] ∧
    win0_19.index t = ![t.val, 0] ∧ win0_20.index t = ![0, 0] ∧ win0_21.index t = ![0, 0] ∧ win0_22.index t = ![0, 0] :=
  (by decide +kernel : ∀ t : Fin grid0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] ∧ win0_7.index t = ![0, 0] ∧
    win0_8.index t = ![0, 0] ∧ win0_9.index t = ![0, 0] ∧ win0_10.index t = ![0, 0] ∧ win0_11.index t = ![t.val, 0] ∧
    win0_12.index t = ![t.val, 0] ∧ win0_13.index t = ![t.val, 0] ∧ win0_14.index t = ![t.val, 0] ∧ win0_15.index t =
    ![t.val, 0] ∧ win0_16.index t = ![t.val, 0] ∧ win0_17.index t = ![t.val, 0] ∧ win0_18.index t = ![t.val, 0] ∧
    win0_19.index t = ![t.val, 0] ∧ win0_20.index t = ![0, 0] ∧ win0_21.index t = ![0, 0] ∧ win0_22.index t = ![0, 0])

/-- The row of the whole array that row `r` of block `t` is. -/
theorem row_lt (t : Fin cfg0.N) (r : Fin 256) : t.val * 256 + r.val < 2048 := by
  have hN : cfg0.N = 8 := N_0; have := t.isLt; have := r.isLt; omega

def row (t : Fin cfg0.N) (r : Fin 256) : Fin 2048 := ⟨t.val * 256 + r.val, row_lt t r⟩

/-- The arguments. -/
def dat (c : Dev nD) : Data where
  om i j := m ((c : Thread nD τ).loc main_arg0) (ix2 i j)
  og i j := m ((c : Thread nD τ).loc main_arg1) (ix2 i j)
  h i j := m ((c : Thread nD τ).loc main_arg2) (ix2 i j)
  x i j := m ((c : Thread nD τ).loc main_arg3) (ix2 i j)
  tg i j := m ((c : Thread nD τ).loc main_arg4) (ix2 i j)
  wi i j := m ((c : Thread nD τ).loc main_arg5) (ix2 i j)
  gg j := m ((c : Thread nD τ).loc main_arg6) (ix1 j)
  gf j := m ((c : Thread nD τ).loc main_arg7) (ix1 j)
  wpm i j := m ((c : Thread nD τ).loc main_arg8) (ix2 i j)
  wpg i j := m ((c : Thread nD τ).loc main_arg9) (ix2 i j)
  wo i j := m ((c : Thread nD τ).loc main_arg10) (ix2 i j)

theorem rd0 (c : Dev nD) (t : Fin cfg0.N) (r : Fin 256) (j : Fin 512) :
    (iblk m c 0 t (ix2 r j) : EReal) = (dat m c).om (row t r) j := by
  unfold dat row
  blk_ext [iblk, V, idx t]

theorem rd3 (c : Dev nD) (t : Fin cfg0.N) (r : Fin 256) (j : Fin 1024) :
    (iblk m c 3 t (ix2 r j) : EReal) = (dat m c).og (row t r) j := by
  unfold dat row
  blk_ext [iblk, V, idx t]

theorem rd4 (c : Dev nD) (t : Fin cfg0.N) (r : Fin 256) (j : Fin 1024) :
    (iblk m c 4 t (ix2 r j) : EReal) = (dat m c).x (row t r) j := by
  unfold dat row
  blk_ext [iblk, V, idx t]

theorem rd5 (c : Dev nD) (t : Fin cfg0.N) (r : Fin 256) (j : Fin 1024) :
    (iblk m c 5 t (ix2 r j) : EReal) = (dat m c).tg (row t r) j := by
  unfold dat row
  blk_ext [iblk, V, idx t]

set_option maxHeartbeats 4000000 in
theorem rd1 (c : Dev nD) (t : Fin cfg0.N) (r : Fin 256) (j : Fin 1024) :
    (iblk m c 1 t (ix2 r j) : EReal) = (dat m c).h (row t r) j := by
  have e : iblk m c 1 t (ix2 r j) = V m c main_v0 (ix2 (row t r) j) := by
    unfold row
    blk_ext [iblk, idx t]
  rw [e]
  unfold V dat
  after_reads_simp
  pointwise

set_option maxHeartbeats 4000000 in
theorem rd8 (c : Dev nD) (t : Fin cfg0.N) (k : Fin 512) (j : Fin 1024) :
    (iblk m c 8 t (ix2 k j) : EReal) = (dat m c).wpm k j := by
  have e : iblk m c 8 t (ix2 k j) = V m c main_v10 (ix2 k j) := by
    blk_ext [iblk, idx t]
  rw [e]
  unfold V dat
  after_reads_simp
  pointwise

set_option maxHeartbeats 4000000 in
theorem rd9 (c : Dev nD) (t : Fin cfg0.N) (k : Fin 1024) (j : Fin 1024) :
    (iblk m c 9 t (ix2 k j) : EReal) = (dat m c).wpg k j := by
  have e : iblk m c 9 t (ix2 k j) = V m c main_v11 (ix2 k j) := by
    blk_ext [iblk, idx t]
  rw [e]
  unfold V dat
  after_reads_simp
  pointwise

set_option maxHeartbeats 4000000 in
theorem rd10 (c : Dev nD) (t : Fin cfg0.N) (k : Fin 1024) (j : Fin 1024) :
    (iblk m c 10 t (ix2 k j) : EReal) = (dat m c).wo k j := by
  have e : iblk m c 10 t (ix2 k j) = V m c main_v12 (ix2 k j) := by
    blk_ext [iblk, idx t]
  rw [e]
  unfold V dat
  after_reads_simp
  pointwise

set_option maxHeartbeats 4000000 in
theorem rd6 (c : Dev nD) (t : Fin cfg0.N) (j : Fin 256) :
    (iblk m c 6 t (ix2 0 j) : EReal) = (dat m c).gg j := by
  have e : iblk m c 6 t (ix2 0 j) = V m c main_v8 (ix2 0 j) := by
    blk_ext [iblk, idx t]
  rw [e]
  unfold V dat
  after_reads_simp
  pointwise

set_option maxHeartbeats 4000000 in
theorem rd7 (c : Dev nD) (t : Fin cfg0.N) (j : Fin 1024) :
    (iblk m c 7 t (ix2 0 j) : EReal) = (dat m c).gf j := by
  have e : iblk m c 7 t (ix2 0 j) = V m c main_v9 (ix2 0 j) := by
    blk_ext [iblk, idx t]
  rw [e]
  unfold V dat
  after_reads_simp
  pointwise

/-- The projection column that the packed gate weights hold at place `n`. -/
def gcol (n : Fin 3584) : Fin 6320 :=
  ⟨if n.val < 3072 then 3248 + n.val else 672 + (n.val - 3072), by split_ifs <;> omega⟩

theorem gcol_lo (n : Fin 3584) (h : n.val < 3072) : (gcol n).val = 3248 + n.val := if_pos h

theorem gcol_hi (n : Fin 3584) (h : ¬n.val < 3072) : (gcol n).val = 672 + (n.val - 3072) := if_neg h

theorem wi_of (c : Dev nD) (k : Fin 1024) (i : Fin 6320) (n : Fin 3584) (h : i.val = (gcol n).val) :
    (m ((c : Thread nD τ).loc main_arg5) (ix2 k i) : EReal) = (dat m c).wi k (gcol n) := by
  obtain rfl : i = gcol n := Fin.ext h
  rfl

set_option maxHeartbeats 4000000 in
theorem rd2 (c : Dev nD) (t : Fin cfg0.N) (n : Fin 3584) (k : Fin 1024) :
    (iblk m c 2 t (ix2 n k) : EReal) = (dat m c).wi k (gcol n) := by
  have e : iblk m c 2 t (ix2 n k) = V m c main_v7 (ix2 n k) := by
    blk_ext [iblk, idx t]
  rw [e]
  unfold V
  after_reads_simp
  pointwise
  after_reads_simp
  pointwise
  have hn := n.isLt
  split_ifs <;> first
    | exact wi_of m c _ _ _ (by have := gcol_lo n (by omega); dsimp only; omega)
    | exact wi_of m c _ _ _ (by have := gcol_hi n (by omega); dsimp only; omega)

end Cert.PostIdeal.Hand

end
-- ==== Proof.Post.Tile.lean ====
/- The output path's kernel, one grid point at a time: each value of the body, entry by entry, is the row's quantity. -/
module

public import proofs.«01_k».proof.Proof.Post.Reads
public import Idealize.ShloMosaic.Lib.WritesUnit

@[expose] public section

set_option maxRecDepth 16384
set_option maxHeartbeats 1000000

noncomputable section

namespace Cert.PostIdeal.Hand

open Cert.PostIdeal Cert.PostIdeal.Gen Idealize.ShloMosaic Idealize.ShloMosaic.TcCoe Idealize.SL.Sem
open Cert.OutPath

variable (m : (ℓ : Loc nD τ sig) → Buf (Elt Ideal) ℓ)

/-- A load of what a store of the whole block left. -/
theorem cov_whole {κ : Kind} {sp : Space} {A B a b K L : ℕ} (v : View sig κ sp ⟨2, ![A, B]⟩ .f32)
    (inb : ∀ d : Fin 2, (![0, 0] : Fin 2 → ℕ) d + (![A, B] : Fin 2 → ℕ) d ≤ (![A, B] : Fin 2 → ℕ) d)
    (w : Vec Ideal ⟨2, ![A, B]⟩ .f32)
    (inb' : ∀ d : Fin 2, (![a, b] : Fin 2 → ℕ) d + (![K, L] : Fin 2 → ℕ) d ≤ (![A, B] : Fin 2 → ℕ) d) (x : Fin K) (y : Fin L) :
    View.readCov (Val := Elt Ideal) v [⟨Rect.unit (s := ⟨2, ![A, B]⟩) ![0, 0] ![A, B] inb, w⟩]
        (Rect.unit (s := ⟨2, ![A, B]⟩) ![a, b] ![K, L] inb').toLoadRect (ix2 x y)
      = w ((Rect.unit (s := ⟨2, ![A, B]⟩) ![a, b] ![K, L] inb').toLoadRect.idx (ix2 x y)) :=
  View.read_writes_cons_unit_of_mem _ _ _ _ _ _ _ rfl (Fin.forall_fin_two.mpr ⟨(Nat.zero_add _).symm, (Nat.zero_add _).symm⟩)

/-- The kernel's spelling of the logistic function. -/
theorem sg_sub (v : EReal) : Ideal.div 1 (1 + Ideal.exp (0 - v)) = sg v := by
  rw [sub_eq_add_neg, zero_add]; rfl

/-! The body's values under their names. -/

theorem f7 (c : Dev nD) (t : Fin cfg0.N) : k0_pay7 (iblk m c 0 t) (tZm m c t) = tUm m c t := rfl
theorem f23 (c : Dev nD) (t : Fin cfg0.N) : k0_pay23 (tGg m c t) (tZs m c t) (k0_pay14 (tGg m c t) (tO0 m c t)) (k0_pay17 (tGg m c t) (tO1 m c t)) (tO2 m c t)
    (k0_pay18 (tO2 m c t)) (tO3 m c t) = tUg m c t := rfl
theorem f29 (c : Dev nD) (t : Fin cfg0.N) : k0_pay29 (tYm m c t) (tYg m c t) (tSm m c t) (tE m c t) k0_pay27 = tMg m c t := rfl
theorem f30 (c : Dev nD) (t : Fin cfg0.N) : k0_pay30 (tYm m c t) (tYg m c t) (tSm m c t) (tE m c t) k0_pay27 (iblk m c 4 t) (iblk m c 10 t) = tX2 m c t := rfl
theorem f32 (c : Dev nD) (t : Fin cfg0.N) : k0_pay32 (tYm m c t) (tYg m c t) (tSm m c t) (tE m c t) k0_pay27 (iblk m c 4 t) (iblk m c 10 t) = tRf m c t := rfl
theorem f33 (c : Dev nD) (t : Fin cfg0.N) : k0_pay33 (tYm m c t) (tYg m c t) (tSm m c t) (tE m c t) k0_pay27 (iblk m c 4 t) (iblk m c 10 t) = tXf m c t := rfl
theorem f34 (c : Dev nD) (t : Fin cfg0.N) : k0_pay34 (tYm m c t) (tYg m c t) (tSm m c t) (tE m c t) k0_pay27 (iblk m c 4 t) (iblk m c 10 t)
    (iblk m c 7 t) (iblk m c 5 t) = tEr m c t := rfl
theorem f40 (c : Dev nD) (t : Fin cfg0.N) : k0_pay40 (tGf m c t) (tRf m c t) (tXf m c t) (tEr m c t) = tDx m c t := rfl
theorem f41 (c : Dev nD) (t : Fin cfg0.N) : k0_pay41 (tGf m c t) (tRf m c t) (tXf m c t) (tEr m c t) (iblk m c 10 t) = tDm m c t := rfl
theorem f47 (c : Dev nD) (t : Fin cfg0.N) : k0_pay47 (tDym m c t) (iblk m c 8 t) = tDum m c t := rfl
theorem f50 (c : Dev nD) (t : Fin cfg0.N) : k0_pay50 (tDyg m c t) (iblk m c 9 t) = tDug m c t := rfl
theorem f55 (c : Dev nD) (t : Fin cfg0.N) : k0_pay55 (tZs m c t) (tDug m c t) = tDon m c t := rfl

theorem pj_at (c : Dev nD) (t : Fin cfg0.N) (r : Fin 256) (n : Fin 3584) :
    (tPj m c t (ix2 r n) : EReal) = (dat m c).z (row t r) (gcol n) := by
  pointwise [tPj, k0_pay4]
  simp only [rd1, rd2]
  rfl

theorem zm_at (c : Dev nD) (t : Fin cfg0.N) (r : Fin 256) (j : Fin 512) :
    (tZm m c t (ix2 r j) : EReal) = (dat m c).zm (row t r) j := by
  unfold tZm
  refine (cov_whole _ _ _ _ _ _).trans ?_
  pointwise
  rw [pj_at]
  refine congrArg ((dat m c).z (row t r)) (Fin.ext ((gcol_hi _ ?_).trans ?_)) <;> dsimp only <;> omega

theorem zg_at (c : Dev nD) (t : Fin cfg0.N) (r : Fin 256) (j : Fin 1024) :
    (tZg m c t (ix2 r j) : EReal) = (dat m c).zg (row t r) j := by
  unfold tZg
  refine (cov_whole _ _ _ _ _ _).trans ?_
  pointwise
  rw [pj_at]
  refine congrArg ((dat m c).z (row t r)) (Fin.ext ((gcol_lo _ ?_).trans ?_)) <;> dsimp only <;> omega

theorem gm_at (c : Dev nD) (t : Fin cfg0.N) (r : Fin 256) (j : Fin 1024) :
    (tGm m c t (ix2 r j) : EReal) = (dat m c).gm (row t r) j := by
  unfold tGm
  refine (cov_whole _ _ _ _ _ _).trans ?_
  pointwise
  rw [pj_at]
  refine congrArg ((dat m c).z (row t r)) (Fin.ext ((gcol_lo _ ?_).trans ?_)) <;> dsimp only <;> omega

theorem gl_at (c : Dev nD) (t : Fin cfg0.N) (r : Fin 256) (j : Fin 1024) :
    (tGl m c t (ix2 r j) : EReal) = (dat m c).gl (row t r) j := by
  unfold tGl
  refine (cov_whole _ _ _ _ _ _).trans ?_
  pointwise
  rw [pj_at]
  refine congrArg ((dat m c).z (row t r)) (Fin.ext ((gcol_lo _ ?_).trans ?_)) <;> dsimp only <;> omega

theorem um_at (c : Dev nD) (t : Fin cfg0.N) (r : Fin 256) (j : Fin 512) :
    (tUm m c t (ix2 r j) : EReal) = (dat m c).um (row t r) j := by
  pointwise [tUm, k0_pay7, k0_pay6, k0_pay5]
  simp only [rd0, zm_at, sg_sub]
  rfl

theorem ym_at (c : Dev nD) (t : Fin cfg0.N) (r : Fin 256) (j : Fin 1024) :
    (tYm m c t (ix2 r j) : EReal) = (dat m c).ym (row t r) j := by
  pointwise [tYm, k0_pay8]
  simp only [f7, um_at, rd8]
  rfl

theorem sm_at (c : Dev nD) (t : Fin cfg0.N) (r : Fin 256) (j : Fin 1024) :
    (tSm m c t (ix2 r j) : EReal) = sg ((dat m c).gm (row t r) j) := by
  pointwise [tSm, k0_pay25]
  simp only [gm_at, sg_sub]

theorem sl_at (c : Dev nD) (t : Fin cfg0.N) (r : Fin 256) (j : Fin 1024) :
    (tSl m c t (ix2 r j) : EReal) = sg ((dat m c).gl (row t r) j) := by
  pointwise [tSl, k0_pay28, tE, k0_pay26, k0_pay27]
  simp only [gl_at, sg_sub]

theorem sg_at (c : Dev nD) (t : Fin cfg0.N) (r : Fin 256) (j : Fin 1024) :
    (tSg m c t (ix2 r j) : EReal) = sg ((dat m c).zg (row t r) j) := by
  pointwise [tSg, k0_pay10]
  simp only [zg_at, sg_sub]

theorem zs_at (c : Dev nD) (t : Fin cfg0.N) (r : Fin 256) (j : Fin 1024) :
    (tZs m c t (ix2 r j) : EReal) = (dat m c).zg (row t r) j * sg ((dat m c).zg (row t r) j) := by
  pointwise [tZs, k0_pay11, k0_pay10]
  simp only [zg_at, sg_sub]

theorem gg_at (c : Dev nD) (t : Fin cfg0.N) (j : Fin 256) : (tGg m c t (ix2 0 j) : EReal) = (dat m c).gg j := by
  pointwise [tGg, k0_pay9]
  simp only [rd6]

theorem gf_at (c : Dev nD) (t : Fin cfg0.N) (j : Fin 1024) : (tGf m c t (ix2 0 j) : EReal) = (dat m c).gf j := by
  pointwise [tGf, k0_pay31]
  simp only [rd7]

theorem o0_at (c : Dev nD) (t : Fin cfg0.N) (r : Fin 256) (k : Fin 256) :
    (tO0 m c t (ix2 r k) : EReal) = (dat m c).og (row t r) (col 0 k) := by
  pointwise [tO0]
  rw [rd3]
  exact congrArg ((dat m c).og (row t r)) (Fin.ext (by show _ = 0 * 256 + k.val; first | rfl | (dsimp only; omega)))

theorem rs0_at (c : Dev nD) (t : Fin cfg0.N) (r : Fin 256) :
    (k0_pay12 (tO0 m c t) (ix2 r 0) : EReal) = (dat m c).rs (row t r) 0 := by
  pointwise [k0_pay12]
  simp only [o0_at]
  rfl

theorem xh0_at (c : Dev nD) (t : Fin cfg0.N) (r : Fin 256) (k : Fin 256) :
    (k0_pay13 (tO0 m c t) (ix2 r k) : EReal) = (dat m c).xh (row t r) (col 0 k) := by
  pointwise [k0_pay13]
  simp only [o0_at, rs0_at]
  unfold Data.xh
  rw [hd_col]

theorem o1_at (c : Dev nD) (t : Fin cfg0.N) (r : Fin 256) (k : Fin 256) :
    (tO1 m c t (ix2 r k) : EReal) = (dat m c).og (row t r) (col 1 k) := by
  pointwise [tO1]
  rw [rd3]
  exact congrArg ((dat m c).og (row t r)) (Fin.ext (by show _ = 1 * 256 + k.val; first | rfl | (dsimp only; omega)))

theorem rs1_at (c : Dev nD) (t : Fin cfg0.N) (r : Fin 256) :
    (k0_pay15 (tO1 m c t) (ix2 r 0) : EReal) = (dat m c).rs (row t r) 1 := by
  pointwise [k0_pay15]
  simp only [o1_at]
  rfl

theorem xh1_at (c : Dev nD) (t : Fin cfg0.N) (r : Fin 256) (k : Fin 256) :
    (k0_pay16 (tO1 m c t) (ix2 r k) : EReal) = (dat m c).xh (row t r) (col 1 k) := by
  pointwise [k0_pay16]
  simp only [o1_at, rs1_at]
  unfold Data.xh
  rw [hd_col]

theorem o2_at (c : Dev nD) (t : Fin cfg0.N) (r : Fin 256) (k : Fin 256) :
    (tO2 m c t (ix2 r k) : EReal) = (dat m c).og (row t r) (col 2 k) := by
  pointwise [tO2]
  rw [rd3]
  exact congrArg ((dat m c).og (row t r)) (Fin.ext (by show _ = 2 * 256 + k.val; first | rfl | (dsimp only; omega)))

theorem rs2_at (c : Dev nD) (t : Fin cfg0.N) (r : Fin 256) :
    (k0_pay18 (tO2 m c t) (ix2 r 0) : EReal) = (dat m c).rs (row t r) 2 := by
  pointwise [k0_pay18]
  simp only [o2_at]
  rfl

theorem xh2_at (c : Dev nD) (t : Fin cfg0.N) (r : Fin 256) (k : Fin 256) :
    (k0_pay19 (tO2 m c t) (k0_pay18 (tO2 m c t)) (ix2 r k) : EReal) = (dat m c).xh (row t r) (col 2 k) := by
  pointwise [k0_pay19]
  simp only [o2_at, rs2_at]
  unfold Data.xh
  rw [hd_col]

theorem o3_at (c : Dev nD) (t : Fin cfg0.N) (r : Fin 256) (k : Fin 256) :
    (tO3 m c t (ix2 r k) : EReal) = (dat m c).og (row t r) (col 3 k) := by
  pointwise [tO3]
  rw [rd3]
  exact congrArg ((dat m c).og (row t r)) (Fin.ext (by show _ = 3 * 256 + k.val; first | rfl | (dsimp only; omega)))

theorem rs3_at (c : Dev nD) (t : Fin cfg0.N) (r : Fin 256) :
    (k0_pay20 (tO3 m c t) (ix2 r 0) : EReal) = (dat m c).rs (row t r) 3 := by
  pointwise [k0_pay20]
  simp only [o3_at]
  rfl

theorem xh3_at (c : Dev nD) (t : Fin cfg0.N) (r : Fin 256) (k : Fin 256) :
    (k0_pay21 (tO3 m c t) (ix2 r k) : EReal) = (dat m c).xh (row t r) (col 3 k) := by
  pointwise [k0_pay21]
  simp only [o3_at, rs3_at]
  unfold Data.xh
  rw [hd_col]

theorem on_of (D : Data) (i : Fin 2048) (a : Fin 4) (k : Fin 256) (j : Fin 1024) (h : j.val = a.val * 256 + k.val) :
    D.xh i (col a k) * D.gg k = D.on i j := by
  obtain rfl : j = col a k := Fin.ext h
  unfold Data.on
  rw [lo_col]

theorem on_at (c : Dev nD) (t : Fin cfg0.N) (r : Fin 256) (j : Fin 1024) :
    (tOn m c t (ix2 r j) : EReal) = (dat m c).on (row t r) j := by
  pointwise [tOn, k0_pay22, k0_pay14, k0_pay17]
  simp only [xh0_at, xh1_at, xh2_at, xh3_at, gg_at]
  have hj := j.isLt
  split_ifs
  all_goals first
    | exact on_of _ _ 0 _ _ (by show j.val = 0 * 256 + _; first | omega | (dsimp only; omega))
    | exact on_of _ _ 1 _ _ (by show j.val = 1 * 256 + _; first | omega | (dsimp only; omega))
    | exact on_of _ _ 2 _ _ (by show j.val = 2 * 256 + _; first | omega | (dsimp only; omega))
    | exact on_of _ _ 3 _ _ (by show j.val = 3 * 256 + _; first | omega | (dsimp only; omega))

theorem f22 (c : Dev nD) (t : Fin cfg0.N) : k0_pay22 (tGg m c t) (k0_pay14 (tGg m c t) (tO0 m c t))
    (k0_pay17 (tGg m c t) (tO1 m c t)) (tO2 m c t) (k0_pay18 (tO2 m c t)) (tO3 m c t) = tOn m c t := rfl

theorem ug_at (c : Dev nD) (t : Fin cfg0.N) (r : Fin 256) (j : Fin 1024) :
    (tUg m c t (ix2 r j) : EReal) = (dat m c).ug (row t r) j := by
  pointwise [tUg, k0_pay23]
  simp only [f22, on_at, zs_at]
  rfl

theorem yg_at (c : Dev nD) (t : Fin cfg0.N) (r : Fin 256) (j : Fin 1024) :
    (tYg m c t (ix2 r j) : EReal) = (dat m c).yg (row t r) j := by
  pointwise [tYg, k0_pay24]
  simp only [f23, ug_at, rd9]
  rfl

theorem f28 (c : Dev nD) (t : Fin cfg0.N) : k0_pay28 (tE m c t) k0_pay27 = tSl m c t := rfl

theorem mg_at (c : Dev nD) (t : Fin cfg0.N) (r : Fin 256) (j : Fin 1024) :
    (tMg m c t (ix2 r j) : EReal) = (dat m c).mg (row t r) j := by
  pointwise [tMg, k0_pay29]
  simp only [f28, sl_at, sm_at, ym_at, yg_at]
  rfl

theorem x2_at (c : Dev nD) (t : Fin cfg0.N) (r : Fin 256) (j : Fin 1024) :
    (tX2 m c t (ix2 r j) : EReal) = (dat m c).x2 (row t r) j := by
  pointwise [tX2, k0_pay30]
  simp only [f29, mg_at, rd4, rd10]
  rfl

theorem rf_at (c : Dev nD) (t : Fin cfg0.N) (r : Fin 256) : (tRf m c t (ix2 r 0) : EReal) = (dat m c).rf (row t r) := by
  pointwise [tRf, k0_pay32]
  simp only [f30, x2_at]
  rfl

theorem xf_at (c : Dev nD) (t : Fin cfg0.N) (r : Fin 256) (j : Fin 1024) :
    (tXf m c t (ix2 r j) : EReal) = (dat m c).xf (row t r) j := by
  pointwise [tXf, k0_pay33]
  simp only [f30, f32, x2_at, rf_at]
  rfl

theorem er_at (c : Dev nD) (t : Fin cfg0.N) (r : Fin 256) (j : Fin 1024) :
    (tEr m c t (ix2 r j) : EReal) = (dat m c).er (row t r) j := by
  pointwise [tEr, k0_pay34, k0_pay31]
  simp only [f33, xf_at, rd7, rd5]
  rfl

theorem dx_at (c : Dev nD) (t : Fin cfg0.N) (r : Fin 256) (j : Fin 1024) :
    (tDx m c t (ix2 r j) : EReal) = (dat m c).dx2 (row t r) j := by
  pointwise [tDx, k0_pay40, k0_pay38]
  simp only [er_at, xf_at, rf_at, gf_at]
  rfl

theorem dm_at (c : Dev nD) (t : Fin cfg0.N) (r : Fin 256) (j : Fin 1024) :
    (tDm m c t (ix2 r j) : EReal) = (dat m c).dmg (row t r) j := by
  pointwise [tDm, k0_pay41]
  simp only [f40, dx_at, rd10]
  rfl

theorem dym_at (c : Dev nD) (t : Fin cfg0.N) (r : Fin 256) (j : Fin 1024) :
    (tDym m c t (ix2 r j) : EReal) = (dat m c).dym (row t r) j := by
  pointwise [tDym, k0_pay42]
  simp only [f41, dm_at, sm_at]
  rfl

theorem dyg_at (c : Dev nD) (t : Fin cfg0.N) (r : Fin 256) (j : Fin 1024) :
    (tDyg m c t (ix2 r j) : EReal) = (dat m c).dyg (row t r) j := by
  pointwise [tDyg, k0_pay43]
  simp only [f41, dm_at, sl_at]
  rfl

theorem dgm_at (c : Dev nD) (t : Fin cfg0.N) (r : Fin 256) (j : Fin 1024) :
    (tDgm m c t (ix2 r j) : EReal) = (dat m c).dgm (row t r) j := by
  pointwise [tDgm, k0_pay45, k0_pay44]
  simp only [f41, dm_at, sm_at, ym_at]
  rfl

theorem dgl_at (c : Dev nD) (t : Fin cfg0.N) (r : Fin 256) (j : Fin 1024) :
    (tDgl m c t (ix2 r j) : EReal) = (dat m c).dgl (row t r) j := by
  pointwise [tDgl, k0_pay46]
  simp only [dm_at, sl_at, yg_at]
  rfl

theorem dum_at (c : Dev nD) (t : Fin cfg0.N) (r : Fin 256) (j : Fin 512) :
    (tDum m c t (ix2 r j) : EReal) = (dat m c).dum (row t r) j := by
  pointwise [tDum, k0_pay47]
  simp only [dym_at, rd8]
  rfl

theorem dom_at (c : Dev nD) (t : Fin cfg0.N) (r : Fin 256) (j : Fin 512) :
    (tDom m c t (ix2 r j) : EReal) = (dat m c).dom (row t r) j := by
  pointwise [tDom, k0_pay48, k0_pay6, k0_pay5]
  simp only [f47, dum_at, zm_at, sg_sub]
  rfl

theorem dzm_at (c : Dev nD) (t : Fin cfg0.N) (r : Fin 256) (j : Fin 512) :
    (tDzm m c t (ix2 r j) : EReal) = (dat m c).dzm (row t r) j := by
  pointwise [tDzm, k0_pay49, k0_pay5]
  simp only [f47, dum_at, zm_at, sg_sub, rd0]
  rfl

theorem dug_at (c : Dev nD) (t : Fin cfg0.N) (r : Fin 256) (j : Fin 1024) :
    (tDug m c t (ix2 r j) : EReal) = (dat m c).dug (row t r) j := by
  pointwise [tDug, k0_pay50]
  simp only [dyg_at, rd9]
  rfl

theorem dzg_at (c : Dev nD) (t : Fin cfg0.N) (r : Fin 256) (j : Fin 1024) :
    (tDzg m c t (ix2 r j) : EReal) = (dat m c).dzg (row t r) j := by
  pointwise [tDzg, k0_pay54, k0_pay51, k0_pay52, k0_pay53]
  simp only [f50, dug_at, on_at, sg_at, zg_at]
  rfl

theorem don_at (c : Dev nD) (t : Fin cfg0.N) (r : Fin 256) (j : Fin 1024) :
    (tDon m c t (ix2 r j) : EReal) = (dat m c).don (row t r) j := by
  pointwise [tDon, k0_pay55]
  simp only [dug_at, zs_at]
  rfl

/-- Column `k` of a head, however its place is written. -/
theorem don_col (D : Data) (i : Fin 2048) (a : Fin 4) (k : Fin 256) (j : Fin 1024) (h : j.val = a.val * 256 + k.val) :
    D.don i j = D.don i (col a k) := congrArg _ (Fin.ext h)

theorem h0_at (c : Dev nD) (t : Fin cfg0.N) (r : Fin 256) (k : Fin 256) :
    (k0_pay56 (tZs m c t) (tDug m c t) (ix2 r k) : EReal) = (dat m c).don (row t r) (col 0 k) := by
  pointwise [k0_pay56]
  rw [f55, don_at]
  exact don_col _ _ 0 k _ (by show _ = 0 * 256 + k.val; first | rfl | (dsimp only; omega))

theorem d0_at (c : Dev nD) (t : Fin cfg0.N) (r : Fin 256) (k : Fin 256) :
    (tD0 m c t (ix2 r k) : EReal) = (dat m c).dog (row t r) 0 k := by
  pointwise [tD0, k0_pay57]
  simp only [h0_at, gg_at, rs0_at, xh0_at]
  rfl

theorem h1_at (c : Dev nD) (t : Fin cfg0.N) (r : Fin 256) (k : Fin 256) :
    (k0_pay58 (tZs m c t) (tDug m c t) (ix2 r k) : EReal) = (dat m c).don (row t r) (col 1 k) := by
  pointwise [k0_pay58]
  rw [f55, don_at]
  exact don_col _ _ 1 k _ (by show _ = 1 * 256 + k.val; first | rfl | (dsimp only; omega))

theorem d1_at (c : Dev nD) (t : Fin cfg0.N) (r : Fin 256) (k : Fin 256) :
    (tD1 m c t (ix2 r k) : EReal) = (dat m c).dog (row t r) 1 k := by
  pointwise [tD1, k0_pay60]
  simp only [h1_at, gg_at, rs1_at, xh1_at]
  rfl

theorem h2_at (c : Dev nD) (t : Fin cfg0.N) (r : Fin 256) (k : Fin 256) :
    (k0_pay61 (tDon m c t) (ix2 r k) : EReal) = (dat m c).don (row t r) (col 2 k) := by
  pointwise [k0_pay61]
  rw [don_at]
  exact don_col _ _ 2 k _ (by show _ = 2 * 256 + k.val; first | rfl | (dsimp only; omega))

theorem d2_at (c : Dev nD) (t : Fin cfg0.N) (r : Fin 256) (k : Fin 256) :
    (tD2 m c t (ix2 r k) : EReal) = (dat m c).dog (row t r) 2 k := by
  pointwise [tD2, k0_pay62]
  simp only [h2_at, gg_at, rs2_at, xh2_at]
  rfl

theorem h3_at (c : Dev nD) (t : Fin cfg0.N) (r : Fin 256) (k : Fin 256) :
    (k0_pay63 (tDon m c t) (ix2 r k) : EReal) = (dat m c).don (row t r) (col 3 k) := by
  pointwise [k0_pay63]
  rw [don_at]
  exact don_col _ _ 3 k _ (by show _ = 3 * 256 + k.val; first | rfl | (dsimp only; omega))

theorem d3_at (c : Dev nD) (t : Fin cfg0.N) (r : Fin 256) (k : Fin 256) :
    (tD3 m c t (ix2 r k) : EReal) = (dat m c).dog (row t r) 3 k := by
  pointwise [tD3, k0_pay64]
  simp only [h3_at, gg_at, rs3_at, xh3_at]
  rfl

theorem ls_at (c : Dev nD) (t : Fin cfg0.N) (acc : Vec Ideal S1x128 .f32) (l : Fin 128) :
    (sLs m c t acc (ix2 0 l) : EReal)
      = acc (ix2 0 l) + Ideal.ofBits .f32 0x3F000000#32 * ∑ r : Fin 256, (dat m c).ls (row t r) := by
  pointwise [sLs, k0_pay37, k0_pay35, tLs, k0_pay36]
  simp only [f34, er_at, Finset.univ_unique, Finset.sum_singleton]
  rfl

theorem sgf_at (c : Dev nD) (t : Fin cfg0.N) (acc : Vec Ideal S1x1024 .f32) (j : Fin 1024) :
    (sGf m c t acc (ix2 0 j) : EReal)
      = acc (ix2 0 j) + ∑ r : Fin 256, (dat m c).dy (row t r) j * (dat m c).xf (row t r) j := by
  pointwise [sGf, k0_pay39, k0_pay38]
  simp only [er_at, xf_at]
  rfl

theorem sgg_at (c : Dev nD) (t : Fin cfg0.N) (acc : Vec Ideal S1x256 .f32) (k : Fin 256) :
    (sGg m c t acc (ix2 0 k) : EReal)
      = acc (ix2 0 k) + ∑ r : Fin 256, ∑ a : Fin 4, (dat m c).don (row t r) (col a k) * (dat m c).xh (row t r) (col a k) := by
  pointwise [sGg, k0_pay65, k0_pay59]
  simp only [h0_at, h1_at, h2_at, h3_at, xh0_at, xh1_at, xh2_at, xh3_at, Fin.sum_univ_four, Finset.sum_add_distrib]

end Cert.PostIdeal.Hand

end
-- ==== Proof.Post.Out.lean ====
/- The gated output path: the two arrays the body writes piece by piece, the packed gate gradients and the recurrence's
   output gradient, entry by entry. -/
module

public import proofs.«01_k».proof.Proof.Post.Tile

@[expose] public section

set_option maxRecDepth 16384

noncomputable section

namespace Cert.PostIdeal.Hand

open Cert.PostIdeal Cert.PostIdeal.Gen Cert.OutPath Idealize.ShloMosaic Idealize.ShloMosaic.TcCoe Idealize.SL.Sem

variable (m : (ℓ : Loc nD τ sig) → Buf (Elt Ideal) ℓ)

theorem out_dzg (c : Dev nD) (t : Fin cfg0.N) (r : Fin 256) (j : Fin 1024) :
    ((outsAt0 m c t.val t.isLt).2.2.2.1 (ix2 r ⟨j.val, by omega⟩) : EReal) = tDzg m c t (ix2 r j) := by
  have hj := j.isLt
  by_cases h0 : t.val % 8 = 0
  on_goal 1 => rw [outsAt0_A m c t h0]; dsimp only [out0_A_14]
  on_goal 2 => rw [outsAt0_B m c t h0]; dsimp only [out0_B_14]
  all_goals
    frame_open
    refine (View.read_writes_cons_unit_of_mem _ _ _ _ _ _ (ix2 r j) rfl
      (by refine Fin.forall_fin_two.mpr ⟨(Nat.zero_add _).symm, ?_⟩; first | rfl | exact (Nat.zero_add _).symm)).trans ?_
    refine congrFun ?_ (ix2 r j)
    frame_out
    rfl

theorem out_dzm (c : Dev nD) (t : Fin cfg0.N) (r : Fin 256) (j : Fin 512) :
    ((outsAt0 m c t.val t.isLt).2.2.2.1 (ix2 r ⟨3072 + j.val, by omega⟩) : EReal) = tDzm m c t (ix2 r j) := by
  have hj := j.isLt
  by_cases h0 : t.val % 8 = 0
  on_goal 1 => rw [outsAt0_A m c t h0]; dsimp only [out0_A_14]
  on_goal 2 => rw [outsAt0_B m c t h0]; dsimp only [out0_B_14]
  all_goals
    frame_open
    refine (View.read_writes_cons_unit_of_not_mem _ _ _ _ _ _ rfl 1 (Or.inr (show 0 + 1024 ≤ 3072 + j.val by omega))).trans ?_
    refine (View.read_writes_cons_unit_of_mem _ _ _ _ _ _ (ix2 r j) rfl
      (by refine Fin.forall_fin_two.mpr ⟨(Nat.zero_add _).symm, ?_⟩; first | rfl | exact (Nat.zero_add _).symm)).trans ?_
    refine congrFun ?_ (ix2 r j)
    frame_out
    rfl

theorem out_dgl (c : Dev nD) (t : Fin cfg0.N) (r : Fin 256) (j : Fin 1024) :
    ((outsAt0 m c t.val t.isLt).2.2.2.1 (ix2 r ⟨2048 + j.val, by omega⟩) : EReal) = tDgl m c t (ix2 r j) := by
  have hj := j.isLt
  by_cases h0 : t.val % 8 = 0
  on_goal 1 => rw [outsAt0_A m c t h0]; dsimp only [out0_A_14]
  on_goal 2 => rw [outsAt0_B m c t h0]; dsimp only [out0_B_14]
  all_goals
    frame_open
    refine (View.read_writes_cons_unit_of_not_mem _ _ _ _ _ _ rfl 1 (Or.inr (show 0 + 1024 ≤ 2048 + j.val by omega))).trans ?_
    refine (View.read_writes_cons_unit_of_not_mem _ _ _ _ _ _ rfl 1 (Or.inl (show 2048 + j.val < 3072 by omega))).trans ?_
    refine (View.read_writes_cons_unit_of_mem _ _ _ _ _ _ (ix2 r j) rfl
      (by refine Fin.forall_fin_two.mpr ⟨(Nat.zero_add _).symm, ?_⟩; first | rfl | exact (Nat.zero_add _).symm)).trans ?_
    refine congrFun ?_ (ix2 r j)
    frame_out
    rfl

theorem out_dgm (c : Dev nD) (t : Fin cfg0.N) (r : Fin 256) (j : Fin 1024) :
    ((outsAt0 m c t.val t.isLt).2.2.2.1 (ix2 r ⟨1024 + j.val, by omega⟩) : EReal) = tDgm m c t (ix2 r j) := by
  have hj := j.isLt
  by_cases h0 : t.val % 8 = 0
  on_goal 1 => rw [outsAt0_A m c t h0]; dsimp only [out0_A_14]
  on_goal 2 => rw [outsAt0_B m c t h0]; dsimp only [out0_B_14]
  all_goals
    frame_open
    refine (View.read_writes_cons_unit_of_not_mem _ _ _ _ _ _ rfl 1 (Or.inr (show 0 + 1024 ≤ 1024 + j.val by omega))).trans ?_
    refine (View.read_writes_cons_unit_of_not_mem _ _ _ _ _ _ rfl 1 (Or.inl (show 1024 + j.val < 3072 by omega))).trans ?_
    refine (View.read_writes_cons_unit_of_not_mem _ _ _ _ _ _ rfl 1 (Or.inl (show 1024 + j.val < 2048 by omega))).trans ?_
    refine (View.read_writes_cons_unit_of_mem _ _ _ _ _ _ (ix2 r j) rfl
      (by refine Fin.forall_fin_two.mpr ⟨(Nat.zero_add _).symm, ?_⟩; first | rfl | exact (Nat.zero_add _).symm)).trans ?_
    refine congrFun ?_ (ix2 r j)
    frame_out
    rfl

theorem out_d3 (c : Dev nD) (t : Fin cfg0.N) (r : Fin 256) (j : Fin 256) :
    ((outsAt0 m c t.val t.isLt).2.2.1 (ix2 r ⟨768 + j.val, by omega⟩) : EReal) = tD3 m c t (ix2 r j) := by
  have hj := j.isLt
  by_cases h0 : t.val % 8 = 0
  on_goal 1 => rw [outsAt0_A m c t h0]; dsimp only [out0_A_13]
  on_goal 2 => rw [outsAt0_B m c t h0]; dsimp only [out0_B_13]
  all_goals
    frame_open
    refine (View.read_writes_cons_unit_of_mem _ _ _ _ _ _ (ix2 r j) rfl
      (by refine Fin.forall_fin_two.mpr ⟨(Nat.zero_add _).symm, ?_⟩; first | rfl | exact (Nat.zero_add _).symm)).trans ?_
    refine congrFun ?_ (ix2 r j)
    frame_out
    rfl

theorem out_d2 (c : Dev nD) (t : Fin cfg0.N) (r : Fin 256) (j : Fin 256) :
    ((outsAt0 m c t.val t.isLt).2.2.1 (ix2 r ⟨512 + j.val, by omega⟩) : EReal) = tD2 m c t (ix2 r j) := by
  have hj := j.isLt
  by_cases h0 : t.val % 8 = 0
  on_goal 1 => rw [outsAt0_A m c t h0]; dsimp only [out0_A_13]
  on_goal 2 => rw [outsAt0_B m c t h0]; dsimp only [out0_B_13]
  all_goals
    frame_open
    refine (View.read_writes_cons_unit_of_not_mem _ _ _ _ _ _ rfl 1 (Or.inl (show 512 + j.val < 768 by omega))).trans ?_
    refine (View.read_writes_cons_unit_of_mem _ _ _ _ _ _ (ix2 r j) rfl
      (by refine Fin.forall_fin_two.mpr ⟨(Nat.zero_add _).symm, ?_⟩; first | rfl | exact (Nat.zero_add _).symm)).trans ?_
    refine congrFun ?_ (ix2 r j)
    frame_out
    rfl

theorem out_d1 (c : Dev nD) (t : Fin cfg0.N) (r : Fin 256) (j : Fin 256) :
    ((outsAt0 m c t.val t.isLt).2.2.1 (ix2 r ⟨256 + j.val, by omega⟩) : EReal) = tD1 m c t (ix2 r j) := by
  have hj := j.isLt
  by_cases h0 : t.val % 8 = 0
  on_goal 1 => rw [outsAt0_A m c t h0]; dsimp only [out0_A_13]
  on_goal 2 => rw [outsAt0_B m c t h0]; dsimp only [out0_B_13]
  all_goals
    frame_open
    refine (View.read_writes_cons_unit_of_not_mem _ _ _ _ _ _ rfl 1 (Or.inl (show 256 + j.val < 768 by omega))).trans ?_
    refine (View.read_writes_cons_unit_of_not_mem _ _ _ _ _ _ rfl 1 (Or.inl (show 256 + j.val < 512 by omega))).trans ?_
    refine (View.read_writes_cons_unit_of_mem _ _ _ _ _ _ (ix2 r j) rfl
      (by refine Fin.forall_fin_two.mpr ⟨(Nat.zero_add _).symm, ?_⟩; first | rfl | exact (Nat.zero_add _).symm)).trans ?_
    refine congrFun ?_ (ix2 r j)
    frame_out
    rfl

theorem out_d0 (c : Dev nD) (t : Fin cfg0.N) (r : Fin 256) (j : Fin 256) :
    ((outsAt0 m c t.val t.isLt).2.2.1 (ix2 r ⟨j.val, by omega⟩) : EReal) = tD0 m c t (ix2 r j) := by
  have hj := j.isLt
  by_cases h0 : t.val % 8 = 0
  on_goal 1 => rw [outsAt0_A m c t h0]; dsimp only [out0_A_13]
  on_goal 2 => rw [outsAt0_B m c t h0]; dsimp only [out0_B_13]
  all_goals
    frame_open
    refine (View.read_writes_cons_unit_of_not_mem _ _ _ _ _ _ rfl 1 (Or.inl (show j.val < 768 by omega))).trans ?_
    refine (View.read_writes_cons_unit_of_not_mem _ _ _ _ _ _ rfl 1 (Or.inl (show j.val < 512 by omega))).trans ?_
    refine (View.read_writes_cons_unit_of_not_mem _ _ _ _ _ _ rfl 1 (Or.inl (show j.val < 256 by omega))).trans ?_
    refine (View.read_writes_cons_unit_of_mem _ _ _ _ _ _ (ix2 r j) rfl
      (by refine Fin.forall_fin_two.mpr ⟨(Nat.zero_add _).symm, ?_⟩; first | rfl | exact (Nat.zero_add _).symm)).trans ?_
    refine congrFun ?_ (ix2 r j)
    frame_out
    rfl

/-- A packed gate column's entry. -/
theorem out_gates (c : Dev nD) (t : Fin cfg0.N) (r : Fin 256) (n : Fin 3584) :
    ((outsAt0 m c t.val t.isLt).2.2.2.1 (ix2 r n) : EReal) = (dat m c).dgates (row t r) n := by
  have hn := n.isLt
  unfold Data.dgates
  split_ifs with h1 h2 h3
  · exact (out_dzg m c t r ⟨n.val, h1⟩).trans (dzg_at m c t r _)
  · rw [← dgm_at, ← out_dgm]
    exact congrArg (fun k => ((outsAt0 m c t.val t.isLt).2.2.2.1 (ix2 r k) : EReal)) (Fin.ext (by show n.val = 1024 + (n.val - 1024); omega))
  · rw [← dgl_at, ← out_dgl]
    exact congrArg (fun k => ((outsAt0 m c t.val t.isLt).2.2.2.1 (ix2 r k) : EReal)) (Fin.ext (by show n.val = 2048 + (n.val - 2048); omega))
  · rw [← dzm_at, ← out_dzm]
    exact congrArg (fun k => ((outsAt0 m c t.val t.isLt).2.2.2.1 (ix2 r k) : EReal)) (Fin.ext (by show n.val = 3072 + (n.val - 3072); omega))

/-- An entry of the recurrence's output gradient. -/
theorem out_dog (c : Dev nD) (t : Fin cfg0.N) (r : Fin 256) (j : Fin 1024) :
    ((outsAt0 m c t.val t.isLt).2.2.1 (ix2 r j) : EReal) = (dat m c).dog (row t r) (hd j) (lo j) := by
  obtain ⟨a, k, rfl⟩ : ∃ a k, j = col a k := ⟨hd j, lo j, (col_hd_lo j).symm⟩
  rw [hd_col, lo_col]
  have at_col (n : ℕ) (hn : n < 1024) (h : a.val * 256 + k.val = n) :
      ((outsAt0 m c t.val t.isLt).2.2.1 (ix2 r (col a k)) : EReal) = (outsAt0 m c t.val t.isLt).2.2.1 (ix2 r ⟨n, hn⟩) :=
    congrArg (fun k => ((outsAt0 m c t.val t.isLt).2.2.1 (ix2 r k) : EReal)) (Fin.ext h)
  have hk := k.isLt
  fin_cases a
  · exact (at_col k.val (by omega) (Nat.zero_add _ |>.symm ▸ by simp)).trans ((out_d0 m c t r k).trans (d0_at m c t r k))
  · exact (at_col (256 + k.val) (by omega) rfl).trans ((out_d1 m c t r k).trans (d1_at m c t r k))
  · exact (at_col (512 + k.val) (by omega) rfl).trans ((out_d2 m c t r k).trans (d2_at m c t r k))
  · exact (at_col (768 + k.val) (by omega) rfl).trans ((out_d3 m c t r k).trans (d3_at m c t r k))

end Cert.PostIdeal.Hand

end
-- ==== Proof.Post.Arrays.lean ====
/- The gated output path: the kernel's twelve arrays, entry by entry. -/
module

public import proofs.«01_k».proof.Proof.Post.Out

@[expose] public section

set_option maxRecDepth 16384

noncomputable section

namespace Cert.PostIdeal.Hand

open Cert.PostIdeal Cert.PostIdeal.Gen Cert.OutPath Idealize.ShloMosaic Idealize.ShloMosaic.TcCoe Idealize.SL.Sem
open Idealize.ShloMosaic.Pipeline (Dat)

variable (m : (ℓ : Loc nD τ sig) → Buf (Elt Ideal) ℓ)

theorem arr_dx2 (c : Dev nD) : (dats m 0 c).arrAt 11 cfg0.N = fun i : S2048x1024.Idx => ((dat m c).dx2 (i 0) (i 1) : EReal) := by
  refine (dats m 0 c).arrAt_eq_of_covers 11 _ (by decide +kernel) fun t hf y => ?_
  blk_simp
  rw [after0_11]
  idx_vars y
  rw [outs_dx, dx_at]
  have e0 : (((View.whole main_v13_0).slice (win0_11.rect t)).emb (ix2 y0 y1) 0).val = t.val * 256 + y0.val := by blk_simp [idx t]
  have e1 : (((View.whole main_v13_0).slice (win0_11.rect t)).emb (ix2 y0 y1) 1).val = y1.val := by blk_simp [idx t]
  exact congrArg₂ ((dat m c).dx2) (Fin.ext e0.symm) (Fin.ext e1.symm)

theorem arr_dom (c : Dev nD) : (dats m 0 c).arrAt 12 cfg0.N = fun i : S2048x512.Idx => ((dat m c).dom (i 0) (i 1) : EReal) := by
  refine (dats m 0 c).arrAt_eq_of_covers 12 _ (by decide +kernel) fun t hf y => ?_
  blk_simp
  rw [after0_12]
  idx_vars y
  rw [outs_dom, dom_at]
  have e0 : (((View.whole main_v13_1).slice (win0_12.rect t)).emb (ix2 y0 y1) 0).val = t.val * 256 + y0.val := by blk_simp [idx t]
  have e1 : (((View.whole main_v13_1).slice (win0_12.rect t)).emb (ix2 y0 y1) 1).val = y1.val := by blk_simp [idx t]
  exact congrArg₂ ((dat m c).dom) (Fin.ext e0.symm) (Fin.ext e1.symm)

theorem arr_dog (c : Dev nD) : (dats m 0 c).arrAt 13 cfg0.N = fun i : S2048x1024.Idx => ((dat m c).dog (i 0) (hd (i 1)) (lo (i 1)) : EReal) := by
  refine (dats m 0 c).arrAt_eq_of_covers 13 _ (by decide +kernel) fun t hf y => ?_
  blk_simp
  rw [after0_13]
  idx_vars y
  rw [out_dog]
  have e0 : (((View.whole main_v13_2).slice (win0_13.rect t)).emb (ix2 y0 y1) 0).val = t.val * 256 + y0.val := by blk_simp [idx t]
  have e1 : (((View.whole main_v13_2).slice (win0_13.rect t)).emb (ix2 y0 y1) 1).val = y1.val := by blk_simp [idx t]
  exact congrArg₂ (fun i j => (dat m c).dog i (hd j) (lo j)) (Fin.ext e0.symm) (Fin.ext e1.symm)

theorem arr_dgates (c : Dev nD) : (dats m 0 c).arrAt 14 cfg0.N = fun i : S2048x3584.Idx => ((dat m c).dgates (i 0) (i 1) : EReal) := by
  refine (dats m 0 c).arrAt_eq_of_covers 14 _ (by decide +kernel) fun t hf y => ?_
  blk_simp
  rw [after0_14]
  idx_vars y
  rw [out_gates]
  have e0 : (((View.whole main_v13_3).slice (win0_14.rect t)).emb (ix2 y0 y1) 0).val = t.val * 256 + y0.val := by blk_simp [idx t]
  have e1 : (((View.whole main_v13_3).slice (win0_14.rect t)).emb (ix2 y0 y1) 1).val = y1.val := by blk_simp [idx t]
  exact congrArg₂ ((dat m c).dgates) (Fin.ext e0.symm) (Fin.ext e1.symm)

theorem arr_mg (c : Dev nD) : (dats m 0 c).arrAt 15 cfg0.N = fun i : S2048x1024.Idx => ((dat m c).mg (i 0) (i 1) : EReal) := by
  refine (dats m 0 c).arrAt_eq_of_covers 15 _ (by decide +kernel) fun t hf y => ?_
  blk_simp
  rw [after0_15]
  idx_vars y
  rw [outs_mg, mg_at]
  have e0 : (((View.whole main_v13_4).slice (win0_15.rect t)).emb (ix2 y0 y1) 0).val = t.val * 256 + y0.val := by blk_simp [idx t]
  have e1 : (((View.whole main_v13_4).slice (win0_15.rect t)).emb (ix2 y0 y1) 1).val = y1.val := by blk_simp [idx t]
  exact congrArg₂ ((dat m c).mg) (Fin.ext e0.symm) (Fin.ext e1.symm)

theorem arr_um (c : Dev nD) : (dats m 0 c).arrAt 16 cfg0.N = fun i : S2048x512.Idx => ((dat m c).um (i 0) (i 1) : EReal) := by
  refine (dats m 0 c).arrAt_eq_of_covers 16 _ (by decide +kernel) fun t hf y => ?_
  blk_simp
  rw [after0_16]
  idx_vars y
  rw [outs_um, um_at]
  have e0 : (((View.whole main_v13_5).slice (win0_16.rect t)).emb (ix2 y0 y1) 0).val = t.val * 256 + y0.val := by blk_simp [idx t]
  have e1 : (((View.whole main_v13_5).slice (win0_16.rect t)).emb (ix2 y0 y1) 1).val = y1.val := by blk_simp [idx t]
  exact congrArg₂ ((dat m c).um) (Fin.ext e0.symm) (Fin.ext e1.symm)

theorem arr_ug (c : Dev nD) : (dats m 0 c).arrAt 17 cfg0.N = fun i : S2048x1024.Idx => ((dat m c).ug (i 0) (i 1) : EReal) := by
  refine (dats m 0 c).arrAt_eq_of_covers 17 _ (by decide +kernel) fun t hf y => ?_
  blk_simp
  rw [after0_17]
  idx_vars y
  rw [outs_ug, ug_at]
  have e0 : (((View.whole main_v13_6).slice (win0_17.rect t)).emb (ix2 y0 y1) 0).val = t.val * 256 + y0.val := by blk_simp [idx t]
  have e1 : (((View.whole main_v13_6).slice (win0_17.rect t)).emb (ix2 y0 y1) 1).val = y1.val := by blk_simp [idx t]
  exact congrArg₂ ((dat m c).ug) (Fin.ext e0.symm) (Fin.ext e1.symm)

theorem arr_dym (c : Dev nD) : (dats m 0 c).arrAt 18 cfg0.N = fun i : S2048x1024.Idx => ((dat m c).dym (i 0) (i 1) : EReal) := by
  refine (dats m 0 c).arrAt_eq_of_covers 18 _ (by decide +kernel) fun t hf y => ?_
  blk_simp
  rw [after0_18]
  idx_vars y
  rw [outs_dym, dym_at]
  have e0 : (((View.whole main_v13_7).slice (win0_18.rect t)).emb (ix2 y0 y1) 0).val = t.val * 256 + y0.val := by blk_simp [idx t]
  have e1 : (((View.whole main_v13_7).slice (win0_18.rect t)).emb (ix2 y0 y1) 1).val = y1.val := by blk_simp [idx t]
  exact congrArg₂ ((dat m c).dym) (Fin.ext e0.symm) (Fin.ext e1.symm)

theorem arr_dyg (c : Dev nD) : (dats m 0 c).arrAt 19 cfg0.N = fun i : S2048x1024.Idx => ((dat m c).dyg (i 0) (i 1) : EReal) := by
  refine (dats m 0 c).arrAt_eq_of_covers 19 _ (by decide +kernel) fun t hf y => ?_
  blk_simp
  rw [after0_19]
  idx_vars y
  rw [outs_dyg, dyg_at]
  have e0 : (((View.whole main_v13_8).slice (win0_19.rect t)).emb (ix2 y0 y1) 0).val = t.val * 256 + y0.val := by blk_simp [idx t]
  have e1 : (((View.whole main_v13_8).slice (win0_19.rect t)).emb (ix2 y0 y1) 1).val = y1.val := by blk_simp [idx t]
  exact congrArg₂ ((dat m c).dyg) (Fin.ext e0.symm) (Fin.ext e1.symm)

theorem last_ls (c : Dev nD) (j : Fin 128) :
    ((outsAt0 m c t0_7.val t0_7.isLt).2.2.2.2.2.2.2.2.2.1 (ix2 0 j) : EReal) = ∑ t : Fin cfg0.N, Ideal.ofBits .f32 0x3F000000#32 * ∑ r : Fin 256, (dat m c).ls (row t r) := by
  have hN : cfg0.N = 8 := N_0
  have key := Pipeline.eq_sum_fin_of_reset_step_apply_last (N := cfg0.N)
    (fun n h => fun j : Fin 128 => ((outsAt0 m c n h).2.2.2.2.2.2.2.2.2.1 (ix2 0 j) : EReal)) 8 (fun _ => 0)
    (fun t j => Ideal.ofBits .f32 0x3F000000#32 * ∑ r : Fin 256, (dat m c).ls (row t r))
    (fun t h j => by
      rw [outs_ls_A m c t h, ls_at]
      congr 1
      pointwise [k0_pay1])
    (fun t h j => by rw [outs_ls_B m c t h, ls_at]) hN.le t0_7 ((rfl : t0_7.val + 1 = 8).trans hN.symm) j
  rw [key, zero_add]

theorem arr_ls (c : Dev nD) : (dats m 0 c).arrAt 20 cfg0.N = fun i : S1x128.Idx =>
    (let j : Fin 128 := i 1; (∑ t : Fin cfg0.N, Ideal.ofBits .f32 0x3F000000#32 * ∑ r : Fin 256, (dat m c).ls (row t r) : EReal)) := by
  refine (dats m 0 c).arrAt_eq_of_after_last 20 t0_7 (by decide +kernel) _ fun y => ?_
  blk_simp
  rw [after0_20]
  idx_vars y
  obtain rfl : y0 = 0 := Subsingleton.elim _ _
  exact last_ls m c y1

theorem last_gf (c : Dev nD) (j : Fin 1024) :
    ((outsAt0 m c t0_7.val t0_7.isLt).2.2.2.2.2.2.2.2.2.2.1 (ix2 0 j) : EReal) = ∑ i : Fin 2048, (dat m c).dy i j * (dat m c).xf i j := by
  have hN : cfg0.N = 8 := N_0
  have key := Pipeline.eq_sum_fin_of_reset_step_apply_last (N := cfg0.N)
    (fun n h => fun j : Fin 1024 => ((outsAt0 m c n h).2.2.2.2.2.2.2.2.2.2.1 (ix2 0 j) : EReal)) 8 (fun _ => 0)
    (fun t j => ∑ r : Fin 256, (dat m c).dy (row t r) j * (dat m c).xf (row t r) j)
    (fun t h j => by
      rw [outs_gf_A m c t h, sgf_at]
      congr 1
      pointwise [k0_pay2])
    (fun t h j => by rw [outs_gf_B m c t h, sgf_at]) hN.le t0_7 ((rfl : t0_7.val + 1 = 8).trans hN.symm) j
  rw [key, zero_add]
  exact Fin.sum_mul_add_fin cfg0.N 256 (fun i : Fin 2048 => (dat m c).dy i j * (dat m c).xf i j) (by rw [hN])

theorem arr_gf (c : Dev nD) : (dats m 0 c).arrAt 21 cfg0.N = fun i : S1x1024.Idx =>
    (let j : Fin 1024 := i 1; (∑ i : Fin 2048, (dat m c).dy i j * (dat m c).xf i j : EReal)) := by
  refine (dats m 0 c).arrAt_eq_of_after_last 21 t0_7 (by decide +kernel) _ fun y => ?_
  blk_simp
  rw [after0_21]
  idx_vars y
  obtain rfl : y0 = 0 := Subsingleton.elim _ _
  exact last_gf m c y1

theorem last_gg (c : Dev nD) (j : Fin 256) :
    ((outsAt0 m c t0_7.val t0_7.isLt).2.2.2.2.2.2.2.2.2.2.2 (ix2 0 j) : EReal) = ∑ i : Fin 2048, ∑ a : Fin 4, (dat m c).don i (col a j) * (dat m c).xh i (col a j) := by
  have hN : cfg0.N = 8 := N_0
  have key := Pipeline.eq_sum_fin_of_reset_step_apply_last (N := cfg0.N)
    (fun n h => fun j : Fin 256 => ((outsAt0 m c n h).2.2.2.2.2.2.2.2.2.2.2 (ix2 0 j) : EReal)) 8 (fun _ => 0)
    (fun t j => ∑ r : Fin 256, ∑ a : Fin 4, (dat m c).don (row t r) (col a j) * (dat m c).xh (row t r) (col a j))
    (fun t h j => by
      rw [outs_gg_A m c t h, sgg_at]
      congr 1
      pointwise [k0_pay3])
    (fun t h j => by rw [outs_gg_B m c t h, sgg_at]) hN.le t0_7 ((rfl : t0_7.val + 1 = 8).trans hN.symm) j
  rw [key, zero_add]
  exact Fin.sum_mul_add_fin cfg0.N 256 (fun i : Fin 2048 => ∑ a : Fin 4, (dat m c).don i (col a j) * (dat m c).xh i (col a j)) (by rw [hN])

theorem arr_gg (c : Dev nD) : (dats m 0 c).arrAt 22 cfg0.N = fun i : S1x256.Idx =>
    (let j : Fin 256 := i 1; (∑ i : Fin 2048, ∑ a : Fin 4, (dat m c).don i (col a j) * (dat m c).xh i (col a j) : EReal)) := by
  refine (dats m 0 c).arrAt_eq_of_after_last 22 t0_7 (by decide +kernel) _ fun y => ?_
  blk_simp
  rw [after0_22]
  idx_vars y
  obtain rfl : y0 = 0 := Subsingleton.elim _ _
  exact last_gg m c y1

end Cert.PostIdeal.Hand

end
-- ==== Proof.Post.Equation.lean ====
/- The gated output path: the kernel's form of the gates' derivatives against the one that differentiating the forward
   lines gives, and where a gate's cotangent is a real. -/
module

public import proofs.«01_k».proof.Proof.Post.Row
public import proofs.«01_k».proof.Proof.Real.Norm

@[expose] public section

noncomputable section

namespace Cert.OutPath

open Idealize.ShloMosaic Cert.Real

theorem sg_top : sg ⊤ = 1 := by
  have : Ideal.exp (-⊤ : EReal) = 0 := by rw [EReal.neg_top]; rfl
  rw [sg, this, add_zero, ← EReal.coe_one, div_real _ _ one_ne_zero, div_one]

theorem sg_bot : sg ⊥ = 0 := by
  have : Ideal.exp (-⊥ : EReal) = ⊤ := by rw [EReal.neg_bot]; rfl
  rw [sg, this, ← EReal.coe_one, EReal.coe_add_top, div_top]

theorem sg_coe (r : ℝ) : ∃ s : ℝ, s ≠ 0 ∧ sg (r : EReal) = (s : EReal) := by
  refine ⟨1 / (1 + Real.exp (-r)), by positivity, ?_⟩
  rw [sg, ← EReal.coe_neg, Ideal.exp_coe, ← EReal.coe_one, ← EReal.coe_add, div_real _ _ (by positivity)]

theorem sg_real (x : EReal) : IsR (sg x) := by
  induction x using EReal.rec with
  | bot => rw [sg_bot]; exact .zero
  | coe r => obtain ⟨s, -, e⟩ := sg_coe r; exact ⟨s, e⟩
  | top => rw [sg_top]; exact .one

/-- The norms' small constant is a positive real. -/
theorem cE_eq : ∃ e : ℝ, 0 < e ∧ cE = (e : EReal) := ceps

theorem cD_eq : cD = ((1024 : ℝ) : EReal) := c1024

theorem c256_eq : c256 = ((256 : ℝ) : EReal) := by
  simp [c256, Ideal.ofBits, Ideal.ieee, -EReal.coe_mul]; norm_num

theorem cInv_eq : cInv = ((1 / 1024 : ℝ) : EReal) := by
  simp [cInv, Ideal.ofBits, Ideal.ieee, -EReal.coe_mul]; norm_num

theorem chalf_eq : Ideal.ofBits .f32 0x3F000000#32 = ((1 / 2 : ℝ) : EReal) := by
  simp [Ideal.ofBits, Ideal.ieee, -EReal.coe_mul]; norm_num

theorem ctwo_eq : Ideal.ofBits .f32 0x40000000#32 = ((2 : ℝ) : EReal) := by
  simp [Ideal.ofBits, Ideal.ieee, -EReal.coe_mul]; norm_num

/-- The gate's derivative, in the two forms: where the gate is a real other than zero, its cotangent must be real. -/
theorem silu_grad {d o z : EReal} (h : (∃ r : ℝ, r ≠ 0 ∧ z = (r : EReal)) → IsR (d * o)) :
    o * d * sg z + z * (o * d) * (sg z * (1 - sg z)) = d * o * (sg z * (1 + z * (1 - sg z))) := by
  rw [mul_comm o d]
  generalize d * o = p at h
  have one_sub : (1 : EReal) - 1 = 0 := by rw [← EReal.coe_one, ← EReal.coe_sub, sub_self, EReal.coe_zero]
  induction z using EReal.rec with
  | bot => simp [sg_bot]
  | top => simp [sg_top, one_sub]
  | coe r =>
    obtain ⟨s, -, e⟩ := sg_coe r
    rw [e]
    by_cases hr : r = 0
    · subst hr; simp
    · obtain ⟨q, rfl⟩ := h ⟨r, hr, rfl⟩
      simp only [← EReal.coe_one, ← EReal.coe_mul, ← EReal.coe_sub, ← EReal.coe_add]
      exact congrArg _ (by ring)

/-- A cotangent pulled back through a product with weights, times what was gated, is real where the gate is real and not
zero, if each of the product's results is real or has cotangent zero. -/
theorem pull_real {ι κ : Type*} [Fintype ι] [Fintype κ] {o g : ι → EReal} {w : ι → κ → EReal} {y : κ → EReal}
    (hy : ∀ k, IsR (y k)) (h : ∀ k, y k = 0 ∨ IsR (∑ i, o i * g i * w i k)) (i : ι) (hg : IsR (g i)) (hg0 : g i ≠ 0) :
    IsR ((∑ k, y k * w i k) * o i) := by
  by_cases ho : o i = 0
  · rw [ho, mul_zero]; exact .zero
  have hw : ∀ k, y k = 0 ∨ IsR (o i * w i k) := fun k => (h k).imp_right fun h => by
    have e := h.of_sum i
    rw [mul_comm (o i), mul_assoc] at e
    exact e.of_mul hg0
  by_cases hr : IsR (o i)
  · refine (IsR.sum fun k => ?_).mul hr
    rcases hw k with e | e
    · rw [e, zero_mul]; exact .zero
    · exact (hy k).mul (e.of_mul ho)
  · have : ∀ k, y k * w i k = 0 := fun k => by
      rcases hw k with e | e
      · rw [e, zero_mul]
      · rw [mul_comm] at e
        have : w i k = 0 := by_contra fun hn => hr (e.of_mul hn)
        rw [this, mul_zero]
    simp only [this, Finset.sum_const_zero, zero_mul]
    exact .zero

/-- The error's gradient, in the two forms. -/
theorem err_grad (e : EReal) :
    Ideal.div (Ideal.ofBits .f32 0x3F000000#32) cD * (Ideal.ofBits .f32 0x40000000#32 * e) = e * cInv := by
  rw [chalf_eq, ctwo_eq, cD_eq, cInv_eq, div_real _ _ (by norm_num), ← mul_assoc, ← EReal.coe_mul, mul_comm]
  exact congrArg (fun r : ℝ => e * (r : EReal)) (by norm_num)

/-- A real factor moves out of a sum of reals. -/
theorem mul_sum_real {ι : Type*} [Fintype ι] {a : EReal} (ha : IsR a) {f : ι → EReal} (hf : ∀ i, IsR (f i)) :
    ∑ i, a * f i = a * ∑ i, f i := by
  obtain ⟨a, rfl⟩ := ha
  choose g hg using hf
  simp only [hg, ← EReal.coe_mul, ← coe_sum, Finset.mul_sum]

namespace Data

/-- The target, the last norm's gain and the last projection are real. -/
structure Finite (D : Data) : Prop where
  tg : ∀ i j, IsR (D.tg i j)
  gf : ∀ j, IsR (D.gf j)
  wo : ∀ i j, IsR (D.wo i j)

variable {D : Data}

namespace Finite

variable (H : D.Finite) (i : Fin 2048)
include H

theorem er (j : Fin 1024) : IsR (D.er i j) :=
  (((rstd_real cE_eq cD_eq (by norm_num) (D.x2 i)).2 j).mul (H.gf j)).sub (H.tg i j)
theorem ls : IsR (D.ls i) := (IsR.sum fun k => (H.er i k).mul (H.er i k)).div ⟨1024, by norm_num, cD_eq⟩
theorem dy (j : Fin 1024) : IsR (D.dy i j) := (H.er i j).mul ⟨_, cInv_eq⟩
theorem dx2 (j : Fin 1024) : IsR (D.dx2 i j) :=
  have h := rstd_real cE_eq cD_eq (by norm_num) (D.x2 i)
  h.1.mul (((H.dy i j).mul (H.gf j)).sub ((h.2 j).mul
    ((IsR.sum fun k => ((H.dy i k).mul (H.gf k)).mul (h.2 k)).div ⟨1024, by norm_num, cD_eq⟩)))
theorem dmg (j : Fin 1024) : IsR (D.dmg i j) := .sum fun k => (H.dx2 i k).mul (H.wo j k)
theorem dym (j : Fin 1024) : IsR (D.dym i j) := (H.dmg i j).mul (sg_real _)
theorem dyg (j : Fin 1024) : IsR (D.dyg i j) := (H.dmg i j).mul (sg_real _)

/-- Where the merged output is not real its cotangent is zero: either its row of the last projection is zero, or the
residual has an infinite entry and its norm's derivative is zero. -/
theorem mg (j : Fin 1024) : D.dmg i j = 0 ∨ IsR (D.mg i j) := by
  rcases row_cases cE_eq cD_eq (by norm_num) (D.x2 i) with h | e
  · by_cases hw : ∃ l, D.wo j l ≠ 0
    · obtain ⟨l, hl⟩ := hw
      have e : IsR (∑ k, D.mg i k * D.wo k l) := IsR.of_add (y := D.x i l) (by rw [add_comm]; exact h l)
      have e := e.of_sum j
      rw [mul_comm] at e
      exact .inr (e.of_mul hl)
    · left
      have hw : ∀ l, D.wo j l = 0 := fun l => by_contra fun hn => hw ⟨l, hn⟩
      unfold Data.dmg
      simp only [hw, mul_zero, Finset.sum_const_zero]
  · left
    have hr : D.rf i = 0 := by unfold Data.rf; rw [e]; rfl
    unfold Data.dmg Data.dx2
    simp only [hr, zero_mul, Finset.sum_const_zero]

theorem ym (j : Fin 1024) : D.dym i j = 0 ∨ IsR (D.ym i j) := by
  unfold Data.dym
  rcases H.mg i j with e | e
  · rw [e, zero_mul]; exact .inl rfl
  · by_cases hs : sg (D.gm i j) = 0
    · rw [hs, mul_zero]; exact .inl rfl
    · exact .inr (e.of_add.of_mul hs)

theorem yg (j : Fin 1024) : D.dyg i j = 0 ∨ IsR (D.yg i j) := by
  unfold Data.dyg
  rcases H.mg i j with e | e
  · rw [e, zero_mul]; exact .inl rfl
  · by_cases hs : sg (D.gl i j) = 0
    · rw [hs, mul_zero]; exact .inl rfl
    · unfold Data.mg at e
      rw [add_comm] at e
      exact .inr (e.of_add.of_mul hs)

omit H in
theorem gate {z : EReal} (hz : ∃ r : ℝ, r ≠ 0 ∧ z = (r : EReal)) : IsR (z * sg z) ∧ z * sg z ≠ 0 := by
  obtain ⟨r, hr, rfl⟩ := hz
  obtain ⟨s, hs, e⟩ := sg_coe r
  rw [e, ← EReal.coe_mul]
  exact ⟨⟨_, rfl⟩, fun h => mul_ne_zero hr hs (EReal.coe_eq_zero.mp h)⟩

theorem pm (j : Fin 512) (hz : ∃ r : ℝ, r ≠ 0 ∧ D.zm i j = (r : EReal)) : IsR (D.dum i j * D.om i j) :=
  pull_real (o := D.om i) (g := fun j => D.zm i j * sg (D.zm i j)) (w := D.wpm) (H.dym i) (H.ym i) j (gate hz).1 (gate hz).2

theorem pg (j : Fin 1024) (hz : ∃ r : ℝ, r ≠ 0 ∧ D.zg i j = (r : EReal)) : IsR (D.dug i j * D.on i j) :=
  pull_real (o := D.on i) (g := fun j => D.zg i j * sg (D.zg i j)) (w := D.wpg) (H.dyg i) (H.yg i) j (gate hz).1 (gate hz).2

end Finite

end Data

end Cert.OutPath

end
-- ==== Proof.Post.Ref.lean ====
/- The gated output path: the reference's twelve results, entry by entry, stage by stage. -/
module

public import proofs.«01_k».proof.Proof.Post.Equation
public import proofs.«01_k».proof.Proof.Gen.PostRefIdeal.Read
public import Idealize.ShloMosaic.Lib.Claim

@[expose] public section

set_option maxRecDepth 16384

noncomputable section

namespace Cert.PostRefIdeal.Hand

open Cert.PostRefIdeal Cert.PostRefIdeal.Read Cert.OutPath Idealize.ShloMosaic Idealize.ShloMosaic.TcCoe Idealize.SL.Sem

/-- The reference's arguments. -/
structure Args where
  x0 : (⟨S2048x512, .f32⟩ : BufTy).Contents (Elt Ideal)
  x1 : (⟨S2048x1024, .f32⟩ : BufTy).Contents (Elt Ideal)
  x2 : (⟨S2048x1024, .f32⟩ : BufTy).Contents (Elt Ideal)
  x3 : (⟨S2048x1024, .f32⟩ : BufTy).Contents (Elt Ideal)
  x4 : (⟨S2048x1024, .f32⟩ : BufTy).Contents (Elt Ideal)
  x5 : (⟨S1024x6320, .f32⟩ : BufTy).Contents (Elt Ideal)
  x6 : (⟨S256, .f32⟩ : BufTy).Contents (Elt Ideal)
  x7 : (⟨S1024, .f32⟩ : BufTy).Contents (Elt Ideal)
  x8 : (⟨S512x1024, .f32⟩ : BufTy).Contents (Elt Ideal)
  x9 : (⟨S1024x1024, .f32⟩ : BufTy).Contents (Elt Ideal)
  x10 : (⟨S1024x1024, .f32⟩ : BufTy).Contents (Elt Ideal)

/-- Their entries. -/
def Args.D (A : Args) : Data where
  om i j := A.x0 (ix2 i j)
  og i j := A.x1 (ix2 i j)
  h i j := A.x2 (ix2 i j)
  x i j := A.x3 (ix2 i j)
  tg i j := A.x4 (ix2 i j)
  wi i j := A.x5 (ix2 i j)
  gg j := A.x6 (ix1 j)
  gf j := A.x7 (ix1 j)
  wpm i j := A.x8 (ix2 i j)
  wpg i j := A.x9 (ix2 i j)
  wo i j := A.x10 (ix2 i j)

/-- The source entries that a sum over the first two of three axes gathers at `k`. -/
theorem fiber_k {n0 n1 n2 : ℕ} (h : (⟨3, ![n0, n1, n2]⟩ : Shape).ReducesTo [0, 1] ⟨1, ![n2]⟩) (k : Fin n2)
    (i : (⟨3, ![n0, n1, n2]⟩ : Shape).Idx) : h.drop i = ix1 k ↔ ∃ p : Fin n0 × Fin n1, ix3 p.1 p.2 k = i := by
  constructor
  · intro e
    have e2 : (i 2).val = k.val := congrArg Fin.val (congrFun e 0)
    refine ⟨(i 0, i 1), funext fun a => Fin.ext ?_⟩
    match a with
    | 0 => rfl
    | 1 => rfl
    | 2 => exact e2.symm
  · rintro ⟨p, rfl⟩
    funext b
    obtain rfl : b = 0 := Subsingleton.elim _ _
    rfl

/-- A sum over the first two of three axes. -/
@[pointwise] theorem sum_first_two {n0 n1 n2 : ℕ} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ i : Fin n0, ∑ a : Fin n1, v (ix3 i a k) := by
  unfold Ideal.hostReduceAdd
  refine congrArg (init + ·) ?_
  rw [← Fintype.sum_prod_type (fun p : Fin n0 × Fin n1 => v (ix3 p.1 p.2 k))]
  exact Finset.sum_filter_eq_sum_of_fiber _ (fun p : Fin n0 × Fin n1 => ix3 p.1 p.2 k)
    (fun _ _ e => Prod.ext (congrFun e 0) (congrFun e 1)) (fiber_k h k) v

variable (A : Args)

theorem r4 (i : Fin 2048) (j : Fin 512) :
    (val_main_v4 (F := Ideal) A.x2 A.x5 (ix2 i j) : EReal) = A.D.zm i j := by
  pointwise [val_main_v4, val_main_v0]
  rfl

theorem r9 (i : Fin 2048) (j : Fin 1024) :
    (val_main_v9 (F := Ideal) A.x2 A.x5 (ix2 i j) : EReal) = A.D.zg i j := by
  pointwise [val_main_v9, val_main_v0]
  rfl

theorem r10 (i : Fin 2048) (j : Fin 1024) :
    (val_main_v10 (F := Ideal) A.x2 A.x5 (ix2 i j) : EReal) = A.D.gm i j := by
  pointwise [val_main_v10, val_main_v0]
  rfl

theorem r11 (i : Fin 2048) (j : Fin 1024) :
    (val_main_v11 (F := Ideal) A.x2 A.x5 (ix2 i j) : EReal) = A.D.gl i j := by
  pointwise [val_main_v11, val_main_v0]
  rfl

theorem r12s (i : Fin 2048) (j : Fin 512) :
    (val_main_v12_2 (F := Ideal) A.x2 A.x5 (ix2 i j) : EReal) = sg (A.D.zm i j) := by
  pointwise [val_main_v12_2, val_main_call0_v4, val_main_call0_cst_0, val_main_call0_v3, val_main_call0_v2, val_main_call0_cst, val_main_call0_v1, val_main_call0_v0]
  simp only [r4]
  rfl

theorem r12d (i : Fin 2048) (j : Fin 512) :
    (val_main_v12_1 (F := Ideal) A.x2 A.x5 (ix2 i j) : EReal) = sg (A.D.zm i j) * (1 - sg (A.D.zm i j)) := by
  pointwise [val_main_v12_1, val_main_call0_v7, val_main_call0_v6, val_main_call0_cst_1]
  simp only [r12s]

theorem r12 (i : Fin 2048) (j : Fin 512) :
    (val_main_v12_0 (F := Ideal) A.x2 A.x5 (ix2 i j) : EReal) = A.D.zm i j * sg (A.D.zm i j) := by
  pointwise [val_main_v12_0]
  simp only [r4, r12s]

theorem r32s (i : Fin 2048) (j : Fin 1024) :
    (val_main_v32_2 (F := Ideal) A.x2 A.x5 (ix2 i j) : EReal) = sg (A.D.zg i j) := by
  pointwise [val_main_v32_2, val_main_call1_v4, val_main_call1_cst_0, val_main_call1_v3, val_main_call1_v2, val_main_call1_cst, val_main_call1_v1, val_main_call1_v0]
  simp only [r9]
  rfl

theorem r32d (i : Fin 2048) (j : Fin 1024) :
    (val_main_v32_1 (F := Ideal) A.x2 A.x5 (ix2 i j) : EReal) = sg (A.D.zg i j) * (1 - sg (A.D.zg i j)) := by
  pointwise [val_main_v32_1, val_main_call1_v7, val_main_call1_v6, val_main_call1_cst_1]
  simp only [r32s]

theorem r32 (i : Fin 2048) (j : Fin 1024) :
    (val_main_v32_0 (F := Ideal) A.x2 A.x5 (ix2 i j) : EReal) = A.D.zg i j * sg (A.D.zg i j) := by
  pointwise [val_main_v32_0]
  simp only [r9, r32s]

theorem r13 (i : Fin 2048) (j : Fin 512) :
    (val_main_v13 (F := Ideal) A.x0 A.x2 A.x5 (ix2 i j) : EReal) = A.D.um i j := by
  pointwise [val_main_v13]
  simp only [r12]
  rfl

theorem r14 (i : Fin 2048) (a : Fin 4) (k : Fin 256) :
    (val_main_v14 (F := Ideal) A.x1 (ix3 i a k) : EReal) = A.D.og i (col a k) := by
  pointwise [val_main_v14]
  rfl

theorem r21 (i : Fin 2048) (a : Fin 4) :
    (val_main_v21 (F := Ideal) A.x1 (ix3 i a 0) : EReal) = Ideal.div (∑ k, A.D.og i (col a k) * A.D.og i (col a k)) c256 + cE := by
  pointwise [val_main_v21, val_main_v20, val_main_v19, val_main_v18, val_main_v17, val_main_v16, val_main_v15, val_main_cst, val_main_cst_0, val_main_cst_1]
  simp only [r14]
  rfl

theorem r22 (i : Fin 2048) (a : Fin 4) :
    (val_main_v22 (F := Ideal) A.x1 (ix3 i a 0) : EReal) = A.D.rs i a := by
  pointwise [val_main_v22]
  simp only [r21]
  rfl

theorem r27 (i : Fin 2048) (a : Fin 4) (k : Fin 256) :
    (val_main_v27 (F := Ideal) A.x1 (ix3 i a k) : EReal) = A.D.xh i (col a k) := by
  pointwise [val_main_v27, val_main_v26]
  simp only [r14, r22]
  unfold Data.xh; rw [hd_col]

theorem r30 (i : Fin 2048) (a : Fin 4) (k : Fin 256) :
    (val_main_v30 (F := Ideal) A.x1 A.x6 (ix3 i a k) : EReal) = A.D.on i (col a k) := by
  pointwise [val_main_v30, val_main_v29, val_main_v28]
  simp only [r27]
  unfold Data.on; rw [lo_col]; rfl

theorem r31 (i : Fin 2048) (j : Fin 1024) :
    (val_main_v31 (F := Ideal) A.x1 A.x6 (ix2 i j) : EReal) = A.D.on i j := by
  pointwise [val_main_v31]
  simp only [r30]
  exact congrArg (A.D.on i) (col_hd_lo j)

theorem r33 (i : Fin 2048) (j : Fin 1024) :
    (val_main_v33 (F := Ideal) A.x1 A.x2 A.x5 A.x6 (ix2 i j) : EReal) = A.D.ug i j := by
  pointwise [val_main_v33]
  simp only [r31, r32]
  rfl

theorem r34 (i : Fin 2048) (j : Fin 1024) :
    (val_main_v34 (F := Ideal) A.x0 A.x2 A.x5 A.x8 (ix2 i j) : EReal) = A.D.ym i j := by
  pointwise [val_main_v34]
  simp only [r13]
  rfl

theorem r35 (i : Fin 2048) (j : Fin 1024) :
    (val_main_v35 (F := Ideal) A.x1 A.x2 A.x5 A.x6 A.x9 (ix2 i j) : EReal) = A.D.yg i j := by
  pointwise [val_main_v35]
  simp only [r33]
  rfl

theorem r41 (i : Fin 2048) (j : Fin 1024) :
    (val_main_v41 (F := Ideal) A.x2 A.x5 (ix2 i j) : EReal) = sg (A.D.gm i j) := by
  pointwise [val_main_v41, val_main_v40, val_main_v39, val_main_v38, val_main_v37, val_main_v36, val_main_cst_3, val_main_cst_4]
  simp only [r10]
  rfl

theorem r44 (i : Fin 2048) (j : Fin 1024) :
    (val_main_v44 (F := Ideal) A.x2 A.x5 (ix2 i j) : EReal) = sg (A.D.gm i j) * (1 - sg (A.D.gm i j)) := by
  pointwise [val_main_v44, val_main_v43, val_main_v42, val_main_cst_5]
  simp only [r41]

theorem r51 (i : Fin 2048) (j : Fin 1024) :
    (val_main_v51 (F := Ideal) A.x2 A.x5 (ix2 i j) : EReal) = sg (A.D.gl i j) := by
  pointwise [val_main_v51, val_main_v50, val_main_v49, val_main_v48, val_main_v47, val_main_v46, val_main_cst_6, val_main_cst_7]
  simp only [r11]
  rfl

theorem r54 (i : Fin 2048) (j : Fin 1024) :
    (val_main_v54 (F := Ideal) A.x2 A.x5 (ix2 i j) : EReal) = sg (A.D.gl i j) * (1 - sg (A.D.gl i j)) := by
  pointwise [val_main_v54, val_main_v53, val_main_v52, val_main_cst_8]
  simp only [r51]

theorem r56 (i : Fin 2048) (j : Fin 1024) :
    (val_main_v56 (F := Ideal) A.x0 A.x1 A.x2 A.x5 A.x6 A.x8 A.x9 (ix2 i j) : EReal) = A.D.mg i j := by
  pointwise [val_main_v56, val_main_v55, val_main_v45]
  simp only [r41, r51, r34, r35]
  rfl

theorem r58 (i : Fin 2048) (j : Fin 1024) :
    (val_main_v58 (F := Ideal) A.x0 A.x1 A.x2 A.x3 A.x5 A.x6 A.x8 A.x9 A.x10 (ix2 i j) : EReal) = A.D.x2 i j := by
  pointwise [val_main_v58, val_main_v57]
  simp only [r56]
  rfl

theorem r65 (i : Fin 2048) :
    (val_main_v65 (F := Ideal) A.x0 A.x1 A.x2 A.x3 A.x5 A.x6 A.x8 A.x9 A.x10 (ix2 i 0) : EReal) = Ideal.div (∑ k, A.D.x2 i k * A.D.x2 i k) cD + cE := by
  pointwise [val_main_v65, val_main_v64, val_main_v63, val_main_v62, val_main_v61, val_main_v60, val_main_v59, val_main_cst_9, val_main_cst_10, val_main_cst_11]
  simp only [r58]
  rfl

theorem r66 (i : Fin 2048) :
    (val_main_v66 (F := Ideal) A.x0 A.x1 A.x2 A.x3 A.x5 A.x6 A.x8 A.x9 A.x10 (ix2 i 0) : EReal) = A.D.rf i := by
  pointwise [val_main_v66]
  simp only [r65]
  rfl

theorem r71 (i : Fin 2048) (j : Fin 1024) :
    (val_main_v71 (F := Ideal) A.x0 A.x1 A.x2 A.x3 A.x5 A.x6 A.x8 A.x9 A.x10 (ix2 i j) : EReal) = A.D.xf i j := by
  pointwise [val_main_v71, val_main_v70]
  simp only [r58, r66]
  rfl

theorem r75 (i : Fin 2048) (j : Fin 1024) :
    (val_main_v75 (F := Ideal) A.x0 A.x1 A.x2 A.x3 A.x4 A.x5 A.x6 A.x7 A.x8 A.x9 A.x10 (ix2 i j) : EReal) = A.D.er i j := by
  pointwise [val_main_v75, val_main_v74, val_main_v73, val_main_v72]
  simp only [r71]
  rfl

theorem r83 (i : S_.Idx) :
    (val_main_v83 (F := Ideal) A.x0 A.x1 A.x2 A.x3 A.x4 A.x5 A.x6 A.x7 A.x8 A.x9 A.x10 i : EReal) = Ideal.ofBits .f32 0x3F000000#32 * ∑ i, A.D.ls i := by
  pointwise [val_main_v83, val_main_v82, val_main_v81, val_main_v80, val_main_v79, val_main_v76, val_main_cst_17, val_main_cst_16, val_main_cst_15, val_main_cst_14]
  simp only [r75]
  rfl

theorem r89 (i : Fin 2048) (j : Fin 1024) :
    (val_main_v89 (F := Ideal) A.x0 A.x1 A.x2 A.x3 A.x4 A.x5 A.x6 A.x7 A.x8 A.x9 A.x10 (ix2 i j) : EReal) = A.D.dy i j := by
  pointwise [val_main_v89, val_main_v88, val_main_v87, val_main_v86, val_main_v85, val_main_v84, val_main_v78, val_main_v77, val_main_cst_13, val_main_cst_18, val_main_cst_19, val_main_cst_20]
  simp only [r75]
  exact err_grad _

theorem r94 (i : Fin 2048) (j : Fin 1024) :
    (val_main_v94 (F := Ideal) A.x0 A.x1 A.x2 A.x3 A.x4 A.x5 A.x6 A.x7 A.x8 A.x9 A.x10 (ix2 i j) : EReal) = A.D.dy i j * A.D.gf j := by
  pointwise [val_main_v94, val_main_v93, val_main_v72]
  simp only [r89]
  rfl

theorem r109 (H : A.D.Finite) (i : Fin 2048) (j : Fin 1024) :
    (val_main_v109 (F := Ideal) A.x0 A.x1 A.x2 A.x3 A.x4 A.x5 A.x6 A.x7 A.x8 A.x9 A.x10 (ix2 i j) : EReal) = A.D.dx2 i j := by
  pointwise [val_main_v109, val_main_v108, val_main_v107, val_main_v106, val_main_v105, val_main_v104, val_main_v103, val_main_v102, val_main_v101, val_main_v100, val_main_v99, val_main_v98, val_main_v97, val_main_v96, val_main_v69, val_main_v68, val_main_v67, val_main_cst_12, val_main_cst_22, val_main_cst_23, val_main_cst_24, val_main_cst_25]
  simp only [Fin.default_eq_zero, Finset.univ_unique, Finset.sum_singleton, r58, r94, r66, r65]
  exact (Cert.Real.norm_grad cE_eq cD_eq (by norm_num) (A.D.x2 i) (fun k => A.D.dy i k * A.D.gf k) _ rfl j).symm

theorem r110 (H : A.D.Finite) (i : Fin 2048) (j : Fin 1024) :
    (val_main_v110 (F := Ideal) A.x0 A.x1 A.x2 A.x3 A.x4 A.x5 A.x6 A.x7 A.x8 A.x9 A.x10 (ix2 i j) : EReal) = A.D.dmg i j := by
  pointwise [val_main_v110]
  simp only [r109 A H]
  rfl

theorem r111 (H : A.D.Finite) (i : Fin 2048) (j : Fin 1024) :
    (val_main_v111 (F := Ideal) A.x0 A.x1 A.x2 A.x3 A.x4 A.x5 A.x6 A.x7 A.x8 A.x9 A.x10 (ix2 i j) : EReal) = A.D.dyg i j := by
  pointwise [val_main_v111]
  simp only [r51, r110 A H]
  exact mul_comm _ _

theorem r113 (H : A.D.Finite) (i : Fin 2048) (j : Fin 1024) :
    (val_main_v113 (F := Ideal) A.x0 A.x1 A.x2 A.x3 A.x4 A.x5 A.x6 A.x7 A.x8 A.x9 A.x10 (ix2 i j) : EReal) = A.D.dgl i j := by
  pointwise [val_main_v113, val_main_v112]
  simp only [r54, r110 A H, r35, ← mul_assoc]
  rfl

theorem r114 (H : A.D.Finite) (i : Fin 2048) (j : Fin 1024) :
    (val_main_v114 (F := Ideal) A.x0 A.x1 A.x2 A.x3 A.x4 A.x5 A.x6 A.x7 A.x8 A.x9 A.x10 (ix2 i j) : EReal) = A.D.dym i j := by
  pointwise [val_main_v114]
  simp only [r41, r110 A H]
  exact mul_comm _ _

theorem r116 (H : A.D.Finite) (i : Fin 2048) (j : Fin 1024) :
    (val_main_v116 (F := Ideal) A.x0 A.x1 A.x2 A.x3 A.x4 A.x5 A.x6 A.x7 A.x8 A.x9 A.x10 (ix2 i j) : EReal) = A.D.dgm i j := by
  pointwise [val_main_v116, val_main_v115]
  simp only [r44, r110 A H, r34, ← mul_assoc]
  rfl

theorem r117 (H : A.D.Finite) (i : Fin 2048) (j : Fin 512) :
    (val_main_v117 (F := Ideal) A.x0 A.x1 A.x2 A.x3 A.x4 A.x5 A.x6 A.x7 A.x8 A.x9 A.x10 (ix2 i j) : EReal) = A.D.dum i j := by
  pointwise [val_main_v117]
  simp only [r114 A H]
  rfl

theorem r119 (H : A.D.Finite) (i : Fin 2048) (j : Fin 512) :
    (val_main_v119 (F := Ideal) A.x0 A.x1 A.x2 A.x3 A.x4 A.x5 A.x6 A.x7 A.x8 A.x9 A.x10 (ix2 i j) : EReal) = A.D.dom i j := by
  pointwise [val_main_v119]
  simp only [r117 A H, r12]
  rfl

theorem r120 (H : A.D.Finite) (i : Fin 2048) (j : Fin 512) :
    (val_main_v120 (F := Ideal) A.x0 A.x1 A.x2 A.x3 A.x4 A.x5 A.x6 A.x7 A.x8 A.x9 A.x10 (ix2 i j) : EReal) = A.D.dzm i j := by
  pointwise [val_main_v120, val_main_v118, val_main_call2_v2, val_main_call2_v1, val_main_call2_v0]
  simp only [r117 A H, r4, r12s, r12d]
  exact silu_grad (H.pm i j)

theorem r121 (H : A.D.Finite) (i : Fin 2048) (j : Fin 1024) :
    (val_main_v121 (F := Ideal) A.x0 A.x1 A.x2 A.x3 A.x4 A.x5 A.x6 A.x7 A.x8 A.x9 A.x10 (ix2 i j) : EReal) = A.D.dug i j := by
  pointwise [val_main_v121]
  simp only [r111 A H]
  rfl

theorem r123 (H : A.D.Finite) (i : Fin 2048) (j : Fin 1024) :
    (val_main_v123 (F := Ideal) A.x0 A.x1 A.x2 A.x3 A.x4 A.x5 A.x6 A.x7 A.x8 A.x9 A.x10 (ix2 i j) : EReal) = A.D.don i j := by
  pointwise [val_main_v123]
  simp only [r121 A H, r32]
  rfl

theorem r124 (H : A.D.Finite) (i : Fin 2048) (j : Fin 1024) :
    (val_main_v124 (F := Ideal) A.x0 A.x1 A.x2 A.x3 A.x4 A.x5 A.x6 A.x7 A.x8 A.x9 A.x10 (ix2 i j) : EReal) = A.D.dzg i j := by
  pointwise [val_main_v124, val_main_v122, val_main_call3_v2, val_main_call3_v1, val_main_call3_v0]
  simp only [r121 A H, r31, r9, r32s, r32d]
  exact silu_grad (H.pg i j)

theorem r125 (H : A.D.Finite) (i : Fin 2048) (a : Fin 4) (k : Fin 256) :
    (val_main_v125 (F := Ideal) A.x0 A.x1 A.x2 A.x3 A.x4 A.x5 A.x6 A.x7 A.x8 A.x9 A.x10 (ix3 i a k) : EReal) = A.D.don i (col a k) := by
  pointwise [val_main_v125]
  simp only [r123 A H]
  rfl

theorem r130 (H : A.D.Finite) (i : Fin 2048) (a : Fin 4) (k : Fin 256) :
    (val_main_v130 (F := Ideal) A.x0 A.x1 A.x2 A.x3 A.x4 A.x5 A.x6 A.x7 A.x8 A.x9 A.x10 (ix3 i a k) : EReal) = A.D.don i (col a k) * A.D.gg k := by
  pointwise [val_main_v130, val_main_v129, val_main_v28]
  simp only [r125 A H]
  rfl

theorem r145 (H : A.D.Finite) (i : Fin 2048) (a : Fin 4) (k : Fin 256) :
    (val_main_v145 (F := Ideal) A.x0 A.x1 A.x2 A.x3 A.x4 A.x5 A.x6 A.x7 A.x8 A.x9 A.x10 (ix3 i a k) : EReal) = A.D.dog i a k := by
  pointwise [val_main_v145, val_main_v144, val_main_v143, val_main_v142, val_main_v141, val_main_v140, val_main_v139, val_main_v138, val_main_v137, val_main_v136, val_main_v135, val_main_v134, val_main_v133, val_main_v132, val_main_v25, val_main_v24, val_main_v23, val_main_cst_2, val_main_cst_28, val_main_cst_29, val_main_cst_30]
  simp only [Fin.default_eq_zero, Finset.univ_unique, Finset.sum_singleton, r14, r130 A H, r22, r21]
  unfold Data.dog Data.xh
  simp only [hd_col]
  exact (Cert.Real.norm_grad cE_eq c256_eq (by norm_num) (fun k => A.D.og i (col a k)) (fun k => A.D.don i (col a k) * A.D.gg k) _ rfl k).symm

theorem r148 (H : A.D.Finite) (i : Fin 2048) (j : Fin 1024) :
    (val_main_v148 (F := Ideal) A.x0 A.x1 A.x2 A.x3 A.x4 A.x5 A.x6 A.x7 A.x8 A.x9 A.x10 (ix2 i j) : EReal) = A.D.dog i (hd j) (lo j) := by
  pointwise [val_main_v148, val_main_v146]
  simp only [r145 A H]
  rfl

theorem r149 (H : A.D.Finite) (i : Fin 2048) (n : Fin 3584) :
    (val_main_v149 (F := Ideal) A.x0 A.x1 A.x2 A.x3 A.x4 A.x5 A.x6 A.x7 A.x8 A.x9 A.x10 (ix2 i n) : EReal) = A.D.dgates i n := by
  pointwise [val_main_v149, val_main_v147]
  simp only [r124 A H, r116 A H, r113 A H, r120 A H]
  have hn := n.isLt
  unfold Data.dgates
  by_cases h1 : n.val < 1024
  · rw [dif_pos h1, dif_pos h1]
  · rw [dif_neg h1, dif_neg h1]
    by_cases h2 : n.val < 2048
    · rw [dif_pos (by omega), dif_pos h2]
    · rw [dif_neg (by omega), dif_neg h2]
      by_cases h3 : n.val < 3072
      · rw [dif_pos (by omega), dif_pos h3]
        exact congrArg (A.D.dgl i) (Fin.ext (by show n.val - 1024 - 1024 = n.val - 2048; omega))
      · rw [dif_neg (by omega), dif_neg h3]
        exact congrArg (A.D.dzm i) (Fin.ext (by show n.val - 1024 - 1024 - 1024 = n.val - 3072; omega))

theorem r150 (i : Fin 2048) (j : Fin 1024) :
    (val_main_v150 (F := Ideal) A.x0 A.x1 A.x2 A.x5 A.x6 A.x8 A.x9 (ix2 i j) : EReal) = A.D.mg i j := by
  pointwise [val_main_v150]
  simp only [r56]

theorem r151 (i : Fin 2048) (j : Fin 512) :
    (val_main_v151 (F := Ideal) A.x0 A.x2 A.x5 (ix2 i j) : EReal) = A.D.um i j := by
  pointwise [val_main_v151]
  simp only [r13]

theorem r152 (i : Fin 2048) (j : Fin 1024) :
    (val_main_v152 (F := Ideal) A.x1 A.x2 A.x5 A.x6 (ix2 i j) : EReal) = A.D.ug i j := by
  pointwise [val_main_v152]
  simp only [r33]

theorem r153 (H : A.D.Finite) (i : Fin 2048) (j : Fin 1024) :
    (val_main_v153 (F := Ideal) A.x0 A.x1 A.x2 A.x3 A.x4 A.x5 A.x6 A.x7 A.x8 A.x9 A.x10 (ix2 i j) : EReal) = A.D.dym i j := by
  pointwise [val_main_v153]
  simp only [r114 A H]

theorem r154 (H : A.D.Finite) (i : Fin 2048) (j : Fin 1024) :
    (val_main_v154 (F := Ideal) A.x0 A.x1 A.x2 A.x3 A.x4 A.x5 A.x6 A.x7 A.x8 A.x9 A.x10 (ix2 i j) : EReal) = A.D.dyg i j := by
  pointwise [val_main_v154]
  simp only [r111 A H]

theorem r155 (l : Fin 128) :
    (val_main_v155 (F := Ideal) A.x0 A.x1 A.x2 A.x3 A.x4 A.x5 A.x6 A.x7 A.x8 A.x9 A.x10 (ix2 0 l) : EReal) = Ideal.ofBits .f32 0x3F000000#32 * ∑ i, A.D.ls i := by
  pointwise [val_main_v155]
  simp only [r83]

theorem r156 (j : Fin 1024) :
    (val_main_v156 (F := Ideal) A.x0 A.x1 A.x2 A.x3 A.x4 A.x5 A.x6 A.x7 A.x8 A.x9 A.x10 (ix2 0 j) : EReal) = ∑ i, A.D.dy i j * A.D.xf i j := by
  pointwise [val_main_v156, val_main_v95, val_main_v92, val_main_v91, val_main_v90, val_main_cst_21, val_main_cst_22]
  simp only [r71, r89, Fin.default_eq_zero, Finset.univ_unique, Finset.sum_singleton]
  exact Finset.sum_congr rfl fun i _ => mul_comm _ _

theorem r157 (H : A.D.Finite) (k : Fin 256) :
    (val_main_v157 (F := Ideal) A.x0 A.x1 A.x2 A.x3 A.x4 A.x5 A.x6 A.x7 A.x8 A.x9 A.x10 (ix2 0 k) : EReal) = ∑ i, ∑ a, A.D.don i (col a k) * A.D.xh i (col a k) := by
  pointwise [val_main_v157, val_main_v131, val_main_v128, val_main_v127, val_main_v126, val_main_cst_26, val_main_cst_27]
  simp only [Fin.default_eq_zero, Finset.univ_unique, Finset.sum_singleton, r27, r125 A H]
  exact Finset.sum_congr rfl fun i _ => Finset.sum_congr rfl fun a _ => mul_comm _ _

end Cert.PostRefIdeal.Hand

end
-- ==== Proof.Post.Claim.lean ====
/- The gated output path: the two runs end with the same twelve arrays. -/
module

public import proofs.«01_k».proof.Proof.Post.Arrays
public import proofs.«01_k».proof.Proof.Post.Ref
public import proofs.«01_k».proof.Proof.Gen.Post
public import proofs.«01_k».proof.Proof.Gen.PostIdeal.Frame
public import proofs.«01_k».proof.Proof.Gen.PostRefIdeal.Run
public import proofs.«01_k».proof.Proof.Gen.Pre_finite_post
public import proofs.«01_k».proof.Defs

@[expose] public section

set_option maxRecDepth 16384

noncomputable section

namespace Cert.PostIdeal.Hand

open Cert.PostIdeal Cert.PostIdeal.Gen Cert.OutPath Idealize.ShloMosaic Idealize.ShloMosaic.TcCoe Idealize.SL.Sem
open Cert.PostRefIdeal.Hand

theorem bits_frame : Cert.quiescent_Post := fun m ρ _ => Eq.mp (by sl_kernel_rfl) (frame (F := Bits) m ρ)

theorem ideal_frame : Cert.quiescent_PostIdeal := fun m ρ _ => frame m ρ

/-- The reference's frame, from its run. -/
theorem ref_frame : Cert.quiescent_PostRefIdeal := fun m ρ _ =>
  (θ_run _ _ _).mono (fun r h => ⟨fun c => (h c).2.2.2.2.2.2.2.2.2.2.2.2, sem_eq_zero_of_no_sems (by decide) r.2⟩)
    (Cert.PostRefIdeal.Value.run m ρ)

variable (m : (ℓ : Loc nD τ sig) → Buf (Elt Ideal) ℓ)

/-- The arguments, as the reference takes them. -/
def args (c : Dev nD) : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)

/-- The precondition, entry by entry. -/
theorem finite (h : Cert.Pre_PostIdeal_finite_post m) (c : Dev nD) : (dat m c).Finite := by
  obtain ⟨h4, h7, h10⟩ := h c
  constructor
  · intro i j; have e := congrFun h4 (ix2 i j); pointwise [Cert.Pre_finite_post.fn] at e; exact Cert.Real.real_of_finite e
  · intro j; have e := congrFun h7 (ix1 j); pointwise [Cert.Pre_finite_post.fn] at e; exact Cert.Real.real_of_finite e
  · intro i j; have e := congrFun h10 (ix2 i j); pointwise [Cert.Pre_finite_post.fn] at e; exact Cert.Real.real_of_finite e

/-- The blocks' halved sums add up to half the sum over every row. -/
theorem loss_eq (c : Dev nD) (H : (dat m c).Finite) :
    ∑ t : Fin cfg0.N, Ideal.ofBits .f32 0x3F000000#32 * ∑ r : Fin 256, (dat m c).ls (row t r)
      = Ideal.ofBits .f32 0x3F000000#32 * ∑ i : Fin 2048, (dat m c).ls i :=
  (mul_sum_real ⟨_, chalf_eq⟩ fun t => Cert.Real.IsR.sum fun r => H.ls (row t r)).trans
    (congrArg (fun s => Ideal.ofBits .f32 0x3F000000#32 * s)
      (Fin.sum_mul_add_fin cfg0.N 256 (fun i : Fin 2048 => (dat m c).ls i) (by rw [show cfg0.N = 8 from N_0])))

/-! Each of the reference's results is the array the kernel leaves. -/

theorem eq_dx2 (c : Dev nD) (H : (dat m c).Finite) :
    Cert.PostRefIdeal.Read.val_main_v109 (F := Ideal)
        (args m c).x0 (args m c).x1 (args m c).x2 (args m c).x3 (args m c).x4 (args m c).x5
        (args m c).x6 (args m c).x7 (args m c).x8 (args m c).x9 (args m c).x10
      = (dats m 0 c).arrAt 11 cfg0.N := by
  refine Eq.trans ?_ (arr_dx2 m c).symm
  funext i
  idx_vars i
  exact r109 (args m c) H i0 i1

theorem eq_dom (c : Dev nD) (H : (dat m c).Finite) :
    Cert.PostRefIdeal.Read.val_main_v119 (F := Ideal)
        (args m c).x0 (args m c).x1 (args m c).x2 (args m c).x3 (args m c).x4 (args m c).x5
        (args m c).x6 (args m c).x7 (args m c).x8 (args m c).x9 (args m c).x10
      = (dats m 0 c).arrAt 12 cfg0.N := by
  refine Eq.trans ?_ (arr_dom m c).symm
  funext i
  idx_vars i
  exact r119 (args m c) H i0 i1

theorem eq_dog (c : Dev nD) (H : (dat m c).Finite) :
    Cert.PostRefIdeal.Read.val_main_v148 (F := Ideal)
        (args m c).x0 (args m c).x1 (args m c).x2 (args m c).x3 (args m c).x4 (args m c).x5
        (args m c).x6 (args m c).x7 (args m c).x8 (args m c).x9 (args m c).x10
      = (dats m 0 c).arrAt 13 cfg0.N := by
  refine Eq.trans ?_ (arr_dog m c).symm
  funext i
  idx_vars i
  exact r148 (args m c) H i0 i1

theorem eq_dgates (c : Dev nD) (H : (dat m c).Finite) :
    Cert.PostRefIdeal.Read.val_main_v149 (F := Ideal)
        (args m c).x0 (args m c).x1 (args m c).x2 (args m c).x3 (args m c).x4 (args m c).x5
        (args m c).x6 (args m c).x7 (args m c).x8 (args m c).x9 (args m c).x10
      = (dats m 0 c).arrAt 14 cfg0.N := by
  refine Eq.trans ?_ (arr_dgates m c).symm
  funext i
  idx_vars i
  exact r149 (args m c) H i0 i1

theorem eq_mg (c : Dev nD) :
    Cert.PostRefIdeal.Read.val_main_v150 (F := Ideal)
        (args m c).x0 (args m c).x1 (args m c).x2 (args m c).x5 (args m c).x6 (args m c).x8
        (args m c).x9
      = (dats m 0 c).arrAt 15 cfg0.N := by
  refine Eq.trans ?_ (arr_mg m c).symm
  funext i
  idx_vars i
  exact r150 (args m c) i0 i1

theorem eq_um (c : Dev nD) :
    Cert.PostRefIdeal.Read.val_main_v151 (F := Ideal)
        (args m c).x0 (args m c).x2 (args m c).x5
      = (dats m 0 c).arrAt 16 cfg0.N := by
  refine Eq.trans ?_ (arr_um m c).symm
  funext i
  idx_vars i
  exact r151 (args m c) i0 i1

theorem eq_ug (c : Dev nD) :
    Cert.PostRefIdeal.Read.val_main_v152 (F := Ideal)
        (args m c).x1 (args m c).x2 (args m c).x5 (args m c).x6
      = (dats m 0 c).arrAt 17 cfg0.N := by
  refine Eq.trans ?_ (arr_ug m c).symm
  funext i
  idx_vars i
  exact r152 (args m c) i0 i1

theorem eq_dym (c : Dev nD) (H : (dat m c).Finite) :
    Cert.PostRefIdeal.Read.val_main_v153 (F := Ideal)
        (args m c).x0 (args m c).x1 (args m c).x2 (args m c).x3 (args m c).x4 (args m c).x5
        (args m c).x6 (args m c).x7 (args m c).x8 (args m c).x9 (args m c).x10
      = (dats m 0 c).arrAt 18 cfg0.N := by
  refine Eq.trans ?_ (arr_dym m c).symm
  funext i
  idx_vars i
  exact r153 (args m c) H i0 i1

theorem eq_dyg (c : Dev nD) (H : (dat m c).Finite) :
    Cert.PostRefIdeal.Read.val_main_v154 (F := Ideal)
        (args m c).x0 (args m c).x1 (args m c).x2 (args m c).x3 (args m c).x4 (args m c).x5
        (args m c).x6 (args m c).x7 (args m c).x8 (args m c).x9 (args m c).x10
      = (dats m 0 c).arrAt 19 cfg0.N := by
  refine Eq.trans ?_ (arr_dyg m c).symm
  funext i
  idx_vars i
  exact r154 (args m c) H i0 i1

theorem eq_ls (c : Dev nD) (H : (dat m c).Finite) :
    Cert.PostRefIdeal.Read.val_main_v155 (F := Ideal)
        (args m c).x0 (args m c).x1 (args m c).x2 (args m c).x3 (args m c).x4 (args m c).x5
        (args m c).x6 (args m c).x7 (args m c).x8 (args m c).x9 (args m c).x10
      = (dats m 0 c).arrAt 20 cfg0.N := by
  refine Eq.trans ?_ (arr_ls m c).symm
  funext i
  idx_vars i
  obtain rfl : i0 = 0 := Subsingleton.elim _ _
  exact (r155 (args m c) i1).trans (loss_eq m c H).symm

theorem eq_gf (c : Dev nD) :
    Cert.PostRefIdeal.Read.val_main_v156 (F := Ideal)
        (args m c).x0 (args m c).x1 (args m c).x2 (args m c).x3 (args m c).x4 (args m c).x5
        (args m c).x6 (args m c).x7 (args m c).x8 (args m c).x9 (args m c).x10
      = (dats m 0 c).arrAt 21 cfg0.N := by
  refine Eq.trans ?_ (arr_gf m c).symm
  funext i
  idx_vars i
  obtain rfl : i0 = 0 := Subsingleton.elim _ _
  exact r156 (args m c) i1

theorem eq_gg (c : Dev nD) (H : (dat m c).Finite) :
    Cert.PostRefIdeal.Read.val_main_v157 (F := Ideal)
        (args m c).x0 (args m c).x1 (args m c).x2 (args m c).x3 (args m c).x4 (args m c).x5
        (args m c).x6 (args m c).x7 (args m c).x8 (args m c).x9 (args m c).x10
      = (dats m 0 c).arrAt 22 cfg0.N := by
  refine Eq.trans ?_ (arr_gg m c).symm
  funext i
  idx_vars i
  obtain rfl : i0 = 0 := Subsingleton.elim _ _
  exact r157 (args m c) H i1

set_option maxHeartbeats 1000000 in
/-- The two runs end with the same twelve arrays. -/
theorem algebraic : Cert.algebraic_PostIdeal_PostRefIdeal_pre_finite_post := by
  intro m g m' g' hpre hag
  refine ⟨fun c => (dats m 0 c).arrAt 11 cfg0.N,
    fun c => (dats m 0 c).arrAt 12 cfg0.N,
    fun c => (dats m 0 c).arrAt 13 cfg0.N,
    fun c => (dats m 0 c).arrAt 14 cfg0.N,
    fun c => (dats m 0 c).arrAt 15 cfg0.N,
    fun c => (dats m 0 c).arrAt 16 cfg0.N,
    fun c => (dats m 0 c).arrAt 17 cfg0.N,
    fun c => (dats m 0 c).arrAt 18 cfg0.N,
    fun c => (dats m 0 c).arrAt 19 cfg0.N,
    fun c => (dats m 0 c).arrAt 20 cfg0.N,
    fun c => (dats m 0 c).arrAt 21 cfg0.N,
    fun c => (dats m 0 c).arrAt 22 cfg0.N, ?_, ?_⟩
  · exact Cert.PostIdeal.Value.run_blocks m g
  · refine (θ_run _ _ _).mono (fun r h c => ?_) (Cert.PostRefIdeal.Value.run m' g')
    obtain ⟨h0, h1, h2, h3, h4, h5, h6, h7, h8, h9, h10, h11, hr⟩ := h c
    obtain ⟨a0, a1, a2, a3, a4, a5, a6, a7, a8, a9, a10⟩ := hag c
    replace a0 : StableHlo.launchContents m' c (Proc.tc.devRef Cert.PostRefIdeal.main_arg0) = (args m c).x0 := a0
    replace a1 : StableHlo.launchContents m' c (Proc.tc.devRef Cert.PostRefIdeal.main_arg1) = (args m c).x1 := a1
    replace a2 : StableHlo.launchContents m' c (Proc.tc.devRef Cert.PostRefIdeal.main_arg2) = (args m c).x2 := a2
    replace a3 : StableHlo.launchContents m' c (Proc.tc.devRef Cert.PostRefIdeal.main_arg3) = (args m c).x3 := a3
    replace a4 : StableHlo.launchContents m' c (Proc.tc.devRef Cert.PostRefIdeal.main_arg4) = (args m c).x4 := a4
    replace a5 : StableHlo.launchContents m' c (Proc.tc.devRef Cert.PostRefIdeal.main_arg5) = (args m c).x5 := a5
    replace a6 : StableHlo.launchContents m' c (Proc.tc.devRef Cert.PostRefIdeal.main_arg6) = (args m c).x6 := a6
    replace a7 : StableHlo.launchContents m' c (Proc.tc.devRef Cert.PostRefIdeal.main_arg7) = (args m c).x7 := a7
    replace a8 : StableHlo.launchContents m' c (Proc.tc.devRef Cert.PostRefIdeal.main_arg8) = (args m c).x8 := a8
    replace a9 : StableHlo.launchContents m' c (Proc.tc.devRef Cert.PostRefIdeal.main_arg9) = (args m c).x9 := a9
    replace a10 : StableHlo.launchContents m' c (Proc.tc.devRef Cert.PostRefIdeal.main_arg10) = (args m c).x10 := a10
    have H := finite m hpre c
    refine ⟨h0.trans ?_, h1.trans ?_, h2.trans ?_, h3.trans ?_, h4.trans ?_, h5.trans ?_, h6.trans ?_, h7.trans ?_, h8.trans ?_, h9.trans ?_, h10.trans ?_, h11.trans ?_, hr⟩
    · rw [Cert.PostRefIdeal.Read.val_main_v109_eq, a0, a1, a2, a3, a4, a5, a6, a7, a8, a9, a10]
      exact eq_dx2 m c H
    · rw [Cert.PostRefIdeal.Read.val_main_v119_eq, a0, a1, a2, a3, a4, a5, a6, a7, a8, a9, a10]
      exact eq_dom m c H
    · rw [Cert.PostRefIdeal.Read.val_main_v148_eq, a0, a1, a2, a3, a4, a5, a6, a7, a8, a9, a10]
      exact eq_dog m c H
    · rw [Cert.PostRefIdeal.Read.val_main_v149_eq, a0, a1, a2, a3, a4, a5, a6, a7, a8, a9, a10]
      exact eq_dgates m c H
    · rw [Cert.PostRefIdeal.Read.val_main_v150_eq, a0, a1, a2, a5, a6, a8, a9]
      exact eq_mg m c
    · rw [Cert.PostRefIdeal.Read.val_main_v151_eq, a0, a2, a5]
      exact eq_um m c
    · rw [Cert.PostRefIdeal.Read.val_main_v152_eq, a1, a2, a5, a6]
      exact eq_ug m c
    · rw [Cert.PostRefIdeal.Read.val_main_v153_eq, a0, a1, a2, a3, a4, a5, a6, a7, a8, a9, a10]
      exact eq_dym m c H
    · rw [Cert.PostRefIdeal.Read.val_main_v154_eq, a0, a1, a2, a3, a4, a5, a6, a7, a8, a9, a10]
      exact eq_dyg m c H
    · rw [Cert.PostRefIdeal.Read.val_main_v155_eq, a0, a1, a2, a3, a4, a5, a6, a7, a8, a9, a10]
      exact eq_ls m c H
    · rw [Cert.PostRefIdeal.Read.val_main_v156_eq, a0, a1, a2, a3, a4, a5, a6, a7, a8, a9, a10]
      exact eq_gf m c
    · rw [Cert.PostRefIdeal.Read.val_main_v157_eq, a0, a1, a2, a3, a4, a5, a6, a7, a8, a9, a10]
      exact eq_gg m c H

end Cert.PostIdeal.Hand

end
-- ==== Proof.lean ====
module

public import proofs.«01_k».proof.Defs
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojIdeal.Value
public import proofs.«01_k».proof.Proof.Gen.InprojRefIdeal.Run
public import proofs.«01_k».proof.Proof.Gen.InprojRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_attn
public import proofs.«01_k».proof.Proof.Gen.AttnRefIdeal.Run
public import proofs.«01_k».proof.Proof.Gen.AttnRefIdeal.Read
public import proofs.«01_k».proof.Proof.Inproj.Claim
public import proofs.«01_k».proof.Proof.Attn.Claim
public import proofs.«01_k».proof.Proof.Fwd.Claim
public import proofs.«01_k».proof.Proof.Gla.Frames
public import proofs.«01_k».proof.Proof.Latents.Claim
public import proofs.«01_k».proof.Proof.Gen.Prep
public import proofs.«01_k».proof.Proof.Gen.PrepIdeal
public import proofs.«01_k».proof.Proof.Prep.Frames
public import Idealize.ShloMosaic.Adequacy
public import Idealize.ShloMosaic.Init
public import proofs.«01_k».proof.Proof.Gen.AttnFwd
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.Pre_finite_fwd
public import proofs.«01_k».proof.Proof.Gen.Gla
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaIdeal.Value
public import proofs.«01_k».proof.Proof.Gen.Post
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.Latents
public import proofs.«01_k».proof.Proof.Gen.LatentsIdeal
public import proofs.«01_k».proof.Proof.Gen.LatentsIdeal.Skeleton
public import proofs.«01_k».proof.Proof.Gen.LatentsIdeal.Launch
public import proofs.«01_k».proof.Proof.Gen.LatentsIdeal.Points
public import proofs.«01_k».proof.Proof.Gen.LatentsIdeal.Frame
public import proofs.«01_k».proof.Proof.Gen.LatentsRefIdeal
public import proofs.«01_k».proof.Proof.Gen.LatentsIdeal.Value
public import proofs.«01_k».proof.Proof.Gen.LatentsRefIdeal.Run
public import proofs.«01_k».proof.Proof.Gen.LatentsRefIdeal.Read
public import proofs.«01_k».proof.Proof.Gen.PostRefIdeal
public import proofs.«01_k».proof.Proof.Gen.PostRefIdeal.Run
public import proofs.«01_k».proof.Proof.Gen.PostRefIdeal.Read
public import proofs.«01_k».proof.Proof.Gen.Pre_finite_post
public import proofs.«01_k».proof.Proof.Post.Claim

@[expose] public section

noncomputable section

namespace Cert.Proof

open Idealize.ShloMosaic Idealize.SL.Sem Cert.Inproj

theorem claim : Cert.Claim := ⟨Cert.Inproj.Gen.facts, Cert.InprojIdeal.Gen.facts, Cert.InprojRefIdeal.Gen.facts,
  Cert.Attn.Gen.facts, Cert.AttnIdeal.Gen.facts, Cert.AttnRefIdeal.Gen.facts,
  Cert.AttnFwd.Gen.facts, Cert.AttnFwdIdeal.Gen.facts, Cert.AttnFwdRefIdeal.Gen.facts,
  Cert.Gla.Gen.facts, Cert.GlaIdeal.Gen.facts,
  Cert.Post.Gen.facts, Cert.PostIdeal.Gen.facts, Cert.PostRefIdeal.Gen.facts,
  Cert.Latents.Gen.facts, Cert.LatentsIdeal.Gen.facts, Cert.LatentsRefIdeal.Gen.facts,
  Cert.Prep.Gen.facts, Cert.PrepIdeal.Gen.facts,
  Cert.Pre_finite_attn.Gen.facts, Cert.Pre_finite_fwd.Gen.facts,
  Cert.Pre_finite_post.Gen.facts,
  fun m ρ _ => Cert.Inproj.Gen.frame m ρ,
  fun m ρ _ => Cert.InprojIdeal.Gen.frame m ρ,
  Cert.InprojIdeal.Hand.ref_frame,
  Cert.AttnIdeal.Hand.bits_frame, Cert.AttnIdeal.Hand.ideal_frame, fun m ρ _ => Cert.AttnIdeal.Hand.ideal_frame m ρ trivial,
  Cert.AttnIdeal.Hand.ref_frame, fun m ρ _ => Cert.AttnIdeal.Hand.ref_frame m ρ trivial,
  Cert.AttnFwdIdeal.Hand.bits_frame, Cert.AttnFwdIdeal.Hand.ideal_frame,
  fun m ρ _ => Cert.AttnFwdIdeal.Hand.ideal_frame m ρ trivial,
  Cert.AttnFwdIdeal.Hand.ref_frame, fun m ρ _ => Cert.AttnFwdIdeal.Hand.ref_frame m ρ trivial,
  Cert.GlaIdeal.Hand.bits_frame, Cert.GlaIdeal.Hand.ideal_frame,
  Cert.PostIdeal.Hand.bits_frame, Cert.PostIdeal.Hand.ideal_frame,
  fun m ρ _ => Cert.PostIdeal.Hand.ideal_frame m ρ trivial,
  Cert.PostIdeal.Hand.ref_frame, fun m ρ _ => Cert.PostIdeal.Hand.ref_frame m ρ trivial,
  Cert.LatentsIdeal.Hand.bits_frame, Cert.LatentsIdeal.Hand.ideal_frame, Cert.LatentsIdeal.Hand.ref_frame,
  Cert.PrepIdeal.Hand.bits_frame, Cert.PrepIdeal.Hand.ideal_frame,
  trivial, Cert.InprojIdeal.Hand.algebraic, trivial, Cert.AttnIdeal.Hand.algebraic,
  trivial, Cert.AttnFwdIdeal.Hand.algebraic, trivial,
  trivial, Cert.PostIdeal.Hand.algebraic,
  trivial, Cert.LatentsIdeal.Hand.algebraic, trivial⟩

end Cert.Proof

end
